-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  IdealRules.named_const.Statement Cert.KernelIdeal.κ "qscale" .f32 0x3E16C740#32 (((Real.sqrt 96)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x8192x768 : Shape := ⟨3, ![8, 8192, 768]⟩
abbrev S8x8192x1024 : Shape := ⟨3, ![8, 8192, 1024]⟩
abbrev S8x8192x32 : Shape := ⟨3, ![8, 8192, 32]⟩
abbrev S_ : Shape := ⟨0, ![]⟩

class Facts : Prop where
  bcast_S_S8x8192x768 : S_.BroadcastsInDim S8x8192x768 (![] : Fin 0 → Fin S8x8192x768.rank)
  reducesTo_S8x8192x768_S_d0_1_2 : S8x8192x768.ReducesTo [0, 1, 2] S_
  h_S_ : 0 < S_.numel
  bcast_S_S8x8192x1024 : S_.BroadcastsInDim S8x8192x1024 (![] : Fin 0 → Fin S8x8192x1024.rank)
  reducesTo_S8x8192x1024_S_d0_1_2 : S8x8192x1024.ReducesTo [0, 1, 2] S_
  bcast_S_S8x8192x32 : S_.BroadcastsInDim S8x8192x32 (![] : Fin 0 → Fin S8x8192x32.rank)
  reducesTo_S8x8192x32_S_d0_1_2 : S8x8192x32.ReducesTo [0, 1, 2] S_

variable [Facts]

def fn {F : FTy → Type} [FloatOps F] (main_arg0 : FVec F S8x8192x768 .f32) (main_arg1 : FVec F S8x8192x1024 .f32) (main_arg2 : FVec F S8x8192x32 .f32) : IVec S_ 1 :=
  let main_v0 : FVec F S8x8192x768 .f32 := Host.absf main_arg0
  let main_cst : FVec F S_ .f32 := constant S_ .f32 0x7F800000#32
  let main_v1 : FVec F S8x8192x768 .f32 := broadcastInDim S8x8192x768 ![] bcast_S_S8x8192x768 main_cst
  let main_v2 : IVec S8x8192x768 1 := cmpf .olt main_v0 main_v1
  let main_c : IVec S_ 1 := constantI S_ 1 1#1
  let main_v3 : IVec S_ 1 := (fun x v => Host.reduce IntOp.andi x v reducesTo_S8x8192x768_S_d0_1_2 h_S_) main_v2 main_c
  let main_v4 : FVec F S8x8192x1024 .f32 := Host.absf main_arg1
  let main_cst_0 : FVec F S_ .f32 := constant S_ .f32 0x7F800000#32
  let main_v5 : FVec F S8x8192x1024 .f32 := broadcastInDim S8x8192x1024 ![] bcast_S_S8x8192x1024 main_cst_0
  let main_v6 : IVec S8x8192x1024 1 := cmpf .olt main_v4 main_v5
  let main_c_1 : IVec S_ 1 := constantI S_ 1 1#1
  let main_v7 : IVec S_ 1 := (fun x v => Host.reduce IntOp.andi x v reducesTo_S8x8192x1024_S_d0_1_2 h_S_) main_v6 main_c_1
  let main_v8 : IVec S_ 1 := andi main_v3 main_v7
  let main_v9 : FVec F S8x8192x32 .f32 := Host.absf main_arg2
  let main_cst_2 : FVec F S_ .f32 := constant S_ .f32 0x7F800000#32
  let main_v10 : FVec F S8x8192x32 .f32 := broadcastInDim S8x8192x32 ![] bcast_S_S8x8192x32 main_cst_2
  let main_v11 : IVec S8x8192x32 1 := cmpf .olt main_v9 main_v10
  let main_c_3 : IVec S_ 1 := constantI S_ 1 1#1
  let main_v12 : IVec S_ 1 := (fun x v => Host.reduce IntOp.andi x v reducesTo_S8x8192x32_S_d0_1_2 h_S_) main_v11 main_c_3
  let main_v13 : IVec S_ 1 := andi main_v8 main_v12
  main_v13
-- ==== Kernel.lean ====
abbrev S8x8192x768 : Shape := ⟨3, ![8, 8192, 768]⟩
abbrev S8x8192x1024 : Shape := ⟨3, ![8, 8192, 1024]⟩
abbrev S8x8192x32 : Shape := ⟨3, ![8, 8192, 32]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S1x8192x4x16 : Shape := ⟨4, ![1, 8192, 4, 16]⟩
abbrev S8192x64 : Shape := ⟨2, ![8192, 64]⟩
abbrev S8192x32 : Shape := ⟨2, ![8192, 32]⟩
abbrev S8192x128 : Shape := ⟨2, ![8192, 128]⟩
abbrev S8x8192x8x96 : Shape := ⟨4, ![8, 8192, 8, 96]⟩
abbrev S8x8192x8x32 : Shape := ⟨4, ![8, 8192, 8, 32]⟩
abbrev S8x8192x8x64 : Shape := ⟨4, ![8, 8192, 8, 64]⟩
abbrev S8x8192x8x16 : Shape := ⟨4, ![8, 8192, 8, 16]⟩
abbrev S8x8192x8x128 : Shape := ⟨4, ![8, 8192, 8, 128]⟩
abbrev S1x8192x1x128 : Shape := ⟨4, ![1, 8192, 1, 128]⟩
abbrev S65536x1024 : Shape := ⟨2, ![65536, 1024]⟩
abbrev S8x8192x64 : Shape := ⟨3, ![8, 8192, 64]⟩
abbrev S8x8192x16 : Shape := ⟨3, ![8, 8192, 16]⟩
abbrev S8x8192x128 : Shape := ⟨3, ![8, 8192, 128]⟩
abbrev S1x8192x128 : Shape := ⟨3, ![1, 8192, 128]⟩
abbrev S8x8192x1x128 : Shape := ⟨4, ![8, 8192, 1, 128]⟩
abbrev S65536x512 : Shape := ⟨2, ![65536, 512]⟩
abbrev S1024x256 : Shape := ⟨2, ![1024, 256]⟩
abbrev S8192x256 : Shape := ⟨2, ![8192, 256]⟩
abbrev S1024x128 : Shape := ⟨2, ![1024, 128]⟩
abbrev S2x1024x2048 : Shape := ⟨3, ![2, 1024, 2048]⟩
abbrev S2x1024x128 : Shape := ⟨3, ![2, 1024, 128]⟩
abbrev S2048x128 : Shape := ⟨2, ![2048, 128]⟩
abbrev S1024x2048 : Shape := ⟨2, ![1024, 2048]⟩
abbrev S1x1024x2048 : Shape := ⟨3, ![1, 1024, 2048]⟩
abbrev S1x64x2048 : Shape := ⟨3, ![1, 64, 2048]⟩
abbrev S64x2048 : Shape := ⟨2, ![64, 2048]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S1x1024x128 : Shape := ⟨3, ![1, 1024, 128]⟩
abbrev S1024x1 : Shape := ⟨2, ![1024, 1]⟩

abbrev nBuf : Space → Nat
  | .hbm => 85
  | .vmem => 13
  | .smem => 0
  | _ => 0

abbrev bufTy : (tb : Table) → Fin (tcTables nBuf tb) → BufTy
  | .hbm, ⟨0, _⟩ => ⟨S8x8192x768, .f32⟩
  | .hbm, ⟨1, _⟩ => ⟨S8x8192x1024, .f32⟩
  | .hbm, ⟨2, _⟩ => ⟨S8x8192x32, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S8192, .f32⟩
  | .hbm, ⟨12, _⟩ => ⟨S8192x1, .f32⟩
  | .hbm, ⟨13, _⟩ => ⟨S1x16, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S1x8192x1x16, .f32⟩
  | .hbm, ⟨19, _⟩ => ⟨S1x8192x4x16, .f32⟩
  | .hbm, ⟨20, _⟩ => ⟨S8192x64, .f32⟩
  | .hbm, ⟨21, _⟩ => ⟨S8192x16, .f32⟩
  | .hbm, ⟨22, _⟩ => ⟨S1x8192x1x16, .f32⟩
  | .hbm, ⟨23, _⟩ => ⟨S1x8192x4x16, .f32⟩
  | .hbm, ⟨24, _⟩ => ⟨S8192x64, .f32⟩
  | .hbm, ⟨25, _⟩ => ⟨S_, .f32⟩
  | .hbm, ⟨26, _⟩ => ⟨S8192x64, .f32⟩
  | .hbm, ⟨27, _⟩ => ⟨S_, .f32⟩
  | .hbm, ⟨28, _⟩ => ⟨S8192x64, .f32⟩
  | .hbm, ⟨29, _⟩ => ⟨S8192x32, .f32⟩
  | .hbm, ⟨30, _⟩ => ⟨S8192x32, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8x8192x8x96, .f32⟩
  | .hbm, ⟨35, _⟩ => ⟨S8x8192x8x32, .f32⟩
  | .hbm, ⟨36, _⟩ => ⟨S8x8192x8x64, .f32⟩
  | .hbm, ⟨37, _⟩ => ⟨S8x8192x8x16, .f32⟩
  | .hbm, ⟨38, _⟩ => ⟨S8x8192x8x16, .f32⟩
  | .hbm, ⟨39, _⟩ => ⟨S8x8192x8x16, .f32⟩
  | .hbm, ⟨40, _⟩ => ⟨S8x8192x8x32, .f32⟩
  | .hbm, ⟨41, _⟩ => ⟨S8x8192x8x128, .f32⟩
  | .hbm, ⟨42, _⟩ => ⟨S1x8192x1x128, .f32⟩
  | .hbm, ⟨43, _⟩ => ⟨S8x8192x8x128, .f32⟩
  | .hbm, ⟨44, _⟩ => ⟨S8x8192x8x128, .f32⟩
  | .hbm, ⟨45, _⟩ => ⟨S8x8192x8x128, .bf16⟩
  | .hbm, ⟨46, _⟩ => ⟨S65536x1024, .bf16⟩
  | .hbm, ⟨47, _⟩ => ⟨S8x8192x8x128, .f32⟩
  | .hbm, ⟨48, _⟩ => ⟨S_, .f32⟩
  | .hbm, ⟨49, _⟩ => ⟨S8x8192x64, .f32⟩
  | .hbm, ⟨50, _⟩ => ⟨S8x8192x16, .f32⟩
  | .hbm, ⟨51, _⟩ => ⟨S8x8192x16, .f32⟩
  | .hbm, ⟨52, _⟩ => ⟨S8x8192x16, .f32⟩
  | .hbm, ⟨53, _⟩ => ⟨S8x8192x32, .f32⟩
  | .hbm, ⟨54, _⟩ => ⟨S8x8192x128, .f32⟩
  | .hbm, ⟨55, _⟩ => ⟨S1x8192x128, .f32⟩
  | .hbm, ⟨56, _⟩ => ⟨S8x8192x128, .f32⟩
  | .hbm, ⟨57, _⟩ => ⟨S8x8192x128, .f32⟩
  | .hbm, ⟨58, _⟩ => ⟨S8x8192x128, .f32⟩
  | .hbm, ⟨59, _⟩ => ⟨S1x8192x128, .f32⟩
  | .hbm, ⟨60, _⟩ => ⟨S8x8192x128, .f32⟩
  | .hbm, ⟨61, _⟩ => ⟨S8x8192x128, .f32⟩
  | .hbm, ⟨62, _⟩ => ⟨S8x8192x128, .f32⟩
  | .hbm, ⟨63, _⟩ => ⟨S_, .f32⟩
  | .hbm, ⟨64, _⟩ => ⟨S8x8192x8x64, .f32⟩
  | .hbm, ⟨65, _⟩ => ⟨S8x8192x8x64, .f32⟩
  | .hbm, ⟨66, _⟩ => ⟨S8x8192x8x128, .f32⟩
  | .hbm, ⟨67, _⟩ => ⟨S8x8192x1x128, .f32⟩
  | .hbm, ⟨68, _⟩ => ⟨S8x8192x8x128, .f32⟩
  | .hbm, ⟨69, _⟩ => ⟨S8x8192x8x128, .f32⟩
  | .hbm, ⟨70, _⟩ => ⟨S8x8192x8x128, .bf16⟩
  | .hbm, ⟨71, _⟩ => ⟨S65536x1024, .bf16⟩
  | .hbm, ⟨72, _⟩ => ⟨S8x8192x8x64, .f32⟩
  | .hbm, ⟨73, _⟩ => ⟨S8x8192x8x128, .f32⟩
  | .hbm, ⟨74, _⟩ => ⟨S8x8192x8x128, .i32⟩
  | .hbm, ⟨75, _⟩ => ⟨S_, .i32⟩
  | .hbm, ⟨76, _⟩ => ⟨S8x8192x8x128, .i32⟩
  | .hbm, ⟨77, _⟩ => ⟨S8x8192x8x128, .i1⟩
  | .hbm, ⟨78, _⟩ => ⟨S_, .f32⟩
  | .hbm, ⟨79, _⟩ => ⟨S_, .f32⟩
  | .hbm, ⟨80, _⟩ => ⟨S8x8192x8x128, .f32⟩
  | .hbm, ⟨81, _⟩ => ⟨S8x8192x8x128, .f32⟩
  | .hbm, ⟨82, _⟩ => ⟨S8x8192x8x128, .bf16⟩
  | .hbm, ⟨83, _⟩ => ⟨S65536x1024, .bf16⟩
  | .hbm, ⟨84, _⟩ => ⟨S65536x512, .bf16⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S1024x128, .bf16⟩
  | .local _ .vmem, ⟨7, _⟩ => ⟨S1024x128, .bf16⟩
  | .local _ .vmem, ⟨8, _⟩ => ⟨S2x1024x2048, .f32⟩
  | .local _ .vmem, ⟨9, _⟩ => ⟨S2x1024x2048, .bf16⟩
  | .local _ .vmem, ⟨10, _⟩ => ⟨S2x1024x128, .f32⟩
  | .local _ .vmem, ⟨11, _⟩ => ⟨S2x1024x128, .f32⟩
  | .local _ .vmem, ⟨12, _⟩ => ⟨S2x1024x128, .f32⟩
  | _, _ => ⟨S8x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_c : Ref sig .tc := ⟨.hbm, 75, rfl⟩
abbrev main_v66 : Ref sig .tc := ⟨.hbm, 76, rfl⟩
abbrev main_v67 : Ref sig .tc := ⟨.hbm, 77, rfl⟩
abbrev main_cst_5 : Ref sig .tc := ⟨.hbm, 78, rfl⟩
abbrev main_call0_v0 : Ref sig .tc := ⟨.hbm, 79, rfl⟩
abbrev main_call0_v1 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_mult1 : BitVec 32 :=
  let c0_i32 : BitVec 32 := 0#32
  let c2048_i32 : BitVec 32 := 2048#32
  let v8 : BitVec 32 := Scalar.muli c0_i32 c2048_i32
  v8
def k0_off1 (c0_i32 : BitVec 32) : Fin 2 → Nat :=
  let c2048_i32 : BitVec 32 := 2048#32
  let v8 : BitVec 32 := Scalar.muli c0_i32 c2048_i32
  let v9 : BitVec 32 := v8
  let v12 : Index := Scalar.indexCast v9
  let c0_8 : Index := 0#32
  ![v12.toNat, 0]
def k0_off2 (c0_i32 : BitVec 32) : Fin 2 → Nat :=
  let c2048_i32 : BitVec 32 := 2048#32
  let v8 : BitVec 32 := Scalar.muli c0_i32 c2048_i32
  let v9 : BitVec 32 := v8
  let v23 : Index := Scalar.indexCast v9
  let c128_15 : Index := 128#32
  ![v23.toNat, 128]
def k0_mult2 : BitVec 32 :=
  let c1_i32 : BitVec 32 := 1#32
  let c2048_i32_546 : BitVec 32 := 2048#32
  let v798 : BitVec 32 := Scalar.muli c1_i32 c2048_i32_546
  v798
def k0_mult3 : BitVec 32 :=
  let c2_i32 : BitVec 32 := 2#32
  let c2048_i32_1103 : BitVec 32 := 2048#32
  let v1588 : BitVec 32 := Scalar.muli c2_i32 c2048_i32_1103
  v1588
def k0_mult4 : BitVec 32 :=
  let c3_i32 : BitVec 32 := 3#32
  let c2048_i32_1660 : BitVec 32 := 2048#32
  let v2378 : BitVec 32 := Scalar.muli c3_i32 c2048_i32_1660
  v2378
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "qscale" => some (((Real.sqrt 96)⁻¹ * (Real.log 2)⁻¹ : ℝ) : EReal)
  | _ => none
-- ==== ReferenceIdeal.lean ====
abbrev S8x8192x768 : Shape := ⟨3, ![8, 8192, 768]⟩
abbrev S8x8192x1024 : Shape := ⟨3, ![8, 8192, 1024]⟩
abbrev S8x8192x32 : Shape := ⟨3, ![8, 8192, 32]⟩
abbrev S8x8192x8x96 : Shape := ⟨4, ![8, 8192, 8, 96]⟩
abbrev S8x8192x8x64 : Shape := ⟨4, ![8, 8192, 8, 64]⟩
abbrev S8x8192x8x32 : Shape := ⟨4, ![8, 8192, 8, 32]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8x8192x8x16 : Shape := ⟨4, ![8, 8192, 8, 16]⟩
abbrev S1x8192x1x16 : Shape := ⟨4, ![1, 8192, 1, 16]⟩
abbrev S8x8192x8x128 : Shape := ⟨4, ![8, 8192, 8, 128]⟩
abbrev S8x8192x1x32 : Shape := ⟨4, ![8, 8192, 1, 32]⟩
abbrev S8x8192x1x16 : Shape := ⟨4, ![8, 8192, 1, 16]⟩
abbrev S8x8x8192x8192 : Shape := ⟨4, ![8, 8, 8192, 8192]⟩
abbrev S8x8192x8192x8 : Shape := ⟨4, ![8, 8192, 8192, 8]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩
abbrev S65536x512 : Shape := ⟨2, ![65536, 512]⟩

abbrev nBuf : Space → Nat
  | .hbm => 107
  | .vmem => 0
  | .smem => 0
  | _ => 0

abbrev bufTy : (tb : Table) → Fin (tcTables nBuf tb) → BufTy
  | .hbm, ⟨0, _⟩ => ⟨S8x8192x768, .f32⟩
  | .hbm, ⟨1, _⟩ => ⟨S8x8192x1024, .f32⟩
  | .hbm, ⟨2, _⟩ => ⟨S8x8192x32, .f32⟩
  | .hbm, ⟨3, _⟩ => ⟨S8x8192x8x96, .f32⟩
  | .hbm, ⟨4, _⟩ => ⟨S8x8192x8x64, .f32⟩
  | .hbm, ⟨5, _⟩ => ⟨S8x8192x8x32, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S8192, .f32⟩
  | .hbm, ⟨15, _⟩ => ⟨S8192x1, .f32⟩
  | .hbm, ⟨16, _⟩ => ⟨S1x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x1x16, .f32⟩
  | .hbm, ⟨22, _⟩ => ⟨S8192x16, .f32⟩
  | .hbm, ⟨23, _⟩ => ⟨S8192x1x16, .f32⟩
  | .hbm, ⟨24, _⟩ => ⟨S8x8192x8x16, .f32⟩
  | .hbm, ⟨25, _⟩ => ⟨S8x8192x8x16, .f32⟩
  | .hbm, ⟨26, _⟩ => ⟨S1x8192x1x16, .f32⟩
  | .hbm, ⟨27, _⟩ => ⟨S8x8192x8x16, .f32⟩
  | .hbm, ⟨28, _⟩ => ⟨S8x8192x8x16, .f32⟩
  | .hbm, ⟨29, _⟩ => ⟨S1x8192x1x16, .f32⟩
  | .hbm, ⟨30, _⟩ => ⟨S8x8192x8x16, .f32⟩
  | .hbm, ⟨31, _⟩ => ⟨S8x8192x8x16, .f32⟩
  | .hbm, ⟨32, _⟩ => ⟨S8x8192x8x16, .f32⟩
  | .hbm, ⟨33, _⟩ => ⟨S1x8192x1x16, .f32⟩
  | .hbm, ⟨34, _⟩ => ⟨S8x8192x8x16, .f32⟩
  | .hbm, ⟨35, _⟩ => ⟨S8x8192x8x16, .f32⟩
  | .hbm, ⟨36, _⟩ => ⟨S1x8192x1x16, .f32⟩
  | .hbm, ⟨37, _⟩ => ⟨S8x8192x8x16, .f32⟩
  | .hbm, ⟨38, _⟩ => ⟨S8x8192x8x16, .f32⟩
  | .hbm, ⟨39, _⟩ => ⟨S8x8192x8x16, .f32⟩
  | .hbm, ⟨40, _⟩ => ⟨S8x8192x8x32, .f32⟩
  | .hbm, ⟨41, _⟩ => ⟨S8x8192x8x128, .f32⟩
  | .hbm, ⟨42, _⟩ => ⟨S8x8192x8x64, .f32⟩
  | .hbm, ⟨43, _⟩ => ⟨S8x8192x8x64, .f32⟩
  | .hbm, ⟨44, _⟩ => ⟨S8x8192x1x32, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S8192, .f32⟩
  | .hbm, ⟨54, _⟩ => ⟨S8192x1, .f32⟩
  | .hbm, ⟨55, _⟩ => ⟨S1x16, .f32⟩
  | .hbm, ⟨56, _⟩ => ⟨S8192x16, .f32⟩
  | .hbm, ⟨57, _⟩ => ⟨S8192x16, .f32⟩
  | .hbm, ⟨58, _⟩ => ⟨S8192x16, .f32⟩
  | .hbm, ⟨59, _⟩ => ⟨S8192x16, .f32⟩
  | .hbm, ⟨60, _⟩ => ⟨S8192x1x16, .f32⟩
  | .hbm, ⟨61, _⟩ => ⟨S8192x16, .f32⟩
  | .hbm, ⟨62, _⟩ => ⟨S8192x1x16, .f32⟩
  | .hbm, ⟨63, _⟩ => ⟨S8x8192x1x16, .f32⟩
  | .hbm, ⟨64, _⟩ => ⟨S8x8192x1x16, .f32⟩
  | .hbm, ⟨65, _⟩ => ⟨S1x8192x1x16, .f32⟩
  | .hbm, ⟨66, _⟩ => ⟨S8x8192x1x16, .f32⟩
  | .hbm, ⟨67, _⟩ => ⟨S8x8192x1x16, .f32⟩
  | .hbm, ⟨68, _⟩ => ⟨S1x8192x1x16, .f32⟩
  | .hbm, ⟨69, _⟩ => ⟨S8x8192x1x16, .f32⟩
  | .hbm, ⟨70, _⟩ => ⟨S8x8192x1x16, .f32⟩
  | .hbm, ⟨71, _⟩ => ⟨S8x8192x1x16, .f32⟩
  | .hbm, ⟨72, _⟩ => ⟨S1x8192x1x16, .f32⟩
  | .hbm, ⟨73, _⟩ => ⟨S8x8192x1x16, .f32⟩
  | .hbm, ⟨74, _⟩ => ⟨S8x8192x1x16, .f32⟩
  | .hbm, ⟨75, _⟩ => ⟨S1x8192x1x16, .f32⟩
  | .hbm, ⟨76, _⟩ => ⟨S8x8192x1x16, .f32⟩
  | .hbm, ⟨77, _⟩ => ⟨S8x8192x1x16, .f32⟩
  | .hbm, ⟨78, _⟩ => ⟨S8x8192x1x16, .f32⟩
  | .hbm, ⟨79, _⟩ => ⟨S8x8192x1x32, .f32⟩
  | .hbm, ⟨80, _⟩ => ⟨S8x8192x32, .f32⟩
  | .hbm, ⟨81, _⟩ => ⟨S_, .f32⟩
  | .hbm, ⟨82, _⟩ => ⟨S_, .f32⟩
  | .hbm, ⟨83, _⟩ => ⟨S8x8x8192x8192, .f32⟩
  | .hbm, ⟨84, _⟩ => ⟨S8x8192x8192x8, .f32⟩
  | .hbm, ⟨85, _⟩ => ⟨S8x8x8192x8192, .f32⟩
  | .hbm, ⟨86, _⟩ => ⟨S8x8x8192x8192, .f32⟩
  | .hbm, ⟨87, _⟩ => ⟨S8x8x8192x8192, .f32⟩
  | .hbm, ⟨88, _⟩ => ⟨S8x8x8192x8192, .f32⟩
  | .hbm, ⟨89, _⟩ => ⟨S_, .f32⟩
  | .hbm, ⟨90, _⟩ => ⟨S8x8x8192, .f32⟩
  | .hbm, ⟨91, _⟩ => ⟨S_, .f32⟩
  | .hbm, ⟨92, _⟩ => ⟨S8x8x8192, .f32⟩
  | .hbm, ⟨93, _⟩ => ⟨S8x8x8192, .f32⟩
  | .hbm, ⟨94, _⟩ => ⟨S8x8x8192x1, .f32⟩
  | .hbm, ⟨95, _⟩ => ⟨S8x8x8192x8192, .f32⟩
  | .hbm, ⟨96, _⟩ => ⟨S8x8x8192x8192, .f32⟩
  | .hbm, ⟨97, _⟩ => ⟨S8x8x8192x8192, .f32⟩
  | .hbm, ⟨98, _⟩ => ⟨S_, .f32⟩
  | .hbm, ⟨99, _⟩ => ⟨S8x8x8192, .f32⟩
  | .hbm, ⟨100, _⟩ => ⟨S8x8x8192x1, .f32⟩
  | .hbm, ⟨101, _⟩ => ⟨S8x8x8192x8192, .f32⟩
  | .hbm, ⟨102, _⟩ => ⟨S8x8x8192x8192, .f32⟩
  | .hbm, ⟨103, _⟩ => ⟨S8x8x64x8192, .f32⟩
  | .hbm, ⟨104, _⟩ => ⟨S8x8192x8x64, .f32⟩
  | .hbm, ⟨105, _⟩ => ⟨S65536x512, .f32⟩
  | .hbm, ⟨106, _⟩ => ⟨S65536x512, .bf16⟩
  | _, _ => ⟨S8x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_1 : Ref sig .tc := ⟨.hbm, 47, rfl⟩
abbrev main_v42 : Ref sig .tc := ⟨.hbm, 48, rfl⟩
abbrev main_v43 : Ref sig .tc := ⟨.hbm, 49, rfl⟩
abbrev main_cst_2 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_cst_3 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_cst_4 : Ref sig .tc := ⟨.hbm, 89, rfl⟩
abbrev main_v81 : Ref sig .tc := ⟨.hbm, 90, rfl⟩
abbrev main_cst_5 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_cst_6 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x512 : Shape := ⟨3, ![8, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S65536x512 : Shape := ⟨2, ![65536, 512]⟩
abbrev S65536x1024 : Shape := ⟨2, ![65536, 1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 19
  | .vmem => 13
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S65536x512, .f32⟩
  | .hbm, ⟨9, _⟩ => ⟨S65536x512, .bf16⟩
  | .hbm, ⟨10, _⟩ => ⟨S65536x512, .f32⟩
  | .hbm, ⟨11, _⟩ => ⟨S65536x512, .bf16⟩
  | .hbm, ⟨12, _⟩ => ⟨S65536x1024, .f32⟩
  | .hbm, ⟨13, _⟩ => ⟨S1024x1024, .bf16⟩
  | .hbm, ⟨14, _⟩ => ⟨S1024x4096, .bf16⟩
  | .hbm, ⟨15, _⟩ => ⟨S4096x1024, .bf16⟩
  | .hbm, ⟨16, _⟩ => ⟨S1x1024, .f32⟩
  | .hbm, ⟨17, _⟩ => ⟨S1x1024, .f32⟩
  | .hbm, ⟨18, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x8192x1024 : Shape := ⟨3, ![8, 8192, 1024]⟩
abbrev S8x8192x512 : Shape := ⟨3, ![8, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩
abbrev S65536x1024 : Shape := ⟨2, ![65536, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S8x8192x1024, .f32⟩
  | .hbm, ⟨9, _⟩ => ⟨S8x8192x1024, .f32⟩
  | .hbm, ⟨10, _⟩ => ⟨S8x8192x1024, .f32⟩
  | .hbm, ⟨11, _⟩ => ⟨S8x8192x1024, .f32⟩
  | .hbm, ⟨12, _⟩ => ⟨S_, .f32⟩
  | .hbm, ⟨13, _⟩ => ⟨S8x8192, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S_, .f32⟩
  | .hbm, ⟨19, _⟩ => ⟨S8x8192x1, .f32⟩
  | .hbm, ⟨20, _⟩ => ⟨S8x8192x1, .f32⟩
  | .hbm, ⟨21, _⟩ => ⟨S8x8192x1, .f32⟩
  | .hbm, ⟨22, _⟩ => ⟨S8x8192x1024, .f32⟩
  | .hbm, ⟨23, _⟩ => ⟨S8x8192x1024, .f32⟩
  | .hbm, ⟨24, _⟩ => ⟨S1x1x1024, .f32⟩
  | .hbm, ⟨25, _⟩ => ⟨S8x8192x1024, .f32⟩
  | .hbm, ⟨26, _⟩ => ⟨S8x8192x1024, .f32⟩
  | .hbm, ⟨27, _⟩ => ⟨S8x8192x4096, .f32⟩
  | .hbm, ⟨28, _⟩ => ⟨S_, .f32⟩
  | .hbm, ⟨29, _⟩ => ⟨S8x8192x4096, .f32⟩
  | .hbm, ⟨30, _⟩ => ⟨S8x8192x4096, .f32⟩
  | .hbm, ⟨31, _⟩ => ⟨S8x8192x4096, .f32⟩
  | .hbm, ⟨32, _⟩ => ⟨S8x8192x1024, .f32⟩
  | .hbm, ⟨33, _⟩ => ⟨S8x8192x1024, .f32⟩
  | .hbm, ⟨34, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x8192x4x128 : Shape := ⟨4, ![8, 8192, 4, 128]⟩
abbrev S8x8192x512 : Shape := ⟨3, ![8, 8192, 512]⟩
abbrev S128 : Shape := ⟨1, ![128]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S65536x512 : Shape := ⟨2, ![65536, 512]⟩
abbrev S1x128 : Shape := ⟨2, ![1, 128]⟩
abbrev S65536x1024 : Shape := ⟨2, ![65536, 1024]⟩
abbrev S1x1024 : Shape := ⟨2, ![1, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 31
  | .vmem => 23
  | .smem => 0
  | _ => 0

abbrev bufTy : (tb : Table) → Fin (tcTables nBuf tb) → BufTy
  | .hbm, ⟨0, _⟩ => ⟨S8x8192x1024, .f32⟩
  | .hbm, ⟨1, _⟩ => ⟨S8x8192x4x128, .f32⟩
  | .hbm, ⟨2, _⟩ => ⟨S8x8192x4x128, .f32⟩
  | .hbm, ⟨3, _⟩ => ⟨S8x8192x4x128, .f32⟩
  | .hbm, ⟨4, _⟩ => ⟨S8x8192x4x128, .f32⟩
  | .hbm, ⟨5, _⟩ => ⟨S8x8192x512, .f32⟩
  | .hbm, ⟨6, _⟩ => ⟨S8x8192x512, .f32⟩
  | .hbm, ⟨7, _⟩ => ⟨S128, .f32⟩
  | .hbm, ⟨8, _⟩ => ⟨S128, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S65536x512, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S65536x512, .bf16⟩
  | .hbm, ⟨20, _⟩ => ⟨S65536x512, .f32⟩
  | .hbm, ⟨21, _⟩ => ⟨S65536x512, .bf16⟩
  | .hbm, ⟨22, _⟩ => ⟨S1x128, .f32⟩
  | .hbm, ⟨23, _⟩ => ⟨S1x128, .f32⟩
  | .hbm, ⟨24, _⟩ => ⟨S65536x1024, .f32⟩
  | .hbm, ⟨25, _⟩ => ⟨S1024x1024, .bf16⟩
  | .hbm, ⟨26, _⟩ => ⟨S1024x4096, .bf16⟩
  | .hbm, ⟨27, _⟩ => ⟨S4096x1024, .bf16⟩
  | .hbm, ⟨28, _⟩ => ⟨S1x1024, .f32⟩
  | .hbm, ⟨29, _⟩ => ⟨S1x1024, .f32⟩
  | .hbm, ⟨30, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x128, .f32⟩
  | .local _ .vmem, ⟨15, _⟩ => ⟨S1x128, .f32⟩
  | .local _ .vmem, ⟨16, _⟩ => ⟨S1024x1024, .bf16⟩
  | .local _ .vmem, ⟨17, _⟩ => ⟨S1x1024, .f32⟩
  | .local _ .vmem, ⟨18, _⟩ => ⟨S1024x4096, .bf16⟩
  | .local _ .vmem, ⟨19, _⟩ => ⟨S4096x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8x8192x1024 : Shape := ⟨3, ![8, 8192, 1024]⟩
abbrev S8x8192x4x128 : Shape := ⟨4, ![8, 8192, 4, 128]⟩
abbrev S8x8192x512 : Shape := ⟨3, ![8, 8192, 512]⟩
abbrev S128 : Shape := ⟨1, ![128]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩
abbrev S65536x1024 : Shape := ⟨2, ![65536, 1024]⟩

abbrev nBuf : Space → Nat
  | .hbm => 115
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x4x128, .f32⟩
  | .hbm, ⟨2, _⟩ => ⟨S8x8192x4x128, .f32⟩
  | .hbm, ⟨3, _⟩ => ⟨S8x8192x4x128, .f32⟩
  | .hbm, ⟨4, _⟩ => ⟨S8x8192x4x128, .f32⟩
  | .hbm, ⟨5, _⟩ => ⟨S8x8192x512, .f32⟩
  | .hbm, ⟨6, _⟩ => ⟨S8x8192x512, .f32⟩
  | .hbm, ⟨7, _⟩ => ⟨S128, .f32⟩
  | .hbm, ⟨8, _⟩ => ⟨S128, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S8x8192x4x128, .f32⟩
  | .hbm, ⟨15, _⟩ => ⟨S8x8192x4x128, .f32⟩
  | .hbm, ⟨16, _⟩ => ⟨S_, .f32⟩
  | .hbm, ⟨17, _⟩ => ⟨S8x8192x4, .f32⟩
  | .hbm, ⟨18, _⟩ => ⟨S8x8192x4x1, .f32⟩
  | .hbm, ⟨19, _⟩ => ⟨S_, .f32⟩
  | .hbm, ⟨20, _⟩ => ⟨S8x8192x4x1, .f32⟩
  | .hbm, ⟨21, _⟩ => ⟨S8x8192x4x1, .f32⟩
  | .hbm, ⟨22, _⟩ => ⟨S_, .f32⟩
  | .hbm, ⟨23, _⟩ => ⟨S8x8192x4x1, .f32⟩
  | .hbm, ⟨24, _⟩ => ⟨S8x8192x4x1, .f32⟩
  | .hbm, ⟨25, _⟩ => ⟨S8x8192x4x1, .f32⟩
  | .hbm, ⟨26, _⟩ => ⟨S8x8192x4x128, .f32⟩
  | .hbm, ⟨27, _⟩ => ⟨S8x8192x4x128, .f32⟩
  | .hbm, ⟨28, _⟩ => ⟨S1x1x1x128, .f32⟩
  | .hbm, ⟨29, _⟩ => ⟨S8x8192x4x128, .f32⟩
  | .hbm, ⟨30, _⟩ => ⟨S8x8192x4x128, .f32⟩
  | .hbm, ⟨31, _⟩ => ⟨S8x8192x4x128, .f32⟩
  | .hbm, ⟨32, _⟩ => ⟨S8x8192x4x128, .f32⟩
  | .hbm, ⟨33, _⟩ => ⟨S8x8192x4x128, .f32⟩
  | .hbm, ⟨34, _⟩ => ⟨S_, .f32⟩
  | .hbm, ⟨35, _⟩ => ⟨S8x8192x4x128, .f32⟩
  | .hbm, ⟨36, _⟩ => ⟨S8x8192x4x128, .f32⟩
  | .hbm, ⟨37, _⟩ => ⟨S_, .f32⟩
  | .hbm, ⟨38, _⟩ => ⟨S8x8192x4x128, .f32⟩
  | .hbm, ⟨39, _⟩ => ⟨S8x8192x4x128, .f32⟩
  | .hbm, ⟨40, _⟩ => ⟨S8x8192x4x128, .f32⟩
  | .hbm, ⟨41, _⟩ => ⟨S8x8192x4x128, .f32⟩
  | .hbm, ⟨42, _⟩ => ⟨S8x8192x512, .f32⟩
  | .hbm, ⟨43, _⟩ => ⟨S8x8192x4x128, .f32⟩
  | .hbm, ⟨44, _⟩ => ⟨S8x8192x4x128, .f32⟩
  | .hbm, ⟨45, _⟩ => ⟨S_, .f32⟩
  | .hbm, ⟨46, _⟩ => ⟨S8x8192x4, .f32⟩
  | .hbm, ⟨47, _⟩ => ⟨S8x8192x4x1, .f32⟩
  | .hbm, ⟨48, _⟩ => ⟨S_, .f32⟩
  | .hbm, ⟨49, _⟩ => ⟨S8x8192x4x1, .f32⟩
  | .hbm, ⟨50, _⟩ => ⟨S8x8192x4x1, .f32⟩
  | .hbm, ⟨51, _⟩ => ⟨S_, .f32⟩
  | .hbm, ⟨52, _⟩ => ⟨S8x8192x4x1, .f32⟩
  | .hbm, ⟨53, _⟩ => ⟨S8x8192x4x1, .f32⟩
  | .hbm, ⟨54, _⟩ => ⟨S8x8192x4x1, .f32⟩
  | .hbm, ⟨55, _⟩ => ⟨S8x8192x4x128, .f32⟩
  | .hbm, ⟨56, _⟩ => ⟨S8x8192x4x128, .f32⟩
  | .hbm, ⟨57, _⟩ => ⟨S1x1x1x128, .f32⟩
  | .hbm, ⟨58, _⟩ => ⟨S8x8192x4x128, .f32⟩
  | .hbm, ⟨59, _⟩ => ⟨S8x8192x4x128, .f32⟩
  | .hbm, ⟨60, _⟩ => ⟨S8x8192x4x128, .f32⟩
  | .hbm, ⟨61, _⟩ => ⟨S8x8192x4x128, .f32⟩
  | .hbm, ⟨62, _⟩ => ⟨S8x8192x4x128, .f32⟩
  | .hbm, ⟨63, _⟩ => ⟨S_, .f32⟩
  | .hbm, ⟨64, _⟩ => ⟨S8x8192x4x128, .f32⟩
  | .hbm, ⟨65, _⟩ => ⟨S8x8192x4x128, .f32⟩
  | .hbm, ⟨66, _⟩ => ⟨S_, .f32⟩
  | .hbm, ⟨67, _⟩ => ⟨S8x8192x4x128, .f32⟩
  | .hbm, ⟨68, _⟩ => ⟨S8x8192x4x128, .f32⟩
  | .hbm, ⟨69, _⟩ => ⟨S8x8192x4x128, .f32⟩
  | .hbm, ⟨70, _⟩ => ⟨S8x8192x4x128, .f32⟩
  | .hbm, ⟨71, _⟩ => ⟨S8x8192x512, .f32⟩
  | .hbm, ⟨72, _⟩ => ⟨S8x8192x1024, .f32⟩
  | .hbm, ⟨73, _⟩ => ⟨S8x8192x1024, .f32⟩
  | .hbm, ⟨74, _⟩ => ⟨S8x8192x1024, .f32⟩
  | .hbm, ⟨75, _⟩ => ⟨S8x8192x1024, .f32⟩
  | .hbm, ⟨76, _⟩ => ⟨S_, .f32⟩
  | .hbm, ⟨77, _⟩ => ⟨S8x8192, .f32⟩
  | .hbm, ⟨78, _⟩ => ⟨S8x8192x1, .f32⟩
  | .hbm, ⟨79, _⟩ => ⟨S_, .f32⟩
  | .hbm, ⟨80, _⟩ => ⟨S8x8192x1, .f32⟩
  | .hbm, ⟨81, _⟩ => ⟨S8x8192x1, .f32⟩
  | .hbm, ⟨82, _⟩ => ⟨S_, .f32⟩
  | .hbm, ⟨83, _⟩ => ⟨S8x8192x1, .f32⟩
  | .hbm, ⟨84, _⟩ => ⟨S8x8192x1, .f32⟩
  | .hbm, ⟨85, _⟩ => ⟨S8x8192x1, .f32⟩
  | .hbm, ⟨86, _⟩ => ⟨S8x8192x1024, .f32⟩
  | .hbm, ⟨87, _⟩ => ⟨S8x8192x1024, .f32⟩
  | .hbm, ⟨88, _⟩ => ⟨S1x1x1024, .f32⟩
  | .hbm, ⟨89, _⟩ => ⟨S8x8192x1024, .f32⟩
  | .hbm, ⟨90, _⟩ => ⟨S8x8192x1024, .f32⟩
  | .hbm, ⟨91, _⟩ => ⟨S8x8192x4096, .f32⟩
  | .hbm, ⟨92, _⟩ => ⟨S_, .f32⟩
  | .hbm, ⟨93, _⟩ => ⟨S8x8192x4096, .f32⟩
  | .hbm, ⟨94, _⟩ => ⟨S8x8192x4096, .f32⟩
  | .hbm, ⟨95, _⟩ => ⟨S8x8192x4096, .f32⟩
  | .hbm, ⟨96, _⟩ => ⟨S8x8192x1024, .f32⟩
  | .hbm, ⟨97, _⟩ => ⟨S8x8192x1024, .f32⟩
  | .hbm, ⟨98, _⟩ => ⟨S8x8192x1024, .f32⟩
  | .hbm, ⟨99, _⟩ => ⟨S_, .f32⟩
  | .hbm, ⟨100, _⟩ => ⟨S8x8192, .f32⟩
  | .hbm, ⟨101, _⟩ => ⟨S8x8192x1, .f32⟩
  | .hbm, ⟨102, _⟩ => ⟨S_, .f32⟩
  | .hbm, ⟨103, _⟩ => ⟨S8x8192x1, .f32⟩
  | .hbm, ⟨104, _⟩ => ⟨S8x8192x1, .f32⟩
  | .hbm, ⟨105, _⟩ => ⟨S_, .f32⟩
  | .hbm, ⟨106, _⟩ => ⟨S8x8192x1, .f32⟩
  | .hbm, ⟨107, _⟩ => ⟨S8x8192x1, .f32⟩
  | .hbm, ⟨108, _⟩ => ⟨S8x8192x1, .f32⟩
  | .hbm, ⟨109, _⟩ => ⟨S8x8192x1024, .f32⟩
  | .hbm, ⟨110, _⟩ => ⟨S8x8192x1024, .f32⟩
  | .hbm, ⟨111, _⟩ => ⟨S1x1x1024, .f32⟩
  | .hbm, ⟨112, _⟩ => ⟨S8x8192x1024, .f32⟩
  | .hbm, ⟨113, _⟩ => ⟨S8x8192x1024, .f32⟩
  | .hbm, ⟨114, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_5 : Ref sig .tc := ⟨.hbm, 76, rfl⟩
abbrev main_v40 : Ref sig .tc := ⟨.hbm, 77, rfl⟩
abbrev main_v41 : Ref sig .tc := ⟨.hbm, 78, rfl⟩
abbrev main_cst_6 : Ref sig .tc := ⟨.hbm, 79, rfl⟩
abbrev main_v42 : Ref sig .tc := ⟨.hbm, 80, rfl⟩
abbrev main_v43 : Ref sig .tc := ⟨.hbm, 81, rfl⟩
abbrev main_cst_7 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_call2_cst : Ref sig .tc := ⟨.hbm, 92, rfl⟩
abbrev main_call2_v0 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_8 : Ref sig .tc := ⟨.hbm, 99, rfl⟩
abbrev main_v58 : Ref sig .tc := ⟨.hbm, 100, rfl⟩
abbrev main_v59 : Ref sig .tc := ⟨.hbm, 101, rfl⟩
abbrev main_cst_9 : Ref sig .tc := ⟨.hbm, 102, rfl⟩
abbrev main_v60 : Ref sig .tc := ⟨.hbm, 103, rfl⟩
abbrev main_v61 : Ref sig .tc := ⟨.hbm, 104, rfl⟩
abbrev main_cst_10 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩

abbrev nD : Nat := 1
abbrev τ : Topo := Topo.v7x

variable {F : FTy → Type} [FloatOps F]
-- ==== Proof.Frames.lean ====
/- The frames of the three programs and the named constant's statement. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Flash

open Idealize.ShloMosaic Idealize.SL.Sem

/-- The kernel as printed ends with its arguments unchanged and every counter at zero. -/
theorem frame_kernel : Cert.quiescent_Kernel (hKernel := Cert.Kernel.Gen.facts) := fun m ρ _ => Cert.Kernel.Gen.frame m ρ

/-- So does the idealized kernel. -/
theorem frame_ideal : Cert.quiescent_KernelIdeal (hKernelIdeal := Cert.KernelIdeal.Gen.facts) := fun m ρ _ => Cert.KernelIdeal.Gen.frame m ρ

/-- The reference is host code alone: its run, and no counter to move. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The scale of the scores has the value its name is given. -/
theorem preserves : Cert.preserves_Kernel_KernelIdeal :=
  IdealRules.named_const.statement Cert.KernelIdeal.κ "qscale" .f32 0x3E16C740#32 _ rfl

end Cert.Flash

end
-- ==== Proof.FlashProgram.lean ====
/- The attention kernel's body as a short program: one block of sixty-four rows of one head (`piece`), one step over
   two thousand and forty-eight keys (`step`), the four steps between the initialisation and the final quotient
   (`flash`); and that the printed body, in which the blocks are written out one after the other, is this program. -/
module

public import proofs.«01_k».proof.Proof.Gen.KernelIdeal.Skeleton

@[expose] public section

set_option maxRecDepth 16384

noncomputable section

namespace Cert.KernelIdeal.Flash

open Idealize.ShloMosaic Idealize.SL.Sem Cert.KernelIdeal Cert.KernelIdeal.Gen

variable {F : FTy → Type} [FloatOps F] [Named F]

/-! ## What one block computes -/

/-- The sixty-four rows' scores, without the leading axis. -/
def rowsOf (s : Vec F S1x64x2048 .f32) : FVec F S64x2048 .f32 := shapeCast S64x2048 s shapeCasts_S1x64x2048_S64x2048

/-- The new running maximum: the old one against the largest score of the row. -/
def newMax (s : Vec F S1x64x2048 .f32) (mo : Vec F S1x64x128 .f32) : FVec F S64x128 .f32 :=
  maximumf (shapeCast S64x128 mo shapeCasts_S1x64x128_S64x128)
    (broadcastTo S64x128
      (shapeCast S64x1 (multiReduction .maximumf [1] S64 (rowsOf s) 0xFF800000#32 reduces_S64x2048_S64 (.inl rfl) rfl) shapeCasts_S64_S64x1)
      broadcasts_S64x1_S64x128)

/-- The new maximum as it is stored. -/
def storedMax (s : Vec F S1x64x2048 .f32) (mo : Vec F S1x64x128 .f32) : FVec F S1x64x128 .f32 :=
  shapeCast S1x64x128 (newMax s mo) shapeCasts_S64x128_S1x64x128

/-- The factor by which the earlier sums shrink, as it is stored. -/
def storedFactor (s : Vec F S1x64x2048 .f32) (mo : Vec F S1x64x128 .f32) : FVec F S1x64x128 .f32 :=
  shapeCast S1x64x128 (exp2 (subf (shapeCast S64x128 mo shapeCasts_S1x64x128_S64x128) (newMax s mo))) shapeCasts_S64x128_S1x64x128

/-- The new maximum laid out over the two thousand and forty-eight keys. -/
def wideMax (x : FVec F S64x128 .f32) : FVec F S64x2048 .f32 :=
  concatenate S64x2048 1 [⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩]
    concatenates_S64x128_S64x128_S64x128_S64x128_S64x128_S64x128_S64x128_S64x128_S64x128_S64x128_S64x128_S64x128_S64x128_S64x128_S64x128_S64x128_S64x2048_d1

/-- The block's weights, as they are stored. -/
def storedWeight (s : Vec F S1x64x2048 .f32) (mo : Vec F S1x64x128 .f32) : FVec F S1x64x2048 .bf16 :=
  shapeCast S1x64x2048 (truncf .bf16 (exp2 (subf (rowsOf s) (wideMax (newMax s mo)))) bitsLt_bf16_f32) shapeCasts_S64x2048_S1x64x2048

/-- One head's scores against the step's keys, as they are stored. -/
def scores (q : Vec F S1024x128 .bf16) (k : Vec F S2048x128 .bf16) : FVec F S1x1024x2048 .f32 :=
  shapeCast S1x1024x2048
    (mulf (matmul dot_S1024x128_S2048x128_S1024x2048_1_1_0_0_n_n none (shapeCast S1024x128 q shapeCasts_S1024x128_S1024x128)
        (shapeCast S2048x128 k shapeCasts_S2048x128_S2048x128) (constant S1024x2048 .f32 0x00000000#32))
      (broadcast S1024x2048 (Named.named κ "qscale" 0x3E16C740#32)))
    shapeCasts_S1024x2048_S1x1024x2048

/-- One head's sums after the step. -/
def sums (a acc : Vec F S1x1024x128 .f32) (p : Vec F S1x1024x2048 .bf16) (v : Vec F S2048x128 .bf16) : FVec F S1x1024x128 .f32 :=
  shapeCast S1x1024x128
    (addf (mulf (shapeCast S1024x128 a shapeCasts_S1x1024x128_S1024x128) (shapeCast S1024x128 acc shapeCasts_S1x1024x128_S1024x128))
      (matmul dot_S1024x2048_S2048x128_S1024x128_1_0_0_1_n_n none (shapeCast S1024x2048 p shapeCasts_S1x1024x2048_S1024x2048)
        (shapeCast S2048x128 v shapeCasts_S2048x128_S2048x128) (constant S1024x128 .f32 0x00000000#32)))
    shapeCasts_S1024x128_S1x1024x128

/-- One head's quotient: every lane over lane 64. -/
def quotient (acc : Vec F S1x1024x128 .f32) : FVec F S1024x128 .f32 :=
  divf (shapeCast S1024x128 acc shapeCasts_S1x1024x128_S1024x128)
    (broadcastTo S1024x128 (extractStridedSlice S1024x1 ![0, 64] (shapeCast S1024x128 acc shapeCasts_S1x1024x128_S1024x128) slices_S1024x128_o0_64_S1024x1)
      broadcasts_S1024x1_S1024x128)

/-- The output block: the first head's quotient in the first sixty-four lanes, the second's in the others. -/
def merged (acc0 acc1 : Vec F S1x1024x128 .f32) : FVec F S1024x128 .bf16 :=
  truncf .bf16
    (select (cmpi .slt (iota .tc S1024x128 32 [1] iota_S1024x128_d1_w32) (broadcast S1024x128 64#32))
      (quotient acc0) (dynamicRotate 1 64#32 none (quotient acc1) rotates_S1024x128_d1)) bitsLt_bf16_f32

/-! ## Where the blocks lie -/

theorem rows_inb {e r : ℕ} (he : e < 2) (hr : r < 16) (a : Fin 3) : (![e, 64 * r, 0] : Fin 3 → ℕ) a + S1x64x2048.size a ≤ S2x1024x2048.size a := by
  fin_cases a <;> simp [S1x64x2048, S2x1024x2048] <;> omega

theorem lanes_inb {e r : ℕ} (he : e < 2) (hr : r < 16) (a : Fin 3) : (![e, 64 * r, 0] : Fin 3 → ℕ) a + S1x64x128.size a ≤ S2x1024x128.size a := by
  fin_cases a <;> simp [S1x64x128, S2x1024x128] <;> omega

theorem head_rows_inb {e : ℕ} (he : e < 2) (a : Fin 3) : (![e, 0, 0] : Fin 3 → ℕ) a + S1x1024x2048.size a ≤ S2x1024x2048.size a := by
  fin_cases a <;> simp [S1x1024x2048, S2x1024x2048] <;> omega

theorem head_lanes_inb {e : ℕ} (he : e < 2) (a : Fin 3) : (![e, 0, 0] : Fin 3 → ℕ) a + S1x1024x128.size a ≤ S2x1024x128.size a := by
  fin_cases a <;> simp [S1x1024x128, S2x1024x128] <;> omega

theorem query_inb {e : ℕ} (he : e < 2) (a : Fin 2) : (![0, 128 * e] : Fin 2 → ℕ) a + S1024x128.size a ≤ S1024x256.size a := by
  fin_cases a <;> simp [S1024x128, S1024x256] <;> omega

theorem keys_inb {e j : ℕ} (he : e < 2) (hj : j < 4) (a : Fin 2) : (![2048 * j, 128 * e] : Fin 2 → ℕ) a + S2048x128.size a ≤ S8192x256.size a := by
  fin_cases a <;> simp [S2048x128, S8192x256] <;> omega

theorem rows_packed {e r : ℕ} (he : e < 2) (hr : r < 16) :
    (Rect.unit (s := S2x1024x2048) ![e, 64 * r, 0] S1x64x2048.size (rows_inb he hr)).PackedRows (EltTy.packing .bf16) := by
  refine .inr ⟨by decide, rfl, .inl ⟨?_, ?_⟩⟩
  · show 2 ∣ 64 * r
    omega
  · show 2 ∣ 64
    omega

/-! ## The program -/

variable (arg3 : Memref sig .tc .vmem S1024x256 .bf16) (arg4 arg5 : Memref sig .tc .vmem S8192x256 .bf16)
  (arg6 : Memref sig .tc .vmem S1024x128 .bf16) (harg6 : arg6.IsWhole) (arg7 : Memref sig .tc .vmem S2x1024x2048 .f32)
  (arg8 : Memref sig .tc .vmem S2x1024x2048 .bf16) (harg8 : arg8.IsWhole) (arg9 arg10 arg11 : Memref sig .tc .vmem S2x1024x128 .f32)

/-- The body's programs. -/
abbrev Body (F : FTy → Type) := Prog (TpuEff nD τ sig (Elt F) Λ₀ .tc) PUnit

/-- Sixty-four rows of one head, after their scores and old maxima are read: the new maximum and the factor are
    stored, and the weights are what is left to store. -/
def pieceMid {e r : ℕ} (he : e < 2) (hr : r < 16) (s : Vec F S1x64x2048 .f32) (mo : Vec F S1x64x128 .f32) :
    Prog (TpuEff nD τ sig (Elt F) Λ₀ .tc) (FVec F S1x64x2048 .bf16) := do
  let _ : Vec F S1x64x128 .f32 ← Prog.lift (.load arg9 (Rect.unit (s := S2x1024x128) ![e, 64 * r, 0] S1x64x128.size (lanes_inb he hr)).toLoadRect (View.loadsAt_vmem h_S1x64x128))
  Prog.lift (.store arg9 (Rect.unit (s := S2x1024x128) ![e, 64 * r, 0] S1x64x128.size (lanes_inb he hr)) (storedMax s mo) Finset.univ (View.stores_vmem_bits_univ h_S1x64x128 rfl) (.inl rfl))
  let _ : Vec F S1x64x128 .f32 ← Prog.lift (.load arg10 (Rect.unit (s := S2x1024x128) ![e, 64 * r, 0] S1x64x128.size (lanes_inb he hr)).toLoadRect (View.loadsAt_vmem h_S1x64x128))
  Prog.lift (.store arg10 (Rect.unit (s := S2x1024x128) ![e, 64 * r, 0] S1x64x128.size (lanes_inb he hr)) (storedFactor s mo) Finset.univ (View.stores_vmem_bits_univ h_S1x64x128 rfl) (.inl rfl))
  let _ : Vec F S1x64x2048 .bf16 ← Prog.lift (.load arg8 (Rect.unit (s := S2x1024x2048) ![e, 64 * r, 0] S1x64x2048.size (rows_inb he hr)).toLoadRect (View.loadsAt_vmem h_S1x64x2048))
  pure (storedWeight s mo)

/-- The weights of sixty-four rows are stored. -/
def pieceTail {e r : ℕ} (he : e < 2) (hr : r < 16) (w : FVec F S1x64x2048 .bf16) : Body F :=
  Prog.lift (.store arg8 (Rect.unit (s := S2x1024x2048) ![e, 64 * r, 0] S1x64x2048.size (rows_inb he hr)) w Finset.univ (View.stores_vmem h_S1x64x2048 (harg8.storeExact_slice rfl _ (rows_packed he hr)) (fun _ => rfl)) (.inl rfl))

/-- Sixty-four rows of one head, after their scores and old maxima are read. -/
def pieceRest {e r : ℕ} (he : e < 2) (hr : r < 16) (s : Vec F S1x64x2048 .f32) (mo : Vec F S1x64x128 .f32) : Body F := do
  let w ← pieceMid arg8 arg9 arg10 he hr s mo
  pieceTail arg8 harg8 he hr w

/-- The scores and the old maxima of sixty-four rows are read. -/
def pieceRead {α : Type} {e r : ℕ} (he : e < 2) (hr : r < 16) (K : Vec F S1x64x2048 .f32 → Vec F S1x64x128 .f32 → Prog (TpuEff nD τ sig (Elt F) Λ₀ .tc) α) :
    Prog (TpuEff nD τ sig (Elt F) Λ₀ .tc) α := do
  let s : Vec F S1x64x2048 .f32 ← Prog.lift (.load arg7 (Rect.unit (s := S2x1024x2048) ![e, 64 * r, 0] S1x64x2048.size (rows_inb he hr)).toLoadRect (View.loadsAt_vmem h_S1x64x2048))
  let mo : Vec F S1x64x128 .f32 ← Prog.lift (.load arg9 (Rect.unit (s := S2x1024x128) ![e, 64 * r, 0] S1x64x128.size (lanes_inb he hr)).toLoadRect (View.loadsAt_vmem h_S1x64x128))
  K s mo

/-- Sixty-four rows of one head: the new maximum, the factor and the weights. -/
def piece {e r : ℕ} (he : e < 2) (hr : r < 16) : Body F :=
  pieceRead arg7 arg9 he hr (pieceRest arg8 harg8 arg9 arg10 he hr)

/-- The same without the last store. -/
def pieceHead {e r : ℕ} (he : e < 2) (hr : r < 16) : Prog (TpuEff nD τ sig (Elt F) Λ₀ .tc) (FVec F S1x64x2048 .bf16) :=
  pieceRead arg7 arg9 he hr (pieceMid arg8 arg9 arg10 he hr)

/-- `n` blocks of sixty-four rows, from block `a` on. -/
def pieces {e : ℕ} (he : e < 2) : (n a : ℕ) → a + n ≤ 16 → Body F
  | 0, _, _ => pure ⟨⟩
  | n + 1, a, h => do
    piece arg7 arg8 harg8 arg9 arg10 he (r := a) (by omega)
    pieces he n (a + 1) (by omega)

/-- One head's scores of the step. -/
def score {e j : ℕ} (he : e < 2) (hj : j < 4) : Body F := do
  let q : Vec F S1024x128 .bf16 ← Prog.lift (.load arg3 (Rect.unit (s := S1024x256) ![0, 128 * e] S1024x128.size (query_inb he)).toLoadRect (View.loadsAt_vmem h_S1024x128))
  let k : Vec F S2048x128 .bf16 ← Prog.lift (.load arg4 (Rect.unit (s := S8192x256) ![2048 * j, 128 * e] S2048x128.size (keys_inb he hj)).toLoadRect (View.loadsAt_vmem h_S2048x128))
  let _ : Vec F S1x1024x2048 .f32 ← Prog.lift (.load arg7 (Rect.unit (s := S2x1024x2048) ![e, 0, 0] S1x1024x2048.size (head_rows_inb he)).toLoadRect (View.loadsAt_vmem h_S1x1024x2048))
  Prog.lift (.store arg7 (Rect.unit (s := S2x1024x2048) ![e, 0, 0] S1x1024x2048.size (head_rows_inb he)) (scores q k) Finset.univ (View.stores_vmem_bits_univ h_S1x1024x2048 rfl) (.inl rfl))

/-- One head's sums of the step. -/
def accumulate {e j : ℕ} (he : e < 2) (hj : j < 4) : Body F := do
  let a : Vec F S1x1024x128 .f32 ← Prog.lift (.load arg10 (Rect.unit (s := S2x1024x128) ![e, 0, 0] S1x1024x128.size (head_lanes_inb he)).toLoadRect (View.loadsAt_vmem h_S1x1024x128))
  let acc : Vec F S1x1024x128 .f32 ← Prog.lift (.load arg11 (Rect.unit (s := S2x1024x128) ![e, 0, 0] S1x1024x128.size (head_lanes_inb he)).toLoadRect (View.loadsAt_vmem h_S1x1024x128))
  let p : Vec F S1x1024x2048 .bf16 ← Prog.lift (.load arg8 (Rect.unit (s := S2x1024x2048) ![e, 0, 0] S1x1024x2048.size (head_rows_inb he)).toLoadRect (View.loadsAt_vmem h_S1x1024x2048))
  let v : Vec F S2048x128 .bf16 ← Prog.lift (.load arg5 (Rect.unit (s := S8192x256) ![2048 * j, 128 * e] S2048x128.size (keys_inb he hj)).toLoadRect (View.loadsAt_vmem h_S2048x128))
  let _ : Vec F S1x1024x128 .f32 ← Prog.lift (.load arg11 (Rect.unit (s := S2x1024x128) ![e, 0, 0] S1x1024x128.size (head_lanes_inb he)).toLoadRect (View.loadsAt_vmem h_S1x1024x128))
  Prog.lift (.store arg11 (Rect.unit (s := S2x1024x128) ![e, 0, 0] S1x1024x128.size (head_lanes_inb he)) (sums a acc p v) Finset.univ (View.stores_vmem_bits_univ h_S1x1024x128 rfl) (.inl rfl))

/-- One step: both heads' scores, then each head's blocks and sums. -/
def step {j : ℕ} (hj : j < 4) : Body F := do
  score arg3 arg4 arg7 (e := 0) (by omega) hj
  score arg3 arg4 arg7 (e := 1) (by omega) hj
  pieces arg7 arg8 harg8 arg9 arg10 (e := 0) (by omega) 16 0 (by omega)
  accumulate arg5 arg8 arg10 arg11 (e := 0) (by omega) hj
  pieces arg7 arg8 harg8 arg9 arg10 (e := 1) (by omega) 16 0 (by omega)
  accumulate arg5 arg8 arg10 arg11 (e := 1) (by omega) hj

/-- The value the maxima start from, as it is stored. -/
def startMax : FVec F S2x1024x128 .f32 :=
  shapeCast S2x1024x128 (broadcast S2x1024x128 (Scalar.ofBits .f32 0xFF800000#32 : F .f32)) shapeCasts_S2x1024x128_S2x1024x128

/-- The value the sums start from, as it is stored. -/
def startSum : FVec F S2x1024x128 .f32 :=
  shapeCast S2x1024x128 (broadcast S2x1024x128 (Scalar.ofBits .f32 0x00000000#32 : F .f32)) shapeCasts_S2x1024x128_S2x1024x128

/-- The initial maxima and sums. -/
def start : Body F := do
  let _ : Vec F S2x1024x128 .f32 ← Prog.lift (.load arg9 (Rect.unit (s := S2x1024x128) ![0, 0, 0] S2x1024x128.size inb_S2x1024x128_S2x1024x128_0_0_0).toLoadRect (View.loadsAt_vmem h_S2x1024x128))
  Prog.lift (.store arg9 (Rect.unit (s := S2x1024x128) ![0, 0, 0] S2x1024x128.size inb_S2x1024x128_S2x1024x128_0_0_0) startMax Finset.univ (View.stores_vmem_bits_univ h_S2x1024x128 rfl) (.inl rfl))
  let _ : Vec F S2x1024x128 .f32 ← Prog.lift (.load arg11 (Rect.unit (s := S2x1024x128) ![0, 0, 0] S2x1024x128.size inb_S2x1024x128_S2x1024x128_0_0_0).toLoadRect (View.loadsAt_vmem h_S2x1024x128))
  Prog.lift (.store arg11 (Rect.unit (s := S2x1024x128) ![0, 0, 0] S2x1024x128.size inb_S2x1024x128_S2x1024x128_0_0_0) startSum Finset.univ (View.stores_vmem_bits_univ h_S2x1024x128 rfl) (.inl rfl))

/-- The output block from the sums. -/
def finish : Body F := do
  let x0 : Vec F S1x1024x128 .f32 ← Prog.lift (.load arg11 (Rect.unit (s := S2x1024x128) ![0, 0, 0] S1x1024x128.size (head_lanes_inb (e := 0) (by omega))).toLoadRect (View.loadsAt_vmem h_S1x1024x128))
  let x1 : Vec F S1x1024x128 .f32 ← Prog.lift (.load arg11 (Rect.unit (s := S2x1024x128) ![1, 0, 0] S1x1024x128.size (head_lanes_inb (e := 1) (by omega))).toLoadRect (View.loadsAt_vmem h_S1x1024x128))
  let _ : Vec F S1024x128 .bf16 ← Prog.lift (.load arg6 (Rect.unit (s := S1024x128) ![0, 0] S1024x128.size inb_S1024x128_S1024x128_0_0).toLoadRect (View.loadsAt_vmem h_S1024x128))
  Prog.lift (.store arg6 (Rect.unit (s := S1024x128) ![0, 0] S1024x128.size inb_S1024x128_S1024x128_0_0) (merged x0 x1) Finset.univ (View.stores_vmem h_S1024x128 (harg6.storeExact_slice rfl _ packedbf16_S1024x128_S1024x128_0_0) (fun _ => rfl)) (.inl rfl))

/-- The whole body: the start, four steps over the keys, the quotients. -/
def flash : Body F := do
  start arg9 arg11
  step arg3 arg4 arg5 arg7 arg8 harg8 arg9 arg10 arg11 (j := 0) (by omega)
  step arg3 arg4 arg5 arg7 arg8 harg8 arg9 arg10 arg11 (j := 1) (by omega)
  step arg3 arg4 arg5 arg7 arg8 harg8 arg9 arg10 arg11 (j := 2) (by omega)
  step arg3 arg4 arg5 arg7 arg8 harg8 arg9 arg10 arg11 (j := 3) (by omega)
  finish arg6 harg6 arg11

end Cert.KernelIdeal.Flash
end
-- ==== Proof.FlashSame.lean ====
/- The printed body is the short program: the segments its windows make up. -/
module

public import proofs.«01_k».proof.Proof.FlashProgram
public import Idealize.ShloMosaic.Lib.Tactic

@[expose] public section

set_option maxRecDepth 100000
set_option maxHeartbeats 0

noncomputable section

namespace Cert.KernelIdeal.Flash

open Idealize.ShloMosaic Idealize.SL.Sem Cert.KernelIdeal Cert.KernelIdeal.Gen

variable {F : FTy → Type} [FloatOps F] [Named F] {α : Type}
variable (i : grid0.Coords) (arg3 : Memref sig .tc .vmem S1024x256 .bf16) (harg3 : arg3.IsWhole)
    (arg4 : Memref sig .tc .vmem S8192x256 .bf16) (harg4 : arg4.IsWhole) (arg5 : Memref sig .tc .vmem S8192x256 .bf16) (harg5 : arg5.IsWhole)
    (arg6 : Memref sig .tc .vmem S1024x128 .bf16) (harg6 : arg6.IsWhole) (arg7 : Memref sig .tc .vmem S2x1024x2048 .f32) (harg7 : arg7.IsWhole)
    (arg8 : Memref sig .tc .vmem S2x1024x2048 .bf16) (harg8 : arg8.IsWhole) (arg9 : Memref sig .tc .vmem S2x1024x128 .f32) (harg9 : arg9.IsWhole)
    (arg10 : Memref sig .tc .vmem S2x1024x128 .f32) (harg10 : arg10.IsWhole) (arg11 : Memref sig .tc .vmem S2x1024x128 .f32) (harg11 : arg11.IsWhole)

/-- The kernel's programs with a result. -/
abbrev Part (F : FTy → Type) (α : Type) := Prog (TpuEff nD τ sig (Elt F) Λ₀ .tc) α

/-- Windows 1 to 6 of the printed body, as a program over the blocks. -/
def seg1  : Part F (PUnit) := do
    start arg9 arg11
    score arg3 arg4 arg7 (e := 0) (j := 0) (by omega) (by omega)
    score arg3 arg4 arg7 (e := 1) (j := 0) (by omega) (by omega)
    pieces arg7 arg8 harg8 arg9 arg10 (e := 0) (by omega) 7 0 (by omega)

/-- Windows 7 to 17 of the printed body, as a program over the blocks. -/
def seg2  : Part F (PUnit) := do
    pieces arg7 arg8 harg8 arg9 arg10 (e := 0) (by omega) 9 7 (by omega)
    accumulate arg5 arg8 arg10 arg11 (e := 0) (j := 0) (by omega) (by omega)
    pieces arg7 arg8 harg8 arg9 arg10 (e := 1) (by omega) 6 0 (by omega)

/-- Windows 18 to 24 of the printed body, as a program over the blocks. -/
def seg3  : Part F (PUnit) := do
    pieces arg7 arg8 harg8 arg9 arg10 (e := 1) (by omega) 10 6 (by omega)

/-- Windows 25 to 35 of the printed body, as a program over the blocks. -/
def seg4  : Part F (FVec F S1x64x2048 .bf16) := do
    accumulate arg5 arg8 arg10 arg11 (e := 1) (j := 0) (by omega) (by omega)
    score arg3 arg4 arg7 (e := 0) (j := 1) (by omega) (by omega)
    score arg3 arg4 arg7 (e := 1) (j := 1) (by omega) (by omega)
    pieces arg7 arg8 harg8 arg9 arg10 (e := 0) (by omega) 13 0 (by omega)
    pieceHead arg7 arg8 arg9 arg10 (e := 0) (r := 13) (by omega) (by omega)

/-- Windows 36 to 46 of the printed body, as a program over the blocks. -/
def seg5  (v1143 : FVec F S1x64x2048 .bf16) : Part F (FVec F S1x64x2048 .bf16) := do
    pieceTail arg8 harg8 (e := 0) (r := 13) (by omega) (by omega) v1143
    pieces arg7 arg8 harg8 arg9 arg10 (e := 0) (by omega) 2 14 (by omega)
    accumulate arg5 arg8 arg10 arg11 (e := 0) (j := 1) (by omega) (by omega)
    pieces arg7 arg8 harg8 arg9 arg10 (e := 1) (by omega) 12 0 (by omega)
    pieceHead arg7 arg8 arg9 arg10 (e := 1) (r := 12) (by omega) (by omega)

/-- Windows 47 to 55 of the printed body, as a program over the blocks. -/
def seg6  (v1503 : FVec F S1x64x2048 .bf16) : Part F (PUnit) := do
    pieceTail arg8 harg8 (e := 1) (r := 12) (by omega) (by omega) v1503
    pieces arg7 arg8 harg8 arg9 arg10 (e := 1) (by omega) 3 13 (by omega)
    accumulate arg5 arg8 arg10 arg11 (e := 1) (j := 1) (by omega) (by omega)
    score arg3 arg4 arg7 (e := 0) (j := 2) (by omega) (by omega)
    score arg3 arg4 arg7 (e := 1) (j := 2) (by omega) (by omega)
    pieces arg7 arg8 harg8 arg9 arg10 (e := 0) (by omega) 8 0 (by omega)

/-- Windows 56 to 60 of the printed body, as a program over the blocks. -/
def seg7  : Part F (PUnit) := do
    pieces arg7 arg8 harg8 arg9 arg10 (e := 0) (by omega) 7 8 (by omega)

/-- Windows 61 to 66 of the printed body, as a program over the blocks. -/
def seg8  (s : Vec F S1x64x2048 .f32) (v1959 : Vec F S1x64x128 .f32) : Part F (PUnit) := do
    pieceRest arg8 harg8 arg9 arg10 (e := 0) (r := 15) (by omega) (by omega) s v1959
    accumulate arg5 arg8 arg10 arg11 (e := 0) (j := 2) (by omega) (by omega)
    pieces arg7 arg8 harg8 arg9 arg10 (e := 1) (by omega) 7 0 (by omega)

/-- Windows 67 to 77 of the printed body, as a program over the blocks. -/
def seg9  : Part F (PUnit) := do
    pieces arg7 arg8 harg8 arg9 arg10 (e := 1) (by omega) 9 7 (by omega)
    accumulate arg5 arg8 arg10 arg11 (e := 1) (j := 2) (by omega) (by omega)
    score arg3 arg4 arg7 (e := 0) (j := 3) (by omega) (by omega)
    score arg3 arg4 arg7 (e := 1) (j := 3) (by omega) (by omega)
    pieces arg7 arg8 harg8 arg9 arg10 (e := 0) (by omega) 5 0 (by omega)

/-- Windows 78 to 84 of the printed body, as a program over the blocks. -/
def seg10  : Part F (PUnit) := do
    pieces arg7 arg8 harg8 arg9 arg10 (e := 0) (by omega) 10 5 (by omega)

/-- Windows 85 to 88 of the printed body, as a program over the blocks. -/
def seg11  : Part F (PUnit) := do
    pieces arg7 arg8 harg8 arg9 arg10 (e := 0) (by omega) 1 15 (by omega)
    accumulate arg5 arg8 arg10 arg11 (e := 0) (j := 3) (by omega) (by omega)
    pieces arg7 arg8 harg8 arg9 arg10 (e := 1) (by omega) 4 0 (by omega)

/-- Windows 89 to 95 of the printed body, as a program over the blocks. -/
def seg12  : Part F (PUnit) := do
    pieces arg7 arg8 harg8 arg9 arg10 (e := 1) (by omega) 10 4 (by omega)

/-- The last windows, as a program over the blocks. -/
def seg13 : Body F := do
    pieces arg7 arg8 harg8 arg9 arg10 (e := 1) (by omega) 2 14 (by omega)
    accumulate arg5 arg8 arg10 arg11 (e := 1) (j := 3) (by omega) (by omega)
    finish arg6 harg6 arg11

end Cert.KernelIdeal.Flash
end
-- ==== Proof.FlashWhole.lean ====
/- The printed body is the short program: the windows one after the other. -/
module

public import proofs.«01_k».proof.Proof.FlashSame
public import Idealize.ShloMosaic.Lib.Tactic

@[expose] public section

set_option maxRecDepth 100000
set_option maxHeartbeats 0

noncomputable section

namespace Cert.KernelIdeal.Flash

open Idealize.ShloMosaic Idealize.SL.Sem Cert.KernelIdeal Cert.KernelIdeal.Gen

variable {F : FTy → Type} [FloatOps F] [Named F] {α : Type}
variable (i : grid0.Coords) (arg3 : Memref sig .tc .vmem S1024x256 .bf16) (harg3 : arg3.IsWhole)
    (arg4 : Memref sig .tc .vmem S8192x256 .bf16) (harg4 : arg4.IsWhole) (arg5 : Memref sig .tc .vmem S8192x256 .bf16) (harg5 : arg5.IsWhole)
    (arg6 : Memref sig .tc .vmem S1024x128 .bf16) (harg6 : arg6.IsWhole) (arg7 : Memref sig .tc .vmem S2x1024x2048 .f32) (harg7 : arg7.IsWhole)
    (arg8 : Memref sig .tc .vmem S2x1024x2048 .bf16) (harg8 : arg8.IsWhole) (arg9 : Memref sig .tc .vmem S2x1024x128 .f32) (harg9 : arg9.IsWhole)
    (arg10 : Memref sig .tc .vmem S2x1024x128 .f32) (harg10 : arg10.IsWhole) (arg11 : Memref sig .tc .vmem S2x1024x128 .f32) (harg11 : arg11.IsWhole)

/-- Windows 56 to 60 and what they hand on. -/
def rest7 (v1589 : BitVec 32) : Part F (Σ' (v1589 : BitVec 32) (v1958 : FVec F S64x2048 .f32), Vec F S1x64x128 .f32) := do
  let ⟨v1820, v1822, v1826, v1829⟩ : Σ' (v1820 : FVec F S64x2048 .f32) (v1822 : FVec F S64x128 .f32) (v1826 : FVec F S64x128 .f32), FVec F S1x64x128 .f32 ← k0_part56 i arg3 harg3 arg4 harg4 arg5 harg5 arg6 harg6 arg7 harg7 arg8 harg8 arg9 harg9 arg10 harg10 arg11 harg11
  let ⟨v1861, v1862⟩ : Σ' (v1861 : FVec F S64x2048 .bf16), Vec F S1x64x2048 .bf16 ← k0_part57 i arg3 harg3 arg4 harg4 arg5 harg5 arg6 harg6 arg7 harg7 arg8 harg8 arg9 harg9 arg10 harg10 arg11 harg11 v1820 v1822 v1826 v1829
  let ⟨v1889, v1891, v1895⟩ : Σ' (v1889 : FVec F S64x2048 .f32) (v1891 : FVec F S64x128 .f32), FVec F S64x128 .f32 ← k0_part58 i arg3 harg3 arg4 harg4 arg5 harg5 arg6 harg6 arg7 harg7 arg8 harg8 arg9 harg9 arg10 harg10 arg11 harg11 v1861 v1862
  let v1928 : FVec F S64x2048 .f32 ← k0_part59 i arg3 harg3 arg4 harg4 arg5 harg5 arg6 harg6 arg7 harg7 arg8 harg8 arg9 harg9 arg10 harg10 arg11 harg11 v1889 v1891 v1895
  let ⟨v1958, v1959⟩ : Σ' (v1958 : FVec F S64x2048 .f32), Vec F S1x64x128 .f32 ← k0_part60 i arg3 harg3 arg4 harg4 arg5 harg5 arg6 harg6 arg7 harg7 arg8 harg8 arg9 harg9 arg10 harg10 arg11 harg11 v1928
  pure ⟨v1589, v1958, v1959⟩

/-- From window 47 on, to window 60. -/
def rest6 (v799 : BitVec 32) (v1503 : FVec F S1x64x2048 .bf16) : Part F (Σ' (v1589 : BitVec 32) (v1958 : FVec F S64x2048 .f32), Vec F S1x64x128 .f32) := do
  let ⟨v1528, v1530, v1534⟩ : Σ' (v1528 : FVec F S64x2048 .f32) (v1530 : FVec F S64x128 .f32), FVec F S64x128 .f32 ← k0_part47 i arg3 harg3 arg4 harg4 arg5 harg5 arg6 harg6 arg7 harg7 arg8 harg8 arg9 harg9 arg10 harg10 arg11 harg11 v1503
  let v1569 : FVec F S64x2048 .bf16 ← k0_part48 i arg3 harg3 arg4 harg4 arg5 harg5 arg6 harg6 arg7 harg7 arg8 harg8 arg9 harg9 arg10 harg10 arg11 harg11 v1528 v1530 v1534
  let ⟨v1589, v1600⟩ : Σ' (v1589 : BitVec 32), FVec F S1x1024x2048 .f32 ← k0_part49 i arg3 harg3 arg4 harg4 arg5 harg5 arg6 harg6 arg7 harg7 arg8 harg8 arg9 harg9 arg10 harg10 arg11 harg11 v799 v1569
  let ⟨v1631, v1632⟩ : Σ' (v1631 : FVec F S64x2048 .bf16), Vec F S1x64x2048 .bf16 ← k0_part50 i arg3 harg3 arg4 harg4 arg5 harg5 arg6 harg6 arg7 harg7 arg8 harg8 arg9 harg9 arg10 harg10 arg11 harg11 v1589 v1600
  let ⟨v1659, v1661, v1665⟩ : Σ' (v1659 : FVec F S64x2048 .f32) (v1661 : FVec F S64x128 .f32), FVec F S64x128 .f32 ← k0_part51 i arg3 harg3 arg4 harg4 arg5 harg5 arg6 harg6 arg7 harg7 arg8 harg8 arg9 harg9 arg10 harg10 arg11 harg11 v1631 v1632
  let v1698 : FVec F S64x2048 .f32 ← k0_part52 i arg3 harg3 arg4 harg4 arg5 harg5 arg6 harg6 arg7 harg7 arg8 harg8 arg9 harg9 arg10 harg10 arg11 harg11 v1659 v1661 v1665
  let ⟨v1728, v1729⟩ : Σ' (v1728 : FVec F S64x2048 .f32), Vec F S1x64x128 .f32 ← k0_part53 i arg3 harg3 arg4 harg4 arg5 harg5 arg6 harg6 arg7 harg7 arg8 harg8 arg9 harg9 arg10 harg10 arg11 harg11 v1698
  let ⟨v1751, v1757, v1762⟩ : Σ' (v1751 : FVec F S64x2048 .f32) (v1757 : FVec F S64x128 .f32), FVec F S64x128 .f32 ← k0_part54 i arg3 harg3 arg4 harg4 arg5 harg5 arg6 harg6 arg7 harg7 arg8 harg8 arg9 harg9 arg10 harg10 arg11 harg11 v1728 v1729
  k0_part55 i arg3 harg3 arg4 harg4 arg5 harg5 arg6 harg6 arg7 harg7 arg8 harg8 arg9 harg9 arg10 harg10 arg11 harg11 v1751 v1757 v1762
  rest7 i arg3 harg3 arg4 harg4 arg5 harg5 arg6 harg6 arg7 harg7 arg8 harg8 arg9 harg9 arg10 harg10 arg11 harg11 v1589

/-- From window 36 on, to window 60. -/
def rest5 (v799 : BitVec 32) (v1143 : FVec F S1x64x2048 .bf16) : Part F (Σ' (v1589 : BitVec 32) (v1958 : FVec F S64x2048 .f32), Vec F S1x64x128 .f32) := do
  let ⟨v1168, v1170, v1174⟩ : Σ' (v1168 : FVec F S64x2048 .f32) (v1170 : FVec F S64x128 .f32), FVec F S64x128 .f32 ← k0_part36 i arg3 harg3 arg4 harg4 arg5 harg5 arg6 harg6 arg7 harg7 arg8 harg8 arg9 harg9 arg10 harg10 arg11 harg11 v1143
  let v1206 : FVec F S64x2048 .f32 ← k0_part37 i arg3 harg3 arg4 harg4 arg5 harg5 arg6 harg6 arg7 harg7 arg8 harg8 arg9 harg9 arg10 harg10 arg11 harg11 v799 v1168 v1170 v1174
  let ⟨v1229, v1235, v1239⟩ : Σ' (v1229 : FVec F S64x2048 .f32) (v1235 : FVec F S64x128 .f32), FVec F S64x128 .f32 ← k0_part38 i arg3 harg3 arg4 harg4 arg5 harg5 arg6 harg6 arg7 harg7 arg8 harg8 arg9 harg9 arg10 harg10 arg11 harg11 v1206
  let v1273 : FVec F S1x64x2048 .bf16 ← k0_part39 i arg3 harg3 arg4 harg4 arg5 harg5 arg6 harg6 arg7 harg7 arg8 harg8 arg9 harg9 arg10 harg10 arg11 harg11 v1229 v1235 v1239
  let ⟨v1298, v1300, v1304⟩ : Σ' (v1298 : FVec F S64x2048 .f32) (v1300 : FVec F S64x128 .f32), FVec F S64x128 .f32 ← k0_part40 i arg3 harg3 arg4 harg4 arg5 harg5 arg6 harg6 arg7 harg7 arg8 harg8 arg9 harg9 arg10 harg10 arg11 harg11 v1273
  let v1339 : FVec F S64x2048 .bf16 ← k0_part41 i arg3 harg3 arg4 harg4 arg5 harg5 arg6 harg6 arg7 harg7 arg8 harg8 arg9 harg9 arg10 harg10 arg11 harg11 v1298 v1300 v1304
  let ⟨v1367, v1369⟩ : Σ' (v1367 : FVec F S64x2048 .f32), FVec F S64x128 .f32 ← k0_part42 i arg3 harg3 arg4 harg4 arg5 harg5 arg6 harg6 arg7 harg7 arg8 harg8 arg9 harg9 arg10 harg10 arg11 harg11 v1339
  let ⟨v1390, v1396, v1401⟩ : Σ' (v1390 : FVec F S64x2048 .f32) (v1396 : FVec F S64x128 .f32), FVec F S64x128 .f32 ← k0_part43 i arg3 harg3 arg4 harg4 arg5 harg5 arg6 harg6 arg7 harg7 arg8 harg8 arg9 harg9 arg10 harg10 arg11 harg11 v1367 v1369
  let v1436 : FVec F S64x2048 .f32 ← k0_part44 i arg3 harg3 arg4 harg4 arg5 harg5 arg6 harg6 arg7 harg7 arg8 harg8 arg9 harg9 arg10 harg10 arg11 harg11 v1390 v1396 v1401
  let ⟨v1459, v1465, v1469⟩ : Σ' (v1459 : FVec F S64x2048 .f32) (v1465 : FVec F S64x128 .f32), FVec F S64x128 .f32 ← k0_part45 i arg3 harg3 arg4 harg4 arg5 harg5 arg6 harg6 arg7 harg7 arg8 harg8 arg9 harg9 arg10 harg10 arg11 harg11 v1436
  let v1503 : FVec F S1x64x2048 .bf16 ← k0_part46 i arg3 harg3 arg4 harg4 arg5 harg5 arg6 harg6 arg7 harg7 arg8 harg8 arg9 harg9 arg10 harg10 arg11 harg11 v1459 v1465 v1469
  rest6 i arg3 harg3 arg4 harg4 arg5 harg5 arg6 harg6 arg7 harg7 arg8 harg8 arg9 harg9 arg10 harg10 arg11 harg11 v799 v1503

/-- From window 25 on, to window 60. -/
def rest4 (v9 : BitVec 32) : Part F (Σ' (v1589 : BitVec 32) (v1958 : FVec F S64x2048 .f32), Vec F S1x64x128 .f32) := do
  let ⟨v799, v812, v814⟩ : Σ' (v799 : BitVec 32) (v812 : FVec F S1024x128 .bf16), Vec F S2048x128 .bf16 ← k0_part25 i arg3 harg3 arg4 harg4 arg5 harg5 arg6 harg6 arg7 harg7 arg8 harg8 arg9 harg9 arg10 harg10 arg11 harg11 v9
  let v846 : FVec F S64x2048 .f32 ← k0_part26 i arg3 harg3 arg4 harg4 arg5 harg5 arg6 harg6 arg7 harg7 arg8 harg8 arg9 harg9 arg10 harg10 arg11 harg11 v812 v814
  let ⟨v869, v875, v879⟩ : Σ' (v869 : FVec F S64x2048 .f32) (v875 : FVec F S64x128 .f32), FVec F S64x128 .f32 ← k0_part27 i arg3 harg3 arg4 harg4 arg5 harg5 arg6 harg6 arg7 harg7 arg8 harg8 arg9 harg9 arg10 harg10 arg11 harg11 v846
  let v913 : FVec F S1x64x2048 .bf16 ← k0_part28 i arg3 harg3 arg4 harg4 arg5 harg5 arg6 harg6 arg7 harg7 arg8 harg8 arg9 harg9 arg10 harg10 arg11 harg11 v869 v875 v879
  let ⟨v938, v940, v944⟩ : Σ' (v938 : FVec F S64x2048 .f32) (v940 : FVec F S64x128 .f32), FVec F S64x128 .f32 ← k0_part29 i arg3 harg3 arg4 harg4 arg5 harg5 arg6 harg6 arg7 harg7 arg8 harg8 arg9 harg9 arg10 harg10 arg11 harg11 v913
  let v979 : FVec F S64x2048 .bf16 ← k0_part30 i arg3 harg3 arg4 harg4 arg5 harg5 arg6 harg6 arg7 harg7 arg8 harg8 arg9 harg9 arg10 harg10 arg11 harg11 v938 v940 v944
  let ⟨v1007, v1009⟩ : Σ' (v1007 : FVec F S64x2048 .f32), FVec F S64x128 .f32 ← k0_part31 i arg3 harg3 arg4 harg4 arg5 harg5 arg6 harg6 arg7 harg7 arg8 harg8 arg9 harg9 arg10 harg10 arg11 harg11 v979
  let ⟨v1030, v1036, v1041⟩ : Σ' (v1030 : FVec F S64x2048 .f32) (v1036 : FVec F S64x128 .f32), FVec F S64x128 .f32 ← k0_part32 i arg3 harg3 arg4 harg4 arg5 harg5 arg6 harg6 arg7 harg7 arg8 harg8 arg9 harg9 arg10 harg10 arg11 harg11 v1007 v1009
  let v1076 : FVec F S64x2048 .f32 ← k0_part33 i arg3 harg3 arg4 harg4 arg5 harg5 arg6 harg6 arg7 harg7 arg8 harg8 arg9 harg9 arg10 harg10 arg11 harg11 v1030 v1036 v1041
  let ⟨v1099, v1105, v1109⟩ : Σ' (v1099 : FVec F S64x2048 .f32) (v1105 : FVec F S64x128 .f32), FVec F S64x128 .f32 ← k0_part34 i arg3 harg3 arg4 harg4 arg5 harg5 arg6 harg6 arg7 harg7 arg8 harg8 arg9 harg9 arg10 harg10 arg11 harg11 v1076
  let v1143 : FVec F S1x64x2048 .bf16 ← k0_part35 i arg3 harg3 arg4 harg4 arg5 harg5 arg6 harg6 arg7 harg7 arg8 harg8 arg9 harg9 arg10 harg10 arg11 harg11 v1099 v1105 v1109
  rest5 i arg3 harg3 arg4 harg4 arg5 harg5 arg6 harg6 arg7 harg7 arg8 harg8 arg9 harg9 arg10 harg10 arg11 harg11 v799 v1143

/-- From window 18 on, to window 60. -/
def rest3 (v9 : BitVec 32) : Part F (Σ' (v1589 : BitVec 32) (v1958 : FVec F S64x2048 .f32), Vec F S1x64x128 .f32) := do
  let ⟨v577, v579, v583, v584⟩ : Σ' (v577 : FVec F S64x2048 .f32) (v579 : FVec F S64x128 .f32) (v583 : FVec F S64x128 .f32), Vec F S1x64x128 .f32 ← k0_part18 i arg3 harg3 arg4 harg4 arg5 harg5 arg6 harg6 arg7 harg7 arg8 harg8 arg9 harg9 arg10 harg10 arg11 harg11
  let v618 : FVec F S64x2048 .bf16 ← k0_part19 i arg3 harg3 arg4 harg4 arg5 harg5 arg6 harg6 arg7 harg7 arg8 harg8 arg9 harg9 arg10 harg10 arg11 harg11 v577 v579 v583 v584
  let ⟨v646, v648, v650⟩ : Σ' (v646 : FVec F S64x2048 .f32) (v648 : FVec F S64x128 .f32), FVec F S64x1 .f32 ← k0_part20 i arg3 harg3 arg4 harg4 arg5 harg5 arg6 harg6 arg7 harg7 arg8 harg8 arg9 harg9 arg10 harg10 arg11 harg11 v618
  let ⟨v669, v675⟩ : Σ' (v669 : FVec F S64x2048 .f32), FVec F S64x128 .f32 ← k0_part21 i arg3 harg3 arg4 harg4 arg5 harg5 arg6 harg6 arg7 harg7 arg8 harg8 arg9 harg9 arg10 harg10 arg11 harg11 v646 v648 v650
  let v715 : FVec F S64x2048 .f32 ← k0_part22 i arg3 harg3 arg4 harg4 arg5 harg5 arg6 harg6 arg7 harg7 arg8 harg8 arg9 harg9 arg10 harg10 arg11 harg11 v669 v675
  let ⟨v738, v744, v749⟩ : Σ' (v738 : FVec F S64x2048 .f32) (v744 : FVec F S64x128 .f32), FVec F S64x128 .f32 ← k0_part23 i arg3 harg3 arg4 harg4 arg5 harg5 arg6 harg6 arg7 harg7 arg8 harg8 arg9 harg9 arg10 harg10 arg11 harg11 v715
  k0_part24 i arg3 harg3 arg4 harg4 arg5 harg5 arg6 harg6 arg7 harg7 arg8 harg8 arg9 harg9 arg10 harg10 arg11 harg11 v738 v744 v749
  rest4 i arg3 harg3 arg4 harg4 arg5 harg5 arg6 harg6 arg7 harg7 arg8 harg8 arg9 harg9 arg10 harg10 arg11 harg11 v9

/-- From window 7 on, to window 60. -/
def rest2 (v9 : BitVec 32) : Part F (Σ' (v1589 : BitVec 32) (v1958 : FVec F S64x2048 .f32), Vec F S1x64x128 .f32) := do
  let ⟨v217, v219, v223, v224⟩ : Σ' (v217 : FVec F S64x2048 .f32) (v219 : FVec F S64x128 .f32) (v223 : FVec F S64x128 .f32), Vec F S1x64x128 .f32 ← k0_part7 i arg3 harg3 arg4 harg4 arg5 harg5 arg6 harg6 arg7 harg7 arg8 harg8 arg9 harg9 arg10 harg10 arg11 harg11
  let v258 : FVec F S64x2048 .bf16 ← k0_part8 i arg3 harg3 arg4 harg4 arg5 harg5 arg6 harg6 arg7 harg7 arg8 harg8 arg9 harg9 arg10 harg10 arg11 harg11 v217 v219 v223 v224
  let ⟨v286, v288, v290⟩ : Σ' (v286 : FVec F S64x2048 .f32) (v288 : FVec F S64x128 .f32), FVec F S64x1 .f32 ← k0_part9 i arg3 harg3 arg4 harg4 arg5 harg5 arg6 harg6 arg7 harg7 arg8 harg8 arg9 harg9 arg10 harg10 arg11 harg11 v258
  let ⟨v309, v315⟩ : Σ' (v309 : FVec F S64x2048 .f32), FVec F S64x128 .f32 ← k0_part10 i arg3 harg3 arg4 harg4 arg5 harg5 arg6 harg6 arg7 harg7 arg8 harg8 arg9 harg9 arg10 harg10 arg11 harg11 v286 v288 v290
  let v355 : FVec F S64x2048 .f32 ← k0_part11 i arg3 harg3 arg4 harg4 arg5 harg5 arg6 harg6 arg7 harg7 arg8 harg8 arg9 harg9 arg10 harg10 arg11 harg11 v309 v315
  let ⟨v378, v384, v389⟩ : Σ' (v378 : FVec F S64x2048 .f32) (v384 : FVec F S64x128 .f32), FVec F S64x128 .f32 ← k0_part12 i arg3 harg3 arg4 harg4 arg5 harg5 arg6 harg6 arg7 harg7 arg8 harg8 arg9 harg9 arg10 harg10 arg11 harg11 v355
  let ⟨v416, v418, v420⟩ : Σ' (v416 : FVec F S64x2048 .f32) (v418 : FVec F S64x128 .f32), FVec F S64x1 .f32 ← k0_part13 i arg3 harg3 arg4 harg4 arg5 harg5 arg6 harg6 arg7 harg7 arg8 harg8 arg9 harg9 arg10 harg10 arg11 harg11 v9 v378 v384 v389
  let ⟨v439, v445⟩ : Σ' (v439 : FVec F S64x2048 .f32), FVec F S64x128 .f32 ← k0_part14 i arg3 harg3 arg4 harg4 arg5 harg5 arg6 harg6 arg7 harg7 arg8 harg8 arg9 harg9 arg10 harg10 arg11 harg11 v416 v418 v420
  let v485 : FVec F S64x2048 .f32 ← k0_part15 i arg3 harg3 arg4 harg4 arg5 harg5 arg6 harg6 arg7 harg7 arg8 harg8 arg9 harg9 arg10 harg10 arg11 harg11 v439 v445
  let ⟨v508, v514, v519⟩ : Σ' (v508 : FVec F S64x2048 .f32) (v514 : FVec F S64x128 .f32), FVec F S64x128 .f32 ← k0_part16 i arg3 harg3 arg4 harg4 arg5 harg5 arg6 harg6 arg7 harg7 arg8 harg8 arg9 harg9 arg10 harg10 arg11 harg11 v485
  k0_part17 i arg3 harg3 arg4 harg4 arg5 harg5 arg6 harg6 arg7 harg7 arg8 harg8 arg9 harg9 arg10 harg10 arg11 harg11 v508 v514 v519
  rest3 i arg3 harg3 arg4 harg4 arg5 harg5 arg6 harg6 arg7 harg7 arg8 harg8 arg9 harg9 arg10 harg10 arg11 harg11 v9

/-- From window 1 on, to window 60. -/
def rest1  : Part F (Σ' (v1589 : BitVec 32) (v1958 : FVec F S64x2048 .f32), Vec F S1x64x128 .f32) := do
  let ⟨v9, v28⟩ : Σ' (v9 : BitVec 32), FVec F S1024x2048 .f32 ← k0_part1 i arg3 harg3 arg4 harg4 arg5 harg5 arg6 harg6 arg7 harg7 arg8 harg8 arg9 harg9 arg10 harg10 arg11 harg11
  let ⟨v56, v58, v60⟩ : Σ' (v56 : FVec F S64x2048 .f32) (v58 : FVec F S64x128 .f32), FVec F S64x1 .f32 ← k0_part2 i arg3 harg3 arg4 harg4 arg5 harg5 arg6 harg6 arg7 harg7 arg8 harg8 arg9 harg9 arg10 harg10 arg11 harg11 v28
  let ⟨v79, v85⟩ : Σ' (v79 : FVec F S64x2048 .f32), FVec F S64x128 .f32 ← k0_part3 i arg3 harg3 arg4 harg4 arg5 harg5 arg6 harg6 arg7 harg7 arg8 harg8 arg9 harg9 arg10 harg10 arg11 harg11 v56 v58 v60
  let v125 : FVec F S64x2048 .f32 ← k0_part4 i arg3 harg3 arg4 harg4 arg5 harg5 arg6 harg6 arg7 harg7 arg8 harg8 arg9 harg9 arg10 harg10 arg11 harg11 v79 v85
  let ⟨v148, v154, v159⟩ : Σ' (v148 : FVec F S64x2048 .f32) (v154 : FVec F S64x128 .f32), FVec F S64x128 .f32 ← k0_part5 i arg3 harg3 arg4 harg4 arg5 harg5 arg6 harg6 arg7 harg7 arg8 harg8 arg9 harg9 arg10 harg10 arg11 harg11 v125
  k0_part6 i arg3 harg3 arg4 harg4 arg5 harg5 arg6 harg6 arg7 harg7 arg8 harg8 arg9 harg9 arg10 harg10 arg11 harg11 v148 v154 v159
  rest2 i arg3 harg3 arg4 harg4 arg5 harg5 arg6 harg6 arg7 harg7 arg8 harg8 arg9 harg9 arg10 harg10 arg11 harg11 v9

/-- From window 96 on, to the end. -/
def rest13 (v2379 : BitVec 32) : Body F := do
  let ⟨v3131, v3133, v3137, v3138⟩ : Σ' (v3131 : FVec F S64x2048 .f32) (v3133 : FVec F S64x128 .f32) (v3137 : FVec F S64x128 .f32), Vec F S1x64x128 .f32 ← k0_part96 i arg3 harg3 arg4 harg4 arg5 harg5 arg6 harg6 arg7 harg7 arg8 harg8 arg9 harg9 arg10 harg10 arg11 harg11
  let ⟨v3169, v3170⟩ : Σ' (v3169 : FVec F S1024x128 .f32), FVec F S1024x1 .f32 ← k0_part97 i arg3 harg3 arg4 harg4 arg5 harg5 arg6 harg6 arg7 harg7 arg8 harg8 arg9 harg9 arg10 harg10 arg11 harg11 v2379 v3131 v3133 v3137 v3138
  have v3171 : FVec F S1024x128 .f32 := broadcastTo S1024x128 v3170 broadcasts_S1024x1_S1024x128
  have v3172 : FVec F S1024x128 .f32 := divf v3169 v3171
  let c1_2220 : Index := 1#32
  let c0_2221 : Index := 0#32
  let c0_2222 : Index := 0#32
  let v3173 : Vec F S1x1024x128 .f32 ← Prog.lift (.load arg11 (Rect.unit (s := S2x1024x128) ![1, 0, 0] S1x1024x128.size inb_S2x1024x128_S1x1024x128_1_0_0).toLoadRect (View.loadsAt_vmem h_S1x1024x128))
  have v3174 : FVec F S1024x128 .f32 := shapeCast S1024x128 v3173 shapeCasts_S1x1024x128_S1024x128
  have v3175 : FVec F S1024x1 .f32 := extractStridedSlice S1024x1 ![0, 64] v3174 slices_S1024x128_o0_64_S1024x1
  have v3176 : FVec F S1024x128 .f32 := broadcastTo S1024x128 v3175 broadcasts_S1024x1_S1024x128
  have v3177 : FVec F S1024x128 .f32 := divf v3174 v3176
  have v3178 : IVec S1024x128 32 := iota .tc S1024x128 32 [1] iota_S1024x128_d1_w32
  let c64_i32 : BitVec 32 := 64#32
  have v3179 : IVec S1024x128 32 := broadcast S1024x128 c64_i32
  have v3180 : IVec S1024x128 1 := cmpi .slt v3178 v3179
  let c64_i32_2223 : BitVec 32 := 64#32
  have v3181 : FVec F S1024x128 .f32 := dynamicRotate 1 c64_i32_2223 none v3177 rotates_S1024x128_d1
  have v3182 : FVec F S1024x128 .f32 := select v3180 v3172 v3181
  have v3183 : FVec F S1024x128 .bf16 := truncf .bf16 v3182 bitsLt_bf16_f32
  let c0_2224 : Index := 0#32
  let c0_2225 : Index := 0#32
  let v3184 : Vec F S1024x128 .bf16 ← Prog.lift (.load arg6 (Rect.unit (s := S1024x128) ![0, 0] S1024x128.size inb_S1024x128_S1024x128_0_0).toLoadRect (View.loadsAt_vmem h_S1024x128))
  Prog.lift (.store arg6 (Rect.unit (s := S1024x128) ![0, 0] S1024x128.size inb_S1024x128_S1024x128_0_0) v3183 Finset.univ (View.stores_vmem h_S1024x128 (harg6.storeExact_slice rfl _ packedbf16_S1024x128_S1024x128_0_0) (fun _ => rfl)) (.inl rfl))
  pure ⟨⟩

/-- From window 89 on, to the end. -/
def rest12 (v2379 : BitVec 32) : Body F := do
  let ⟨v2901, v2903, v2907, v2908⟩ : Σ' (v2901 : FVec F S64x2048 .f32) (v2903 : FVec F S64x128 .f32) (v2907 : FVec F S64x128 .f32), Vec F S1x64x128 .f32 ← k0_part89 i arg3 harg3 arg4 harg4 arg5 harg5 arg6 harg6 arg7 harg7 arg8 harg8 arg9 harg9 arg10 harg10 arg11 harg11
  let v2942 : FVec F S64x2048 .bf16 ← k0_part90 i arg3 harg3 arg4 harg4 arg5 harg5 arg6 harg6 arg7 harg7 arg8 harg8 arg9 harg9 arg10 harg10 arg11 harg11 v2901 v2903 v2907 v2908
  let ⟨v2970, v2972, v2974⟩ : Σ' (v2970 : FVec F S64x2048 .f32) (v2972 : FVec F S64x128 .f32), FVec F S64x1 .f32 ← k0_part91 i arg3 harg3 arg4 harg4 arg5 harg5 arg6 harg6 arg7 harg7 arg8 harg8 arg9 harg9 arg10 harg10 arg11 harg11 v2942
  let ⟨v2993, v2999⟩ : Σ' (v2993 : FVec F S64x2048 .f32), FVec F S64x128 .f32 ← k0_part92 i arg3 harg3 arg4 harg4 arg5 harg5 arg6 harg6 arg7 harg7 arg8 harg8 arg9 harg9 arg10 harg10 arg11 harg11 v2970 v2972 v2974
  let v3039 : FVec F S64x2048 .f32 ← k0_part93 i arg3 harg3 arg4 harg4 arg5 harg5 arg6 harg6 arg7 harg7 arg8 harg8 arg9 harg9 arg10 harg10 arg11 harg11 v2993 v2999
  let ⟨v3062, v3068, v3073⟩ : Σ' (v3062 : FVec F S64x2048 .f32) (v3068 : FVec F S64x128 .f32), FVec F S64x128 .f32 ← k0_part94 i arg3 harg3 arg4 harg4 arg5 harg5 arg6 harg6 arg7 harg7 arg8 harg8 arg9 harg9 arg10 harg10 arg11 harg11 v3039
  k0_part95 i arg3 harg3 arg4 harg4 arg5 harg5 arg6 harg6 arg7 harg7 arg8 harg8 arg9 harg9 arg10 harg10 arg11 harg11 v3062 v3068 v3073
  rest13 i arg3 harg3 arg4 harg4 arg5 harg5 arg6 harg6 arg7 harg7 arg8 harg8 arg9 harg9 arg10 harg10 arg11 harg11 v2379

/-- From window 85 on, to the end. -/
def rest11 (v2379 : BitVec 32) : Body F := do
  let ⟨v2774, v2776, v2778⟩ : Σ' (v2774 : FVec F S1024x128 .f32) (v2776 : FVec F S1024x2048 .bf16), Vec F S2048x128 .bf16 ← k0_part85 i arg3 harg3 arg4 harg4 arg5 harg5 arg6 harg6 arg7 harg7 arg8 harg8 arg9 harg9 arg10 harg10 arg11 harg11 v2379
  let v2809 : FVec F S64x2048 .f32 ← k0_part86 i arg3 harg3 arg4 harg4 arg5 harg5 arg6 harg6 arg7 harg7 arg8 harg8 arg9 harg9 arg10 harg10 arg11 harg11 v2774 v2776 v2778
  let ⟨v2832, v2838, v2843⟩ : Σ' (v2832 : FVec F S64x2048 .f32) (v2838 : FVec F S64x128 .f32), FVec F S64x128 .f32 ← k0_part87 i arg3 harg3 arg4 harg4 arg5 harg5 arg6 harg6 arg7 harg7 arg8 harg8 arg9 harg9 arg10 harg10 arg11 harg11 v2809
  k0_part88 i arg3 harg3 arg4 harg4 arg5 harg5 arg6 harg6 arg7 harg7 arg8 harg8 arg9 harg9 arg10 harg10 arg11 harg11 v2832 v2838 v2843
  rest12 i arg3 harg3 arg4 harg4 arg5 harg5 arg6 harg6 arg7 harg7 arg8 harg8 arg9 harg9 arg10 harg10 arg11 harg11 v2379

/-- From window 78 on, to the end. -/
def rest10 (v2379 : BitVec 32) : Body F := do
  let ⟨v2541, v2543, v2547, v2548⟩ : Σ' (v2541 : FVec F S64x2048 .f32) (v2543 : FVec F S64x128 .f32) (v2547 : FVec F S64x128 .f32), Vec F S1x64x128 .f32 ← k0_part78 i arg3 harg3 arg4 harg4 arg5 harg5 arg6 harg6 arg7 harg7 arg8 harg8 arg9 harg9 arg10 harg10 arg11 harg11
  let v2582 : FVec F S64x2048 .bf16 ← k0_part79 i arg3 harg3 arg4 harg4 arg5 harg5 arg6 harg6 arg7 harg7 arg8 harg8 arg9 harg9 arg10 harg10 arg11 harg11 v2541 v2543 v2547 v2548
  let ⟨v2610, v2612, v2614⟩ : Σ' (v2610 : FVec F S64x2048 .f32) (v2612 : FVec F S64x128 .f32), FVec F S64x1 .f32 ← k0_part80 i arg3 harg3 arg4 harg4 arg5 harg5 arg6 harg6 arg7 harg7 arg8 harg8 arg9 harg9 arg10 harg10 arg11 harg11 v2582
  let ⟨v2633, v2639⟩ : Σ' (v2633 : FVec F S64x2048 .f32), FVec F S64x128 .f32 ← k0_part81 i arg3 harg3 arg4 harg4 arg5 harg5 arg6 harg6 arg7 harg7 arg8 harg8 arg9 harg9 arg10 harg10 arg11 harg11 v2610 v2612 v2614
  let v2679 : FVec F S64x2048 .f32 ← k0_part82 i arg3 harg3 arg4 harg4 arg5 harg5 arg6 harg6 arg7 harg7 arg8 harg8 arg9 harg9 arg10 harg10 arg11 harg11 v2633 v2639
  let ⟨v2702, v2708, v2713⟩ : Σ' (v2702 : FVec F S64x2048 .f32) (v2708 : FVec F S64x128 .f32), FVec F S64x128 .f32 ← k0_part83 i arg3 harg3 arg4 harg4 arg5 harg5 arg6 harg6 arg7 harg7 arg8 harg8 arg9 harg9 arg10 harg10 arg11 harg11 v2679
  k0_part84 i arg3 harg3 arg4 harg4 arg5 harg5 arg6 harg6 arg7 harg7 arg8 harg8 arg9 harg9 arg10 harg10 arg11 harg11 v2702 v2708 v2713
  rest11 i arg3 harg3 arg4 harg4 arg5 harg5 arg6 harg6 arg7 harg7 arg8 harg8 arg9 harg9 arg10 harg10 arg11 harg11 v2379

/-- From window 67 on, to the end. -/
def rest9 (v1589 : BitVec 32) : Body F := do
  let ⟨v2180, v2182, v2186, v2189⟩ : Σ' (v2180 : FVec F S64x2048 .f32) (v2182 : FVec F S64x128 .f32) (v2186 : FVec F S64x128 .f32), FVec F S1x64x128 .f32 ← k0_part67 i arg3 harg3 arg4 harg4 arg5 harg5 arg6 harg6 arg7 harg7 arg8 harg8 arg9 harg9 arg10 harg10 arg11 harg11
  let ⟨v2221, v2222⟩ : Σ' (v2221 : FVec F S64x2048 .bf16), Vec F S1x64x2048 .bf16 ← k0_part68 i arg3 harg3 arg4 harg4 arg5 harg5 arg6 harg6 arg7 harg7 arg8 harg8 arg9 harg9 arg10 harg10 arg11 harg11 v2180 v2182 v2186 v2189
  let ⟨v2249, v2251, v2255⟩ : Σ' (v2249 : FVec F S64x2048 .f32) (v2251 : FVec F S64x128 .f32), FVec F S64x128 .f32 ← k0_part69 i arg3 harg3 arg4 harg4 arg5 harg5 arg6 harg6 arg7 harg7 arg8 harg8 arg9 harg9 arg10 harg10 arg11 harg11 v2221 v2222
  let v2288 : FVec F S64x2048 .f32 ← k0_part70 i arg3 harg3 arg4 harg4 arg5 harg5 arg6 harg6 arg7 harg7 arg8 harg8 arg9 harg9 arg10 harg10 arg11 harg11 v2249 v2251 v2255
  let ⟨v2318, v2319⟩ : Σ' (v2318 : FVec F S64x2048 .f32), Vec F S1x64x128 .f32 ← k0_part71 i arg3 harg3 arg4 harg4 arg5 harg5 arg6 harg6 arg7 harg7 arg8 harg8 arg9 harg9 arg10 harg10 arg11 harg11 v2288
  let ⟨v2341, v2347, v2352⟩ : Σ' (v2341 : FVec F S64x2048 .f32) (v2347 : FVec F S64x128 .f32), FVec F S64x128 .f32 ← k0_part72 i arg3 harg3 arg4 harg4 arg5 harg5 arg6 harg6 arg7 harg7 arg8 harg8 arg9 harg9 arg10 harg10 arg11 harg11 v2318 v2319
  let ⟨v2379, v2385, cst_1665⟩ : Σ' (v2379 : BitVec 32) (v2385 : FVec F S1024x2048 .f32), F .f32 ← k0_part73 i arg3 harg3 arg4 harg4 arg5 harg5 arg6 harg6 arg7 harg7 arg8 harg8 arg9 harg9 arg10 harg10 arg11 harg11 v1589 v2341 v2347 v2352
  let ⟨v2403, v2409⟩ : Σ' (v2403 : FVec F S64x2048 .f32), FVec F S64x128 .f32 ← k0_part74 i arg3 harg3 arg4 harg4 arg5 harg5 arg6 harg6 arg7 harg7 arg8 harg8 arg9 harg9 arg10 harg10 arg11 harg11 v2379 v2385 cst_1665
  let v2449 : FVec F S64x2048 .f32 ← k0_part75 i arg3 harg3 arg4 harg4 arg5 harg5 arg6 harg6 arg7 harg7 arg8 harg8 arg9 harg9 arg10 harg10 arg11 harg11 v2403 v2409
  let ⟨v2472, v2478, v2483⟩ : Σ' (v2472 : FVec F S64x2048 .f32) (v2478 : FVec F S64x128 .f32), FVec F S64x128 .f32 ← k0_part76 i arg3 harg3 arg4 harg4 arg5 harg5 arg6 harg6 arg7 harg7 arg8 harg8 arg9 harg9 arg10 harg10 arg11 harg11 v2449
  k0_part77 i arg3 harg3 arg4 harg4 arg5 harg5 arg6 harg6 arg7 harg7 arg8 harg8 arg9 harg9 arg10 harg10 arg11 harg11 v2472 v2478 v2483
  rest10 i arg3 harg3 arg4 harg4 arg5 harg5 arg6 harg6 arg7 harg7 arg8 harg8 arg9 harg9 arg10 harg10 arg11 harg11 v2379

/-- From window 61 on, to the end. -/
def rest8 (v1589 : BitVec 32) (v1958 : FVec F S64x2048 .f32) (v1959 : Vec F S1x64x128 .f32) : Body F := do
  let ⟨v1991, v1992⟩ : Σ' (v1991 : FVec F S1024x128 .f32), Vec F S1x1024x128 .f32 ← k0_part61 i arg3 harg3 arg4 harg4 arg5 harg5 arg6 harg6 arg7 harg7 arg8 harg8 arg9 harg9 arg10 harg10 arg11 harg11 v1589 v1958 v1959
  let ⟨v2019, v2021, v2025⟩ : Σ' (v2019 : FVec F S64x2048 .f32) (v2021 : FVec F S64x128 .f32), FVec F S64x128 .f32 ← k0_part62 i arg3 harg3 arg4 harg4 arg5 harg5 arg6 harg6 arg7 harg7 arg8 harg8 arg9 harg9 arg10 harg10 arg11 harg11 v1991 v1992
  let v2058 : FVec F S64x2048 .f32 ← k0_part63 i arg3 harg3 arg4 harg4 arg5 harg5 arg6 harg6 arg7 harg7 arg8 harg8 arg9 harg9 arg10 harg10 arg11 harg11 v2019 v2021 v2025
  let ⟨v2088, v2089⟩ : Σ' (v2088 : FVec F S64x2048 .f32), Vec F S1x64x128 .f32 ← k0_part64 i arg3 harg3 arg4 harg4 arg5 harg5 arg6 harg6 arg7 harg7 arg8 harg8 arg9 harg9 arg10 harg10 arg11 harg11 v2058
  let ⟨v2111, v2117, v2122⟩ : Σ' (v2111 : FVec F S64x2048 .f32) (v2117 : FVec F S64x128 .f32), FVec F S64x128 .f32 ← k0_part65 i arg3 harg3 arg4 harg4 arg5 harg5 arg6 harg6 arg7 harg7 arg8 harg8 arg9 harg9 arg10 harg10 arg11 harg11 v2088 v2089
  k0_part66 i arg3 harg3 arg4 harg4 arg5 harg5 arg6 harg6 arg7 harg7 arg8 harg8 arg9 harg9 arg10 harg10 arg11 harg11 v2111 v2117 v2122
  rest9 i arg3 harg3 arg4 harg4 arg5 harg5 arg6 harg6 arg7 harg7 arg8 harg8 arg9 harg9 arg10 harg10 arg11 harg11 v1589

theorem rest7_eq (v1589 : BitVec 32) : rest7 (F := F) i arg3 harg3 arg4 harg4 arg5 harg5 arg6 harg6 arg7 harg7 arg8 harg8 arg9 harg9 arg10 harg10 arg11 harg11 v1589 = seg7 arg7 arg8 harg8 arg9 arg10 >>= fun _ => pieceRead arg7 arg9 (e := 0) (r := 15) (by omega) (by omega) fun s mo => pure ⟨v1589, rowsOf s, mo⟩ := by
  sl_kernel_rfl

theorem rest6_eq (v799 : BitVec 32) (v1503 : FVec F S1x64x2048 .bf16) : rest6 (F := F) i arg3 harg3 arg4 harg4 arg5 harg5 arg6 harg6 arg7 harg7 arg8 harg8 arg9 harg9 arg10 harg10 arg11 harg11 v799 v1503 = seg6 arg3 arg4 arg5 arg7 arg8 harg8 arg9 arg10 arg11 v1503 >>= fun _ => rest7 i arg3 harg3 arg4 harg4 arg5 harg5 arg6 harg6 arg7 harg7 arg8 harg8 arg9 harg9 arg10 harg10 arg11 harg11 4096#32 := by
  sl_kernel_rfl

theorem rest5_eq (v799 : BitVec 32) (v1143 : FVec F S1x64x2048 .bf16) : rest5 (F := F) i arg3 harg3 arg4 harg4 arg5 harg5 arg6 harg6 arg7 harg7 arg8 harg8 arg9 harg9 arg10 harg10 arg11 harg11 v799 v1143 = seg5 arg5 arg7 arg8 harg8 arg9 arg10 arg11 v1143 >>= rest6 i arg3 harg3 arg4 harg4 arg5 harg5 arg6 harg6 arg7 harg7 arg8 harg8 arg9 harg9 arg10 harg10 arg11 harg11 v799 := by
  sl_kernel_rfl

theorem rest4_eq (v9 : BitVec 32) : rest4 (F := F) i arg3 harg3 arg4 harg4 arg5 harg5 arg6 harg6 arg7 harg7 arg8 harg8 arg9 harg9 arg10 harg10 arg11 harg11 v9 = seg4 arg3 arg4 arg5 arg7 arg8 harg8 arg9 arg10 arg11 >>= fun w => rest5 i arg3 harg3 arg4 harg4 arg5 harg5 arg6 harg6 arg7 harg7 arg8 harg8 arg9 harg9 arg10 harg10 arg11 harg11 2048#32 w := by
  sl_kernel_rfl

theorem rest3_eq (v9 : BitVec 32) : rest3 (F := F) i arg3 harg3 arg4 harg4 arg5 harg5 arg6 harg6 arg7 harg7 arg8 harg8 arg9 harg9 arg10 harg10 arg11 harg11 v9 = seg3 arg7 arg8 harg8 arg9 arg10 >>= fun _ => rest4 i arg3 harg3 arg4 harg4 arg5 harg5 arg6 harg6 arg7 harg7 arg8 harg8 arg9 harg9 arg10 harg10 arg11 harg11 v9 := by
  sl_kernel_rfl

theorem rest2_eq (v9 : BitVec 32) : rest2 (F := F) i arg3 harg3 arg4 harg4 arg5 harg5 arg6 harg6 arg7 harg7 arg8 harg8 arg9 harg9 arg10 harg10 arg11 harg11 v9 = seg2 arg5 arg7 arg8 harg8 arg9 arg10 arg11 >>= fun _ => rest3 i arg3 harg3 arg4 harg4 arg5 harg5 arg6 harg6 arg7 harg7 arg8 harg8 arg9 harg9 arg10 harg10 arg11 harg11 v9 := by
  sl_kernel_rfl

theorem rest1_eq  : rest1 (F := F) i arg3 harg3 arg4 harg4 arg5 harg5 arg6 harg6 arg7 harg7 arg8 harg8 arg9 harg9 arg10 harg10 arg11 harg11  = seg1 arg3 arg4 arg7 arg8 harg8 arg9 arg10 arg11 >>= fun _ => rest2 i arg3 harg3 arg4 harg4 arg5 harg5 arg6 harg6 arg7 harg7 arg8 harg8 arg9 harg9 arg10 harg10 arg11 harg11 0#32 := by
  sl_kernel_rfl

theorem rest12_eq (v2379 : BitVec 32) : rest12 (F := F) i arg3 harg3 arg4 harg4 arg5 harg5 arg6 harg6 arg7 harg7 arg8 harg8 arg9 harg9 arg10 harg10 arg11 harg11 v2379 = seg12 arg7 arg8 harg8 arg9 arg10 >>= fun _ => rest13 i arg3 harg3 arg4 harg4 arg5 harg5 arg6 harg6 arg7 harg7 arg8 harg8 arg9 harg9 arg10 harg10 arg11 harg11 v2379 := by
  sl_kernel_rfl

theorem rest11_eq (v2379 : BitVec 32) : rest11 (F := F) i arg3 harg3 arg4 harg4 arg5 harg5 arg6 harg6 arg7 harg7 arg8 harg8 arg9 harg9 arg10 harg10 arg11 harg11 v2379 = seg11 arg5 arg7 arg8 harg8 arg9 arg10 arg11 >>= fun _ => rest12 i arg3 harg3 arg4 harg4 arg5 harg5 arg6 harg6 arg7 harg7 arg8 harg8 arg9 harg9 arg10 harg10 arg11 harg11 v2379 := by
  sl_kernel_rfl

theorem rest10_eq (v2379 : BitVec 32) : rest10 (F := F) i arg3 harg3 arg4 harg4 arg5 harg5 arg6 harg6 arg7 harg7 arg8 harg8 arg9 harg9 arg10 harg10 arg11 harg11 v2379 = seg10 arg7 arg8 harg8 arg9 arg10 >>= fun _ => rest11 i arg3 harg3 arg4 harg4 arg5 harg5 arg6 harg6 arg7 harg7 arg8 harg8 arg9 harg9 arg10 harg10 arg11 harg11 v2379 := by
  sl_kernel_rfl

theorem rest9_eq (v1589 : BitVec 32) : rest9 (F := F) i arg3 harg3 arg4 harg4 arg5 harg5 arg6 harg6 arg7 harg7 arg8 harg8 arg9 harg9 arg10 harg10 arg11 harg11 v1589 = seg9 arg3 arg4 arg5 arg7 arg8 harg8 arg9 arg10 arg11 >>= fun _ => rest10 i arg3 harg3 arg4 harg4 arg5 harg5 arg6 harg6 arg7 harg7 arg8 harg8 arg9 harg9 arg10 harg10 arg11 harg11 6144#32 := by
  sl_kernel_rfl

theorem rest8_eq (v1589 : BitVec 32) (s : Vec F S1x64x2048 .f32) (v1959 : Vec F S1x64x128 .f32) : rest8 (F := F) i arg3 harg3 arg4 harg4 arg5 harg5 arg6 harg6 arg7 harg7 arg8 harg8 arg9 harg9 arg10 harg10 arg11 harg11 v1589 (rowsOf s) v1959 = seg8 arg5 arg7 arg8 harg8 arg9 arg10 arg11 s v1959 >>= fun _ => rest9 i arg3 harg3 arg4 harg4 arg5 harg5 arg6 harg6 arg7 harg7 arg8 harg8 arg9 harg9 arg10 harg10 arg11 harg11 v1589 := by
  sl_kernel_rfl

theorem rest13_eq (v2379 : BitVec 32) : rest13 (F := F) i arg3 harg3 arg4 harg4 arg5 harg5 arg6 harg6 arg7 harg7 arg8 harg8 arg9 harg9 arg10 harg10 arg11 harg11 v2379 = seg13 arg5 arg6 harg6 arg7 arg8 harg8 arg9 arg10 arg11 := by
  sl_kernel_rfl

theorem first_eq : k0_part98 (F := F) i arg3 harg3 arg4 harg4 arg5 harg5 arg6 harg6 arg7 harg7 arg8 harg8 arg9 harg9 arg10 harg10 arg11 harg11 = rest1 i arg3 harg3 arg4 harg4 arg5 harg5 arg6 harg6 arg7 harg7 arg8 harg8 arg9 harg9 arg10 harg10 arg11 harg11 := by
  sl_kernel_rfl

theorem second_eq : cc0_mla_flash (F := F) i arg3 harg3 arg4 harg4 arg5 harg5 arg6 harg6 arg7 harg7 arg8 harg8 arg9 harg9 arg10 harg10 arg11 harg11 = (k0_part98 i arg3 harg3 arg4 harg4 arg5 harg5 arg6 harg6 arg7 harg7 arg8 harg8 arg9 harg9 arg10 harg10 arg11 harg11 >>= fun r => rest8 i arg3 harg3 arg4 harg4 arg5 harg5 arg6 harg6 arg7 harg7 arg8 harg8 arg9 harg9 arg10 harg10 arg11 harg11 r.1 r.2.1 r.2.2) := by
  refine (bind_pure_unit (x := k0_part99 (F := F) i arg3 harg3 arg4 harg4 arg5 harg5 arg6 harg6 arg7 harg7 arg8 harg8 arg9 harg9 arg10 harg10 arg11 harg11)).trans ?_
  sl_kernel_rfl

end Cert.KernelIdeal.Flash
end
-- ==== Proof.FlashEq.lean ====
/- The printed body is the short program: the windows one after the other. -/
module

public import proofs.«01_k».proof.Proof.FlashWhole
public import Idealize.ShloMosaic.Lib.Tactic

@[expose] public section

set_option maxRecDepth 100000
set_option maxHeartbeats 0

noncomputable section

namespace Cert.KernelIdeal.Flash

open Idealize.ShloMosaic Idealize.SL.Sem Cert.KernelIdeal Cert.KernelIdeal.Gen

variable {F : FTy → Type} [FloatOps F] [Named F] {α : Type}
variable (i : grid0.Coords) (arg3 : Memref sig .tc .vmem S1024x256 .bf16) (harg3 : arg3.IsWhole)
    (arg4 : Memref sig .tc .vmem S8192x256 .bf16) (harg4 : arg4.IsWhole) (arg5 : Memref sig .tc .vmem S8192x256 .bf16) (harg5 : arg5.IsWhole)
    (arg6 : Memref sig .tc .vmem S1024x128 .bf16) (harg6 : arg6.IsWhole) (arg7 : Memref sig .tc .vmem S2x1024x2048 .f32) (harg7 : arg7.IsWhole)
    (arg8 : Memref sig .tc .vmem S2x1024x2048 .bf16) (harg8 : arg8.IsWhole) (arg9 : Memref sig .tc .vmem S2x1024x128 .f32) (harg9 : arg9.IsWhole)
    (arg10 : Memref sig .tc .vmem S2x1024x128 .f32) (harg10 : arg10.IsWhole) (arg11 : Memref sig .tc .vmem S2x1024x128 .f32) (harg11 : arg11.IsWhole)

theorem join_7_9 {e : ℕ} (he : e < 2) (K : PUnit → Part F α) :
    (pieces arg7 arg8 harg8 arg9 arg10 he 7 0 (by omega) >>= fun _ => pieces arg7 arg8 harg8 arg9 arg10 he 9 7 (by omega) >>= K) = pieces arg7 arg8 harg8 arg9 arg10 he 16 0 (by omega) >>= K := by
  sl_kernel_rfl

theorem join_6_10 {e : ℕ} (he : e < 2) (K : PUnit → Part F α) :
    (pieces arg7 arg8 harg8 arg9 arg10 he 6 0 (by omega) >>= fun _ => pieces arg7 arg8 harg8 arg9 arg10 he 10 6 (by omega) >>= K) = pieces arg7 arg8 harg8 arg9 arg10 he 16 0 (by omega) >>= K := by
  sl_kernel_rfl

theorem join_13 {e : ℕ} (he : e < 2) (K : PUnit → Part F α) :
    (pieces arg7 arg8 harg8 arg9 arg10 he 13 0 (by omega) >>= fun _ => pieceHead arg7 arg8 arg9 arg10 he (r := 13) (by omega) >>= fun w => pieceTail arg8 harg8 he (r := 13) (by omega) w >>= fun _ => pieces arg7 arg8 harg8 arg9 arg10 he 2 14 (by omega) >>= K) = pieces arg7 arg8 harg8 arg9 arg10 he 16 0 (by omega) >>= K := by
  sl_kernel_rfl

theorem join_12 {e : ℕ} (he : e < 2) (K : PUnit → Part F α) :
    (pieces arg7 arg8 harg8 arg9 arg10 he 12 0 (by omega) >>= fun _ => pieceHead arg7 arg8 arg9 arg10 he (r := 12) (by omega) >>= fun w => pieceTail arg8 harg8 he (r := 12) (by omega) w >>= fun _ => pieces arg7 arg8 harg8 arg9 arg10 he 3 13 (by omega) >>= K) = pieces arg7 arg8 harg8 arg9 arg10 he 16 0 (by omega) >>= K := by
  sl_kernel_rfl

theorem join_8_7 {e : ℕ} (he : e < 2) (K : PUnit → Part F α) :
    (pieces arg7 arg8 harg8 arg9 arg10 he 8 0 (by omega) >>= fun _ => pieces arg7 arg8 harg8 arg9 arg10 he 7 8 (by omega) >>= fun _ => pieceRead arg7 arg9 he (r := 15) (by omega) fun s mo => pieceRest arg8 harg8 arg9 arg10 he (r := 15) (by omega) s mo >>= K) = pieces arg7 arg8 harg8 arg9 arg10 he 16 0 (by omega) >>= K := by
  sl_kernel_rfl

theorem join_5_10 {e : ℕ} (he : e < 2) (K : PUnit → Part F α) :
    (pieces arg7 arg8 harg8 arg9 arg10 he 5 0 (by omega) >>= fun _ => pieces arg7 arg8 harg8 arg9 arg10 he 10 5 (by omega) >>= fun _ => pieces arg7 arg8 harg8 arg9 arg10 he 1 15 (by omega) >>= K) = pieces arg7 arg8 harg8 arg9 arg10 he 16 0 (by omega) >>= K := by
  sl_kernel_rfl

theorem join_4_10 {e : ℕ} (he : e < 2) (K : PUnit → Part F α) :
    (pieces arg7 arg8 harg8 arg9 arg10 he 4 0 (by omega) >>= fun _ => pieces arg7 arg8 harg8 arg9 arg10 he 10 4 (by omega) >>= fun _ => pieces arg7 arg8 harg8 arg9 arg10 he 2 14 (by omega) >>= K) = pieces arg7 arg8 harg8 arg9 arg10 he 16 0 (by omega) >>= K := by
  sl_kernel_rfl

/-- The printed body, segment after segment. -/
theorem segments : cc0_mla_flash (F := F) i arg3 harg3 arg4 harg4 arg5 harg5 arg6 harg6 arg7 harg7 arg8 harg8 arg9 harg9 arg10 harg10 arg11 harg11 =
    (seg1 arg3 arg4 arg7 arg8 harg8 arg9 arg10 arg11 >>= fun _ =>
     seg2 arg5 arg7 arg8 harg8 arg9 arg10 arg11 >>= fun _ =>
     seg3 arg7 arg8 harg8 arg9 arg10 >>= fun _ =>
     seg4 arg3 arg4 arg5 arg7 arg8 harg8 arg9 arg10 arg11 >>= fun w4 =>
     seg5 arg5 arg7 arg8 harg8 arg9 arg10 arg11 w4 >>= fun w5 =>
     seg6 arg3 arg4 arg5 arg7 arg8 harg8 arg9 arg10 arg11 w5 >>= fun _ =>
     seg7 arg7 arg8 harg8 arg9 arg10 >>= fun _ =>
     pieceRead arg7 arg9 (e := 0) (r := 15) (by omega) (by omega) fun s mo =>
     seg8 arg5 arg7 arg8 harg8 arg9 arg10 arg11 s mo >>= fun _ =>
     seg9 arg3 arg4 arg5 arg7 arg8 harg8 arg9 arg10 arg11 >>= fun _ =>
     seg10 arg7 arg8 harg8 arg9 arg10 >>= fun _ =>
     seg11 arg5 arg7 arg8 harg8 arg9 arg10 arg11 >>= fun _ =>
     seg12 arg7 arg8 harg8 arg9 arg10 >>= fun _ =>
     seg13 arg5 arg6 harg6 arg7 arg8 harg8 arg9 arg10 arg11) := by
  rw [second_eq, first_eq, rest1_eq]
  refine (bind_assoc _ _ _).trans (bind_congr fun _ => ?_)
  rw [rest2_eq]
  refine (bind_assoc _ _ _).trans (bind_congr fun _ => ?_)
  rw [rest3_eq]
  refine (bind_assoc _ _ _).trans (bind_congr fun _ => ?_)
  rw [rest4_eq]
  refine (bind_assoc _ _ _).trans (bind_congr fun w4 => ?_)
  rw [rest5_eq]
  refine (bind_assoc _ _ _).trans (bind_congr fun w5 => ?_)
  rw [rest6_eq]
  refine (bind_assoc _ _ _).trans (bind_congr fun _ => ?_)
  rw [rest7_eq]
  refine (bind_assoc _ _ _).trans (bind_congr fun _ => ?_)
  unfold pieceRead
  refine (bind_assoc _ _ _).trans (bind_congr fun s => ?_)
  refine (bind_assoc _ _ _).trans (bind_congr fun mo => ?_)
  refine (pure_bind _ _).trans ?_
  refine (rest8_eq i arg3 harg3 arg4 harg4 arg5 harg5 arg6 harg6 arg7 harg7 arg8 harg8 arg9 harg9 arg10 harg10 arg11 harg11 _ s mo).trans (bind_congr fun _ => ?_)
  refine (rest9_eq i arg3 harg3 arg4 harg4 arg5 harg5 arg6 harg6 arg7 harg7 arg8 harg8 arg9 harg9 arg10 harg10 arg11 harg11 _).trans (bind_congr fun _ => ?_)
  refine (rest10_eq i arg3 harg3 arg4 harg4 arg5 harg5 arg6 harg6 arg7 harg7 arg8 harg8 arg9 harg9 arg10 harg10 arg11 harg11 _).trans (bind_congr fun _ => ?_)
  refine (rest11_eq i arg3 harg3 arg4 harg4 arg5 harg5 arg6 harg6 arg7 harg7 arg8 harg8 arg9 harg9 arg10 harg10 arg11 harg11 _).trans (bind_congr fun _ => ?_)
  refine (rest12_eq i arg3 harg3 arg4 harg4 arg5 harg5 arg6 harg6 arg7 harg7 arg8 harg8 arg9 harg9 arg10 harg10 arg11 harg11 _).trans (bind_congr fun _ => ?_)
  exact rest13_eq i arg3 harg3 arg4 harg4 arg5 harg5 arg6 harg6 arg7 harg7 arg8 harg8 arg9 harg9 arg10 harg10 arg11 harg11 _

/-- The printed body is the short program: the same reads and writes in the same order. -/
theorem body_eq : cc0_mla_flash (F := F) i arg3 harg3 arg4 harg4 arg5 harg5 arg6 harg6 arg7 harg7 arg8 harg8 arg9 harg9 arg10 harg10 arg11 harg11
      = flash arg3 arg4 arg5 arg6 harg6 arg7 arg8 harg8 arg9 arg10 arg11 := by
  rw [segments]
  simp only [seg1, seg2, seg3, seg4, seg5, seg6, seg7, seg8, seg9, seg10, seg11, seg12, seg13, flash, step, bind_assoc,
    join_7_9, join_6_10, join_13, join_12, join_8_7, join_5_10, join_4_10]

end Cert.KernelIdeal.Flash
end
-- ==== Proof.OwnsRules.lean ====
/- A read and a write of a rectangle of a buffer held at known contents, as steps of a run: the read hands on the
   rectangle's window of the contents, the write leaves the contents with the payload put over the rectangle. -/
module

public import proofs.«01_k».proof.Proof.Gen.KernelIdeal.Frame.Runs
public import Idealize.ShloMosaic.Lib.VecWindow
public import Idealize.ShloMosaic.Lib.Claim

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F] {α : Type}

local notation "𝕄" => MT nD τ sig Unit (Elt F) ℕ (UR sig nD τ) ℕ

/-- A read of a rectangle. -/
theorem load_step (c : Dev nD) (E : Set ℕ) (Q : α → sProp 𝕄) {s : Shape} {e : EltTy} (m : Memref sig .tc .vmem s e)
    (off size : Fin s.rank → ℕ) (inb : ∀ a, off a + size a ≤ s.size a)
    (x : s.Idx → Elt F e) {hl : m.view.LoadsAt (Rect.unit off size inb).toLoadRect}
    (k : ((Rect.unit off size inb).shape.Idx → Elt F e) → Prog (TpuEff nD τ sig (Elt F) Λ₀ .tc) α) :
    owns (c : Thread nD τ) m fullShare x
      ⊢ iprop((owns (c : Thread nD τ) m fullShare x -∗ wp Idealize.ShloMosaic.frame (wpE (defs₀ (F := F)) Variants.none c none) E (k (VecWindow.window x off size inb)) Q)
        -∗ wp Idealize.ShloMosaic.frame (wpE (defs₀ (F := F)) Variants.none c none) E
            (Prog.lift (.load (cs := .vmem) m (Rect.unit off size inb).toLoadRect hl) >>= k) Q) := by
  unfold owns
  iintro ⟨%f, %hf, H⟩ Hk
  subst hf
  iapply (wp_load (c := (c : Thread nD τ)) (bd := none) (E := E) Variants.none (m := m) (r := (Rect.unit off size inb).toLoadRect) (hl := hl) (k := k) (Q := Q) (S := m.view.set) (f := f) (View.setOn_subset_set _ _)) $$ H
  iintro H
  iapply Hk
  iexists f
  isplitr
  · ipureintro; rfl
  iexact H

/-- A write of a rectangle. -/
theorem store_step (c : Dev nD) (E : Set ℕ) (Q : α → sProp 𝕄) {s : Shape} {e : EltTy} (m : Memref sig .tc .vmem s e)
    (off size : Fin s.rank → ℕ) (inb : ∀ a, off a + size a ≤ s.size a)
    (x : s.Idx → Elt F e) (w : (Rect.unit off size inb).shape.Idx → Elt F e)
    {hx : (m.access (Rect.unit off size inb)).Stores Finset.univ} {hm : Finset.univ = Finset.univ ∨ ∀ a, (Rect.unit off size inb).stride a = 1}
    (k : PUnit → Prog (TpuEff nD τ sig (Elt F) Λ₀ .tc) α) :
    owns (c : Thread nD τ) m fullShare x
      ⊢ iprop((owns (c : Thread nD τ) m fullShare (VecWindow.put x off size w) -∗ wp Idealize.ShloMosaic.frame (wpE (defs₀ (F := F)) Variants.none c none) E (k ⟨⟩) Q)
        -∗ wp Idealize.ShloMosaic.frame (wpE (defs₀ (F := F)) Variants.none c none) E
            (Prog.lift (.store (cs := .vmem) m (Rect.unit off size inb) w Finset.univ hx hm) >>= k) Q) := by
  unfold owns
  iintro ⟨%f, %hf, H⟩ Hk
  subst hf
  iapply (wp_store (c := (c : Thread nD τ)) (bd := none) (E := E) Variants.none (m := m) (r := Rect.unit off size inb) (w := w) (hx := hx) (hm := hm) (k := k) (Q := Q) (S := m.view.set) (f := f)
    ((View.setOn_subset_set _ _).trans (View.set_slice_subset _ _))) $$ H
  iintro H
  iapply Hk
  iexists ((m.access (Rect.unit off size inb)).write (Elt F) f w Finset.univ)
  isplitr
  · ipureintro
    exact View.read_writes_cons_put m.view f inb w [] rfl
  iexact H

end Cert.KernelIdeal.Flash
end
-- ==== Proof.FlashState.lean ====
/- The five scratch buffers as one state, and what the body does to it: one block of rows, one head's blocks, its scores
   and sums, a step, the four steps, and the block the output buffer ends with. -/
module

public import proofs.«01_k».proof.Proof.FlashProgram
public import Idealize.ShloMosaic.Lib.VecWindow

@[expose] public section

set_option maxRecDepth 16384

noncomputable section

namespace Cert.KernelIdeal.Flash

open Idealize.ShloMosaic Idealize.SL.Sem Cert.KernelIdeal Cert.KernelIdeal.Gen VecWindow

variable {F : FTy → Type} [FloatOps F] [Named F]

/-- The scratch buffers: scores, weights, running maxima, factors, sums. -/
structure Scratch (F : FTy → Type) where
  s : Vec F S2x1024x2048 .f32
  p : Vec F S2x1024x2048 .bf16
  m : Vec F S2x1024x128 .f32
  a : Vec F S2x1024x128 .f32
  acc : Vec F S2x1024x128 .f32

/-- The scores of block `r` of head `e`. -/
def Scratch.rows {e r : ℕ} (he : e < 2) (hr : r < 16) (σ : Scratch F) : Vec F S1x64x2048 .f32 :=
  window (s := S2x1024x2048) σ.s ![e, 64 * r, 0] S1x64x2048.size (rows_inb he hr)

/-- The old maxima of block `r` of head `e`. -/
def Scratch.maxes {e r : ℕ} (he : e < 2) (hr : r < 16) (σ : Scratch F) : Vec F S1x64x128 .f32 :=
  window (s := S2x1024x128) σ.m ![e, 64 * r, 0] S1x64x128.size (lanes_inb he hr)

/-- After one block of rows. -/
def Scratch.piece {e r : ℕ} (he : e < 2) (hr : r < 16) (σ : Scratch F) : Scratch F :=
  { σ with
    p := put (s := S2x1024x2048) σ.p ![e, 64 * r, 0] S1x64x2048.size (storedWeight (σ.rows he hr) (σ.maxes he hr))
    m := put (s := S2x1024x128) σ.m ![e, 64 * r, 0] S1x64x128.size (storedMax (σ.rows he hr) (σ.maxes he hr))
    a := put (s := S2x1024x128) σ.a ![e, 64 * r, 0] S1x64x128.size (storedFactor (σ.rows he hr) (σ.maxes he hr)) }

/-- After `n` blocks of rows, from block `a` on. -/
def Scratch.pieces {e : ℕ} (he : e < 2) : (n a : ℕ) → a + n ≤ 16 → Scratch F → Scratch F
  | 0, _, _, σ => σ
  | n + 1, a, h, σ => Scratch.pieces he n (a + 1) (by omega) (σ.piece he (r := a) (by omega))

/-- After one head's scores. -/
def Scratch.score {e j : ℕ} (he : e < 2) (hj : j < 4) (q : Vec F S1024x256 .bf16) (k : Vec F S8192x256 .bf16) (σ : Scratch F) : Scratch F :=
  { σ with
    s := put (s := S2x1024x2048) σ.s ![e, 0, 0] S1x1024x2048.size
      (scores (window (s := S1024x256) q ![0, 128 * e] S1024x128.size (query_inb he)) (window (s := S8192x256) k ![2048 * j, 128 * e] S2048x128.size (keys_inb he hj))) }

/-- After one head's sums. -/
def Scratch.accumulate {e j : ℕ} (he : e < 2) (hj : j < 4) (v : Vec F S8192x256 .bf16) (σ : Scratch F) : Scratch F :=
  { σ with
    acc := put (s := S2x1024x128) σ.acc ![e, 0, 0] S1x1024x128.size
      (sums (window (s := S2x1024x128) σ.a ![e, 0, 0] S1x1024x128.size (head_lanes_inb he)) (window (s := S2x1024x128) σ.acc ![e, 0, 0] S1x1024x128.size (head_lanes_inb he))
        (window (s := S2x1024x2048) σ.p ![e, 0, 0] S1x1024x2048.size (head_rows_inb he)) (window (s := S8192x256) v ![2048 * j, 128 * e] S2048x128.size (keys_inb he hj))) }

/-- After one head's blocks and sums. -/
def Scratch.head {e j : ℕ} (he : e < 2) (hj : j < 4) (v : Vec F S8192x256 .bf16) (σ : Scratch F) : Scratch F :=
  (σ.pieces he 16 0 (by omega)).accumulate he hj v

/-- After one step. -/
def Scratch.step {j : ℕ} (hj : j < 4) (q : Vec F S1024x256 .bf16) (k v : Vec F S8192x256 .bf16) (σ : Scratch F) : Scratch F :=
  (((σ.score (e := 0) (by omega) hj q k).score (e := 1) (by omega) hj q k).head (e := 0) (by omega) hj v).head (e := 1) (by omega) hj v

/-- After the start. -/
def Scratch.start (σ : Scratch F) : Scratch F :=
  { σ with
    m := put (s := S2x1024x128) σ.m ![0, 0, 0] S2x1024x128.size startMax
    acc := put (s := S2x1024x128) σ.acc ![0, 0, 0] S2x1024x128.size startSum }

/-- After the start and the four steps. -/
def Scratch.all (q : Vec F S1024x256 .bf16) (k v : Vec F S8192x256 .bf16) (σ : Scratch F) : Scratch F :=
  (((σ.start.step (j := 0) (by omega) q k v).step (j := 1) (by omega) q k v).step (j := 2) (by omega) q k v).step (j := 3) (by omega) q k v

/-- The block the output buffer ends with. -/
def Scratch.out (σ : Scratch F) : Vec F S1024x128 .bf16 :=
  merged (window (s := S2x1024x128) σ.acc ![0, 0, 0] S1x1024x128.size (head_lanes_inb (e := 0) (by omega)))
    (window (s := S2x1024x128) σ.acc ![1, 0, 0] S1x1024x128.size (head_lanes_inb (e := 1) (by omega)))

end Cert.KernelIdeal.Flash
end
-- ==== Proof.FlashRuns.lean ====
/- The short program's runs: from the inputs' blocks and a state of the scratch buffers to the next state, each block
   once, then the whole body. -/
module

public import proofs.«01_k».proof.Proof.Gen.KernelIdeal.Frame.Runs
public import proofs.«01_k».proof.Proof.OwnsRules
public import proofs.«01_k».proof.Proof.FlashState
public import Idealize.ShloMosaic.Lib.Claim

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal VecWindow Cert.KernelIdeal.Gen

variable {F : FTy → Type} [FloatOps F] [Named F] {α : Type}

local notation "𝕄" => MT nD τ sig Unit (Elt F) ℕ (UR sig nD τ) ℕ

variable (arg3 : Memref sig .tc .vmem S1024x256 .bf16) (arg4 arg5 : Memref sig .tc .vmem S8192x256 .bf16)
  (arg6 : Memref sig .tc .vmem S1024x128 .bf16) (harg6 : arg6.IsWhole) (arg7 : Memref sig .tc .vmem S2x1024x2048 .f32)
  (arg8 : Memref sig .tc .vmem S2x1024x2048 .bf16) (harg8 : arg8.IsWhole) (arg9 arg10 arg11 : Memref sig .tc .vmem S2x1024x128 .f32)
  (c : Dev nD)

/-- The inputs at their contents and the scratch buffers at a state. -/
def held (q : Vec F S1024x256 .bf16) (k v : Vec F S8192x256 .bf16) (σ : Scratch F) : sProp 𝕄 :=
  iprop(owns (c : Thread nD τ) arg3 fullShare q ∗ owns (c : Thread nD τ) arg4 fullShare k ∗ owns (c : Thread nD τ) arg5 fullShare v
    ∗ owns (c : Thread nD τ) arg7 fullShare σ.s ∗ owns (c : Thread nD τ) arg8 fullShare σ.p ∗ owns (c : Thread nD τ) arg9 fullShare σ.m ∗ owns (c : Thread nD τ) arg10 fullShare σ.a ∗ owns (c : Thread nD τ) arg11 fullShare σ.acc)

variable {q : Vec F S1024x256 .bf16} {k v : Vec F S8192x256 .bf16}

/-- A run of a program from a state to a state, whatever follows. -/
def Runs (P : Body F) (q : Vec F S1024x256 .bf16) (k v : Vec F S8192x256 .bf16) (σ σ' : Scratch F) : Prop :=
  ∀ {α : Type} (E : Set ℕ) (Q : α → sProp 𝕄) (K : PUnit → Prog (TpuEff nD τ sig (Elt F) Λ₀ .tc) α),
    held arg3 arg4 arg5 arg7 arg8 arg9 arg10 arg11 c q k v σ
      ⊢ iprop((held arg3 arg4 arg5 arg7 arg8 arg9 arg10 arg11 c q k v σ' -∗ wp Idealize.ShloMosaic.frame (wpE (defs₀ (F := F)) Variants.none c none) E (K ⟨⟩) Q)
        -∗ wp Idealize.ShloMosaic.frame (wpE (defs₀ (F := F)) Variants.none c none) E (P >>= K) Q)

theorem runs_bind {P P' : Body F} {σ σ' σ'' : Scratch F} (h : Runs arg3 arg4 arg5 arg7 arg8 arg9 arg10 arg11 c P q k v σ σ')
    (h' : Runs arg3 arg4 arg5 arg7 arg8 arg9 arg10 arg11 c P' q k v σ' σ'') :
    Runs arg3 arg4 arg5 arg7 arg8 arg9 arg10 arg11 c (P >>= fun _ => P') q k v σ σ'' := fun E Q K => by
  rw [bind_assoc]
  iintro H Hk
  iapply (h E Q _) $$ H
  iintro H
  iapply (h' E Q _) $$ H
  iexact Hk

theorem piece_runs {e r : ℕ} (he : e < 2) (hr : r < 16) (σ : Scratch F) :
    Runs arg3 arg4 arg5 arg7 arg8 arg9 arg10 arg11 c (piece arg7 arg8 harg8 arg9 arg10 he hr) q k v σ (σ.piece he hr) := fun E Q K => by
  unfold piece pieceRead pieceRest pieceMid pieceTail held
  simp only [bind_assoc, pure_bind]
  iintro ⟨H3, H4, H5, H7, H8, H9, H10, H11⟩ Hk
  iapply (load_step c E Q) $$ H7; iintro H7
  iapply (load_step c E Q) $$ H9; iintro H9
  iapply (load_step c E Q) $$ H9; iintro H9
  iapply (store_step c E Q) $$ H9; iintro H9
  iapply (load_step c E Q) $$ H10; iintro H10
  iapply (store_step c E Q) $$ H10; iintro H10
  iapply (load_step c E Q) $$ H8; iintro H8
  iapply (store_step c E Q) $$ H8; iintro H8
  iapply Hk
  isplitl [H3]; · iexact H3
  isplitl [H4]; · iexact H4
  isplitl [H5]; · iexact H5
  isplitl [H7]; · iexact H7
  isplitl [H8]; · iexact H8
  isplitl [H9]; · iexact H9
  isplitl [H10]; · iexact H10
  iexact H11

theorem pieces_runs {e : ℕ} (he : e < 2) (n : ℕ) : ∀ (a : ℕ) (h : a + n ≤ 16) (σ : Scratch F),
    Runs arg3 arg4 arg5 arg7 arg8 arg9 arg10 arg11 c (pieces arg7 arg8 harg8 arg9 arg10 he n a h) q k v σ (σ.pieces he n a h) := by
  induction n with
  | zero =>
    intro a h σ α E Q K
    unfold pieces Scratch.pieces
    rw [pure_bind]
    iintro H Hk
    iapply Hk $$ H
  | succ n ih =>
    intro a h σ
    unfold pieces Scratch.pieces
    refine runs_bind arg3 arg4 arg5 arg7 arg8 arg9 arg10 arg11 c (P := piece arg7 arg8 harg8 arg9 arg10 he (r := a) (by omega)) (P' := pieces arg7 arg8 harg8 arg9 arg10 he n (a + 1) (by omega)) (σ' := σ.piece he (r := a) (by omega)) ?_ ?_
    · exact piece_runs arg3 arg4 arg5 arg7 arg8 harg8 arg9 arg10 arg11 c he _ σ
    · exact ih (a + 1) _ _

theorem score_runs {e j : ℕ} (he : e < 2) (hj : j < 4) (σ : Scratch F) :
    Runs arg3 arg4 arg5 arg7 arg8 arg9 arg10 arg11 c (score arg3 arg4 arg7 he hj) q k v σ (σ.score he hj q k) := fun E Q K => by
  unfold score held
  simp only [bind_assoc, pure_bind]
  iintro ⟨H3, H4, H5, H7, H8, H9, H10, H11⟩ Hk
  iapply (load_step c E Q) $$ H3; iintro H3
  iapply (load_step c E Q) $$ H4; iintro H4
  iapply (load_step c E Q) $$ H7; iintro H7
  iapply (store_step c E Q) $$ H7; iintro H7
  iapply Hk
  isplitl [H3]; · iexact H3
  isplitl [H4]; · iexact H4
  isplitl [H5]; · iexact H5
  isplitl [H7]; · iexact H7
  isplitl [H8]; · iexact H8
  isplitl [H9]; · iexact H9
  isplitl [H10]; · iexact H10
  iexact H11

theorem accumulate_runs {e j : ℕ} (he : e < 2) (hj : j < 4) (σ : Scratch F) :
    Runs arg3 arg4 arg5 arg7 arg8 arg9 arg10 arg11 c (accumulate arg5 arg8 arg10 arg11 he hj) q k v σ (σ.accumulate he hj v) := fun E Q K => by
  unfold accumulate held
  simp only [bind_assoc, pure_bind]
  iintro ⟨H3, H4, H5, H7, H8, H9, H10, H11⟩ Hk
  iapply (load_step c E Q) $$ H10; iintro H10
  iapply (load_step c E Q) $$ H11; iintro H11
  iapply (load_step c E Q) $$ H8; iintro H8
  iapply (load_step c E Q) $$ H5; iintro H5
  iapply (load_step c E Q) $$ H11; iintro H11
  iapply (store_step c E Q) $$ H11; iintro H11
  iapply Hk
  isplitl [H3]; · iexact H3
  isplitl [H4]; · iexact H4
  isplitl [H5]; · iexact H5
  isplitl [H7]; · iexact H7
  isplitl [H8]; · iexact H8
  isplitl [H9]; · iexact H9
  isplitl [H10]; · iexact H10
  iexact H11

theorem start_runs (σ : Scratch F) :
    Runs arg3 arg4 arg5 arg7 arg8 arg9 arg10 arg11 c (start arg9 arg11) q k v σ σ.start := fun E Q K => by
  unfold start held
  simp only [bind_assoc, pure_bind]
  iintro ⟨H3, H4, H5, H7, H8, H9, H10, H11⟩ Hk
  iapply (load_step c E Q) $$ H9; iintro H9
  iapply (store_step c E Q) $$ H9; iintro H9
  iapply (load_step c E Q) $$ H11; iintro H11
  iapply (store_step c E Q) $$ H11; iintro H11
  iapply Hk
  isplitl [H3]; · iexact H3
  isplitl [H4]; · iexact H4
  isplitl [H5]; · iexact H5
  isplitl [H7]; · iexact H7
  isplitl [H8]; · iexact H8
  isplitl [H9]; · iexact H9
  isplitl [H10]; · iexact H10
  iexact H11

theorem step_runs {j : ℕ} (hj : j < 4) (σ : Scratch F) :
    Runs arg3 arg4 arg5 arg7 arg8 arg9 arg10 arg11 c (step arg3 arg4 arg5 arg7 arg8 harg8 arg9 arg10 arg11 hj) q k v σ (σ.step hj q k v) := by
  unfold step Scratch.step Scratch.head
  exact runs_bind _ _ _ _ _ _ _ _ c (score_runs _ _ _ _ _ _ _ _ c _ hj σ) (runs_bind _ _ _ _ _ _ _ _ c (score_runs _ _ _ _ _ _ _ _ c _ hj _)
    (runs_bind _ _ _ _ _ _ _ _ c (pieces_runs _ _ _ _ _ harg8 _ _ _ c _ 16 0 _ _) (runs_bind _ _ _ _ _ _ _ _ c (accumulate_runs _ _ _ _ _ _ _ _ c _ hj _)
      (runs_bind _ _ _ _ _ _ _ _ c (pieces_runs _ _ _ _ _ harg8 _ _ _ c _ 16 0 _ _) (accumulate_runs _ _ _ _ _ _ _ _ c _ hj _)))))

/-- The whole body: from the inputs' blocks and any scratch contents to the output block. -/
theorem flash_runs (d : Vec F S1024x128 .bf16) (σ : Scratch F) (E : Set ℕ) (Q : PUnit → sProp 𝕄) :
    iprop(held arg3 arg4 arg5 arg7 arg8 arg9 arg10 arg11 c q k v σ ∗ owns (c : Thread nD τ) arg6 fullShare d)
      ⊢ iprop((iprop(held arg3 arg4 arg5 arg7 arg8 arg9 arg10 arg11 c q k v (σ.all q k v) ∗ owns (c : Thread nD τ) arg6 fullShare (put (s := S1024x128) d ![0, 0] S1024x128.size (σ.all q k v).out))
          -∗ wp Idealize.ShloMosaic.frame (wpE (defs₀ (F := F)) Variants.none c none) E (pure ⟨⟩) Q)
        -∗ wp Idealize.ShloMosaic.frame (wpE (defs₀ (F := F)) Variants.none c none) E (flash arg3 arg4 arg5 arg6 harg6 arg7 arg8 harg8 arg9 arg10 arg11) Q) := by
  unfold flash
  iintro ⟨H, H6⟩ Hk
  iapply (start_runs arg3 arg4 arg5 arg7 arg8 arg9 arg10 arg11 c σ E Q _) $$ H; iintro H
  iapply (step_runs arg3 arg4 arg5 arg7 arg8 harg8 arg9 arg10 arg11 c _ _ E Q _) $$ H; iintro H
  iapply (step_runs arg3 arg4 arg5 arg7 arg8 harg8 arg9 arg10 arg11 c _ _ E Q _) $$ H; iintro H
  iapply (step_runs arg3 arg4 arg5 arg7 arg8 harg8 arg9 arg10 arg11 c _ _ E Q _) $$ H; iintro H
  iapply (step_runs arg3 arg4 arg5 arg7 arg8 harg8 arg9 arg10 arg11 c _ _ E Q _) $$ H; iintro H
  unfold finish held
  icases H with ⟨H3, H4, H5, H7, H8, H9, H10, H11⟩
  iapply (load_step c E Q) $$ H11; iintro H11
  iapply (load_step c E Q) $$ H11; iintro H11
  iapply (load_step c E Q) $$ H6; iintro H6
  iapply (store_step c E Q _ _ _ _ _ _ (fun u => pure u)) $$ H6; iintro H6
  iapply Hk
  isplitr [H6]
  · isplitl [H3]; · iexact H3
    isplitl [H4]; · iexact H4
    isplitl [H5]; · iexact H5
    isplitl [H7]; · iexact H7
    isplitl [H8]; · iexact H8
    isplitl [H9]; · iexact H9
    isplitl [H10]; · iexact H10
    iexact H11
  iexact H6

end Cert.KernelIdeal.Flash
end
-- ==== Proof.FlashPay.lean ====
/- What each payload of the body is at an index, over the extended reals. -/
module

public import proofs.«01_k».proof.Proof.FlashProgram
public import Idealize.ShloMosaic.Lib.Pointwise

@[expose] public section

set_option maxRecDepth 16384

noncomputable section

namespace Cert.KernelIdeal.Flash

open Idealize.ShloMosaic Idealize.SL.Sem Cert.KernelIdeal Cert.KernelIdeal.Gen

/-- The least float is the least extended real. -/
theorem ofBits_least : Ideal.ofBits .f32 0xFF800000#32 = ⊥ := by
  simp [Ideal.ofBits, Ideal.ieee]

theorem newMax_at (s : Vec Ideal S1x64x2048 .f32) (mo : Vec Ideal S1x64x128 .f32) (r : Fin 64) (l : Fin 128) :
    newMax (F := Ideal) s mo (ix2 r l) = max (mo (ix3 0 r l)) (Finset.univ.fold max ⊥ fun n : Fin 2048 => s (ix3 0 r n)) := by
  pointwise [newMax, rowsOf]
  rw [ofBits_least]

theorem wideMax_at (x : FVec Ideal S64x128 .f32) (r : Fin 64) (n : Fin 2048) :
    wideMax (F := Ideal) x (ix2 r n) = x (ix2 r ⟨n.val % 128, by omega⟩) := by
  unfold wideMax
  exact concatenate_replicate_apply (t := S64x2048) (s₁ := S64x128) 1 16 x concatenates_S64x128_S64x128_S64x128_S64x128_S64x128_S64x128_S64x128_S64x128_S64x128_S64x128_S64x128_S64x128_S64x128_S64x128_S64x128_S64x128_S64x2048_d1
    rfl (ix2 r n) (ix2 r ⟨n.val % 128, by omega⟩) rfl (fun b hb => by
      match b, hb with
      | ⟨0, _⟩, _ => rfl
      | ⟨1, _⟩, hb => exact absurd rfl hb)

theorem storedMax_at (s : Vec Ideal S1x64x2048 .f32) (mo : Vec Ideal S1x64x128 .f32) (u : Fin 1) (r : Fin 64) (l : Fin 128) :
    storedMax (F := Ideal) s mo (ix3 u r l) = newMax (F := Ideal) s mo (ix2 r l) := by
  pointwise [storedMax]

theorem storedFactor_at (s : Vec Ideal S1x64x2048 .f32) (mo : Vec Ideal S1x64x128 .f32) (u : Fin 1) (r : Fin 64) (l : Fin 128) :
    storedFactor (F := Ideal) s mo (ix3 u r l) = Ideal.exp2 (mo (ix3 0 r l) - newMax (F := Ideal) s mo (ix2 r l)) := by
  pointwise [storedFactor]
  rfl

theorem storedWeight_at (s : Vec Ideal S1x64x2048 .f32) (mo : Vec Ideal S1x64x128 .f32) (u : Fin 1) (r : Fin 64) (n : Fin 2048) :
    storedWeight (F := Ideal) s mo (ix3 u r n) = Ideal.exp2 (s (ix3 0 r n) - newMax (F := Ideal) s mo (ix2 r ⟨n.val % 128, by omega⟩)) := by
  have h := wideMax_at (newMax (F := Ideal) s mo) r n
  rw [← h]
  pointwise [storedWeight, rowsOf]
  try rfl

/-- The scale of the scores. -/
def scale : EReal := (((Real.sqrt 96)⁻¹ * (Real.log 2)⁻¹ : ℝ) : EReal)

theorem scores_at (q : Vec Ideal S1024x128 .bf16) (k : Vec Ideal S2048x128 .bf16) (u : Fin 1) (r : Fin 1024) (n : Fin 2048) :
    scores (F := Ideal) q k (ix3 u r n) = (∑ d : Fin 128, q (ix2 r d) * k (ix2 n d)) * scale := by
  pointwise [scores]
  exact congrArg _ (IdealRules.named_const.ideal_named_scalar _ _ _ _ rfl)

theorem sums_at (a acc : Vec Ideal S1x1024x128 .f32) (p : Vec Ideal S1x1024x2048 .bf16) (v : Vec Ideal S2048x128 .bf16) (u : Fin 1) (r : Fin 1024) (l : Fin 128) :
    sums (F := Ideal) a acc p v (ix3 u r l) = a (ix3 0 r l) * acc (ix3 0 r l) + ∑ n : Fin 2048, p (ix3 0 r n) * v (ix2 n l) := by
  pointwise [sums]

theorem quotient_at (acc : Vec Ideal S1x1024x128 .f32) (r : Fin 1024) (l : Fin 128) :
    quotient (F := Ideal) acc (ix2 r l) = Ideal.div (acc (ix3 0 r l)) (acc (ix3 0 r 64)) := by
  pointwise [quotient]

theorem merged_at (acc0 acc1 : Vec Ideal S1x1024x128 .f32) (r : Fin 1024) (l : Fin 128) :
    merged (F := Ideal) acc0 acc1 (ix2 r l)
      = if h : l.val < 64 then Ideal.div (acc0 (ix3 0 r l)) (acc0 (ix3 0 r 64)) else Ideal.div (acc1 (ix3 0 r ⟨l.val - 64, by omega⟩)) (acc1 (ix3 0 r 64)) := by
  pointwise [merged, quotient]
  have hb : IntOp.cmpi CmpIPredicate.slt (BitVec.ofNat 32 l.val) 64#32 = if l.val < 64 then 1#1 else 0#1 := by
    have := (by decide +kernel : ∀ l : Fin 128, IntOp.cmpi CmpIPredicate.slt (BitVec.ofNat 32 l.val) 64#32 = if l.val < 64 then 1#1 else 0#1)
    exact this l
  rw [hb]
  by_cases h : l.val < 64
  · rw [if_pos h, dif_pos h]
    rfl
  · rw [if_neg h, dif_neg h]
    have e : (⟨(l.val + 128 - 64) % 128, Nat.mod_lt _ (by omega)⟩ : Fin 128) = ⟨l.val - 64, by omega⟩ := Fin.ext (by
      show (l.val + 128 - 64) % 128 = l.val - 64
      omega)
    rw [← e]
    rfl

theorem startMax_at (e : Fin 2) (r : Fin 1024) (l : Fin 128) : startMax (F := Ideal) (ix3 e r l) = ⊥ := by
  pointwise [startMax]
  exact ofBits_least

theorem startSum_at (e : Fin 2) (r : Fin 1024) (l : Fin 128) : startSum (F := Ideal) (ix3 e r l) = 0 := by
  pointwise [startSum]

end Cert.KernelIdeal.Flash
end
-- ==== Proof.FlashWin.lean ====
/- Windows of arrays of rank two and three, and arrays with a window overwritten, at an index. -/
module

public import Idealize.ShloMosaic.Lib.Pointwise
public import Idealize.ShloMosaic.Lib.VecWindow

@[expose] public section

noncomputable section

namespace Cert.KernelIdeal.Flash

open Idealize.ShloMosaic VecWindow

/-- One head's window of an array of rank three. -/
theorem window3_at {α : Type} {n0 n1 n2 R : ℕ} (x : (⟨3, ![n0, n1, n2]⟩ : Shape).Idx → α) (e o : ℕ)
    (inb : ∀ a, (![e, o, 0] : Fin 3 → ℕ) a + (![1, R, n2] : Fin 3 → ℕ) a ≤ (⟨3, ![n0, n1, n2]⟩ : Shape).size a) (he : e < n0) (u : Fin 1) (r : Fin R) (l : Fin n2) (hr : o + r.val < n1) :
    window (s := ⟨3, ![n0, n1, n2]⟩) x ![e, o, 0] ![1, R, n2] inb (ix3 u r l) = x (ix3 ⟨e, he⟩ ⟨o + r.val, hr⟩ l) := by
  refine congrArg x (funext fun a => Fin.ext ?_)
  match a with
  | ⟨0, _⟩ => show e + 1 * u.val = e; omega
  | ⟨1, _⟩ => show o + 1 * r.val = o + r.val; omega
  | ⟨2, _⟩ => show 0 + 1 * l.val = l.val; omega

/-- A window of an array of rank two. -/
theorem window2_at {α : Type} {n0 n1 R C : ℕ} (x : (⟨2, ![n0, n1]⟩ : Shape).Idx → α) (o o' : ℕ)
    (inb : ∀ a, (![o, o'] : Fin 2 → ℕ) a + (![R, C] : Fin 2 → ℕ) a ≤ (⟨2, ![n0, n1]⟩ : Shape).size a) (r : Fin R) (l : Fin C) (hr : o + r.val < n0) (hl : o' + l.val < n1) :
    window (s := ⟨2, ![n0, n1]⟩) x ![o, o'] ![R, C] inb (ix2 r l) = x (ix2 ⟨o + r.val, hr⟩ ⟨o' + l.val, hl⟩) := by
  refine congrArg x (funext fun a => Fin.ext ?_)
  match a with
  | ⟨0, _⟩ => show o + 1 * r.val = o + r.val; omega
  | ⟨1, _⟩ => show o' + 1 * l.val = o' + l.val; omega

/-- An array of rank three with rows of one head overwritten. -/
theorem put3_at {α : Type} {n0 n1 n2 R : ℕ} (x : (⟨3, ![n0, n1, n2]⟩ : Shape).Idx → α) (e o : ℕ)
    (w : (⟨3, ![1, R, n2]⟩ : Shape).Idx → α) (a : Fin n0) (b : Fin n1) (c : Fin n2) :
    put (s := ⟨3, ![n0, n1, n2]⟩) x ![e, o, 0] ![1, R, n2] w (ix3 a b c)
      = if h : a.val = e ∧ o ≤ b.val ∧ b.val < o + R then w (ix3 0 ⟨b.val - o, by omega⟩ c) else x (ix3 a b c) := by
  unfold put
  by_cases h : a.val = e ∧ o ≤ b.val ∧ b.val < o + R
  · have h' : ∀ i, (![e, o, 0] : Fin 3 → ℕ) i ≤ ((ix3 a b c) i).val ∧ ((ix3 a b c) i).val < (![e, o, 0] : Fin 3 → ℕ) i + (![1, R, n2] : Fin 3 → ℕ) i := fun i => by
      match i with
      | ⟨0, _⟩ => show e ≤ a.val ∧ a.val < e + 1; omega
      | ⟨1, _⟩ => show o ≤ b.val ∧ b.val < o + R; omega
      | ⟨2, _⟩ => show 0 ≤ c.val ∧ c.val < 0 + n2; have := c.isLt; omega
    rw [dif_pos h, dif_pos h']
    refine congrArg w (funext fun i => Fin.ext ?_)
    match i with
    | ⟨0, _⟩ => show a.val - e = 0; omega
    | ⟨1, _⟩ => rfl
    | ⟨2, _⟩ => show c.val - 0 = c.val; omega
  · rw [dif_neg h, dif_neg]
    intro h'
    have h0 : e ≤ a.val ∧ a.val < e + 1 := h' (0 : Fin 3)
    have h1 : o ≤ b.val ∧ b.val < o + R := h' (1 : Fin 3)
    exact h ⟨by omega, h1⟩

end Cert.KernelIdeal.Flash
end
-- ==== Proof.FlashSoft.lean ====
/- The running softmax to base two over finite scores: maxima and shrunk sums, block after block, and that the quotient of
   two of its sums is the quotient of the plain sums. -/
module

public import Idealize.ShloMosaic.PureOps.Ideal

@[expose] public section

noncomputable section

namespace Cert.Soft

open Idealize.ShloMosaic

variable {N : ℕ}

/-- The maximum after `j` blocks of scores. -/
def top (s : ℕ → Fin N → EReal) : ℕ → EReal
  | 0 => ⊥
  | j + 1 => max (top s j) (Finset.univ.fold max ⊥ (s j))

/-- The sum after `j` blocks, each shrunk to the newest maximum. -/
def sum (s v : ℕ → Fin N → EReal) : ℕ → EReal
  | 0 => 0
  | j + 1 => Ideal.exp2 (top s j - top s (j + 1)) * sum s v j + ∑ n, Ideal.exp2 (s j n - top s (j + 1)) * v j n

/-- A finite sum of reals, as an extended real. -/
theorem coe_sum {ι : Type} (t : Finset ι) (f : ι → ℝ) : ((∑ n ∈ t, f n : ℝ) : EReal) = ∑ n ∈ t, (f n : EReal) := by
  classical
  induction t using Finset.induction with
  | empty => simp
  | insert a t h ih => rw [Finset.sum_insert h, Finset.sum_insert h, EReal.coe_add, ih]

/-- The largest of finitely many reals is a real, or there are none. -/
theorem fold_real {ι : Type} (t : Finset ι) (f : ι → ℝ) (ht : t.Nonempty) : ∃ μ : ℝ, t.fold max ⊥ (fun n => (f n : EReal)) = (μ : EReal) := by
  classical
  induction ht using Finset.Nonempty.cons_induction with
  | singleton a => exact ⟨f a, by rw [Finset.fold_singleton]; exact max_eq_left bot_le⟩
  | cons a t h ht ih =>
    obtain ⟨μ, hμ⟩ := ih
    exact ⟨max (f a) μ, by rw [Finset.fold_cons, hμ]; exact (EReal.coe_strictMono.monotone.map_max).symm⟩

theorem rpow_sub (a b : ℝ) : Real.rpow 2 (a - b) = Real.rpow 2 a * Real.rpow 2 (-b) := by
  rw [sub_eq_add_neg]
  exact Real.rpow_add (by norm_num) a (-b)

/-- After at least one block the maximum is a real, and every sum is the plain sum shrunk to it. -/
theorem sum_real (hN : 0 < N) (s : ℕ → Fin N → ℝ) (j : ℕ) :
    ∃ μ : ℝ, top (fun j n => (s j n : EReal)) (j + 1) = (μ : EReal) ∧
      ∀ v : ℕ → Fin N → ℝ, sum (fun j n => (s j n : EReal)) (fun j n => (v j n : EReal)) (j + 1)
        = ((Real.rpow 2 (-μ) * ∑ i ∈ Finset.range (j + 1), ∑ n, Real.rpow 2 (s i n) * v i n : ℝ) : EReal) := by
  have hne : (Finset.univ : Finset (Fin N)).Nonempty := ⟨⟨0, hN⟩, Finset.mem_univ _⟩
  have hblock : ∀ (i : ℕ) (μ : ℝ) (v : ℕ → Fin N → ℝ),
      (∑ n, Ideal.exp2 ((s i n : EReal) - (μ : EReal)) * (v i n : EReal)) = ((Real.rpow 2 (-μ) * ∑ n, Real.rpow 2 (s i n) * v i n : ℝ) : EReal) := by
    intro i μ v
    rw [Finset.mul_sum, coe_sum]
    refine Finset.sum_congr rfl fun n _ => ?_
    rw [← EReal.coe_sub, Ideal.exp2_coe, rpow_sub, ← EReal.coe_mul]
    congr 1
    ring
  induction j with
  | zero =>
    obtain ⟨μ, hμ⟩ := fold_real Finset.univ (s 0) hne
    have ht : top (fun j n => (s j n : EReal)) (0 + 1) = (μ : EReal) := by
      show max ⊥ (Finset.univ.fold max ⊥ fun n => (s 0 n : EReal)) = _
      rw [hμ]
      exact max_eq_right bot_le
    refine ⟨μ, ht, fun v => ?_⟩
    show Ideal.exp2 (⊥ - top (fun j n => (s j n : EReal)) (0 + 1)) * 0 + ∑ n, Ideal.exp2 ((s 0 n : EReal) - top (fun j n => (s j n : EReal)) (0 + 1)) * (v 0 n : EReal) = _
    rw [ht, hblock, mul_zero, zero_add, Finset.sum_range_succ, Finset.sum_range_zero, zero_add]
  | succ j ih =>
    obtain ⟨μ, hμ, hsum⟩ := ih
    obtain ⟨ν, hν⟩ := fold_real Finset.univ (s (j + 1)) hne
    have ht : top (fun j n => (s j n : EReal)) (j + 1 + 1) = ((max μ ν : ℝ) : EReal) := by
      show max (top (fun j n => (s j n : EReal)) (j + 1)) (Finset.univ.fold max ⊥ fun n => (s (j + 1) n : EReal)) = _
      rw [hμ, hν]
      exact (EReal.coe_strictMono.monotone.map_max).symm
    refine ⟨max μ ν, ht, fun v => ?_⟩
    show Ideal.exp2 (top (fun j n => (s j n : EReal)) (j + 1) - top (fun j n => (s j n : EReal)) (j + 1 + 1)) * sum (fun j n => (s j n : EReal)) (fun j n => (v j n : EReal)) (j + 1)
      + ∑ n, Ideal.exp2 ((s (j + 1) n : EReal) - top (fun j n => (s j n : EReal)) (j + 1 + 1)) * (v (j + 1) n : EReal) = _
    rw [ht, hblock, hμ, hsum, ← EReal.coe_sub, Ideal.exp2_coe, ← EReal.coe_mul, ← EReal.coe_add, Finset.sum_range_succ _ (j + 1)]
    congr 1
    have h1 : Real.rpow 2 (μ - max μ ν) * Real.rpow 2 (-μ) = Real.rpow 2 (-max μ ν) := by
      rw [rpow_sub, mul_right_comm]
      have : Real.rpow 2 μ * Real.rpow 2 (-μ) = 1 := by
        rw [← rpow_sub, sub_self]
        exact Real.rpow_zero 2
      rw [this, one_mul]
    rw [← mul_assoc, h1]
    ring

/-- The quotient of two of the running sums is the quotient of the plain sums. -/
theorem div_sum (hN : 0 < N) (s : ℕ → Fin N → ℝ) (v : ℕ → Fin N → ℝ) (j : ℕ) :
    Ideal.div (sum (fun j n => (s j n : EReal)) (fun j n => (v j n : EReal)) (j + 1)) (sum (fun j n => (s j n : EReal)) (fun _ _ => 1) (j + 1))
      = (((∑ i ∈ Finset.range (j + 1), ∑ n, Real.rpow 2 (s i n) * v i n) / ∑ i ∈ Finset.range (j + 1), ∑ n, Real.rpow 2 (s i n) : ℝ) : EReal) := by
  obtain ⟨μ, -, h⟩ := sum_real hN s j
  have h1 := h fun _ _ => 1
  simp only [mul_one] at h1
  have hone : (fun (_ : ℕ) (_ : Fin N) => (1 : EReal)) = fun _ _ => ((1 : ℝ) : EReal) := rfl
  rw [hone, h v, h1]
  have hp : 0 < ∑ i ∈ Finset.range (j + 1), ∑ n : Fin N, Real.rpow 2 (s i n) :=
    Finset.sum_pos (fun i _ => Finset.sum_pos (fun n _ => Real.rpow_pos_of_pos (by norm_num) _) ⟨⟨0, hN⟩, Finset.mem_univ _⟩) ⟨0, by simp⟩
  have hq : 0 < Real.rpow 2 (-μ) := Real.rpow_pos_of_pos (by norm_num) _
  rw [Ideal.div_coe (by positivity), ← EReal.coe_mul]
  congr 1
  field_simp

end Cert.Soft
end
-- ==== Proof.FlashStep.lean ====
/- What the scratch buffers hold after the start and the four steps, whatever they held before, and the output block. -/
module

public import proofs.«01_k».proof.Proof.FlashState
public import proofs.«01_k».proof.Proof.FlashPay
public import proofs.«01_k».proof.Proof.FlashWin
public import proofs.«01_k».proof.Proof.FlashSoft

@[expose] public section

set_option maxRecDepth 16384

noncomputable section

namespace Cert.KernelIdeal.Flash

open Idealize.ShloMosaic Idealize.SL.Sem Cert.KernelIdeal Cert.KernelIdeal.Gen VecWindow

/-- The new maximum of a row. -/
def newTop (σ : Scratch Ideal) (c : Fin 2) (b : Fin 1024) (l : Fin 128) : EReal :=
  max (σ.m (ix3 c b l)) (Finset.univ.fold max ⊥ fun n : Fin 2048 => σ.s (ix3 c b n))

/-- The lane the maximum of a key is read from. -/
abbrev laneOf (n : Fin 2048) : Fin 128 := ⟨n.val % 128, by omega⟩

theorem rows_at {e r : ℕ} (he : e < 2) (hr : r < 16) (σ : Scratch Ideal) (c : Fin 2) (b : Fin 1024) (n : Fin 2048) (h : c.val = e ∧ 64 * r ≤ b.val ∧ b.val < 64 * r + 64) :
    σ.rows he hr (ix3 0 ⟨b.val - 64 * r, by omega⟩ n) = σ.s (ix3 c b n) := by
  refine (window3_at σ.s e (64 * r) (rows_inb he hr) he 0 ⟨b.val - 64 * r, by omega⟩ n (by show 64 * r + (b.val - 64 * r) < 1024; omega)).trans ?_
  have h1 : (⟨e, he⟩ : Fin 2) = c := Fin.ext h.1.symm
  have h2 : (⟨64 * r + (b.val - 64 * r), by omega⟩ : Fin 1024) = b := Fin.ext (by show 64 * r + (b.val - 64 * r) = b.val; omega)
  show σ.s (ix3 (⟨e, he⟩ : Fin 2) (⟨64 * r + (b.val - 64 * r), by omega⟩ : Fin 1024) n) = _
  rw [h1, h2]

theorem maxes_at {e r : ℕ} (he : e < 2) (hr : r < 16) (σ : Scratch Ideal) (c : Fin 2) (b : Fin 1024) (l : Fin 128) (h : c.val = e ∧ 64 * r ≤ b.val ∧ b.val < 64 * r + 64) :
    σ.maxes he hr (ix3 0 ⟨b.val - 64 * r, by omega⟩ l) = σ.m (ix3 c b l) := by
  refine (window3_at σ.m e (64 * r) (lanes_inb he hr) he 0 ⟨b.val - 64 * r, by omega⟩ l (by show 64 * r + (b.val - 64 * r) < 1024; omega)).trans ?_
  have h1 : (⟨e, he⟩ : Fin 2) = c := Fin.ext h.1.symm
  have h2 : (⟨64 * r + (b.val - 64 * r), by omega⟩ : Fin 1024) = b := Fin.ext (by show 64 * r + (b.val - 64 * r) = b.val; omega)
  show σ.m (ix3 (⟨e, he⟩ : Fin 2) (⟨64 * r + (b.val - 64 * r), by omega⟩ : Fin 1024) l) = _
  rw [h1, h2]

theorem newMax_row {e r : ℕ} (he : e < 2) (hr : r < 16) (σ : Scratch Ideal) (c : Fin 2) (b : Fin 1024) (l : Fin 128) (h : c.val = e ∧ 64 * r ≤ b.val ∧ b.val < 64 * r + 64) :
    newMax (F := Ideal) (σ.rows he hr) (σ.maxes he hr) (ix2 ⟨b.val - 64 * r, by omega⟩ l) = newTop σ c b l := by
  rw [newMax_at, maxes_at he hr σ c b l h]
  unfold newTop
  congr 2
  funext n
  exact rows_at he hr σ c b n h

theorem piece_m {e r : ℕ} (he : e < 2) (hr : r < 16) (σ : Scratch Ideal) (c : Fin 2) (b : Fin 1024) (l : Fin 128) :
    (σ.piece he hr).m (ix3 c b l) = if c.val = e ∧ 64 * r ≤ b.val ∧ b.val < 64 * r + 64 then newTop σ c b l else σ.m (ix3 c b l) := by
  refine (put3_at σ.m e (64 * r) (storedMax (σ.rows he hr) (σ.maxes he hr)) c b l).trans ?_
  by_cases h : c.val = e ∧ 64 * r ≤ b.val ∧ b.val < 64 * r + 64
  · rw [dif_pos h, if_pos h]
    exact (storedMax_at _ _ _ _ _).trans (newMax_row he hr σ c b l h)
  · rw [dif_neg h, if_neg h]

theorem piece_a {e r : ℕ} (he : e < 2) (hr : r < 16) (σ : Scratch Ideal) (c : Fin 2) (b : Fin 1024) (l : Fin 128) :
    (σ.piece he hr).a (ix3 c b l)
      = if c.val = e ∧ 64 * r ≤ b.val ∧ b.val < 64 * r + 64 then Ideal.exp2 (σ.m (ix3 c b l) - newTop σ c b l) else σ.a (ix3 c b l) := by
  refine (put3_at σ.a e (64 * r) (storedFactor (σ.rows he hr) (σ.maxes he hr)) c b l).trans ?_
  by_cases h : c.val = e ∧ 64 * r ≤ b.val ∧ b.val < 64 * r + 64
  · rw [dif_pos h, if_pos h]
    refine (storedFactor_at _ _ _ _ _).trans ?_
    rw [newMax_row he hr σ c b l h, maxes_at he hr σ c b l h]
  · rw [dif_neg h, if_neg h]

theorem piece_p {e r : ℕ} (he : e < 2) (hr : r < 16) (σ : Scratch Ideal) (c : Fin 2) (b : Fin 1024) (n : Fin 2048) :
    (σ.piece he hr).p (ix3 c b n)
      = if c.val = e ∧ 64 * r ≤ b.val ∧ b.val < 64 * r + 64 then Ideal.exp2 (σ.s (ix3 c b n) - newTop σ c b (laneOf n)) else σ.p (ix3 c b n) := by
  refine (put3_at σ.p e (64 * r) (storedWeight (σ.rows he hr) (σ.maxes he hr)) c b n).trans ?_
  by_cases h : c.val = e ∧ 64 * r ≤ b.val ∧ b.val < 64 * r + 64
  · rw [dif_pos h, if_pos h]
    refine (storedWeight_at _ _ _ _ _).trans ?_
    rw [newMax_row he hr σ c b (laneOf n) h, rows_at he hr σ c b n h]
  · rw [dif_neg h, if_neg h]

/-- What `n` blocks of rows leave. -/
structure After (e lo hi : ℕ) (σ σ' : Scratch Ideal) : Prop where
  s : σ'.s = σ.s
  acc : σ'.acc = σ.acc
  m : ∀ (c : Fin 2) (b : Fin 1024) (l : Fin 128), σ'.m (ix3 c b l) = if c.val = e ∧ lo ≤ b.val ∧ b.val < hi then newTop σ c b l else σ.m (ix3 c b l)
  a : ∀ (c : Fin 2) (b : Fin 1024) (l : Fin 128),
    σ'.a (ix3 c b l) = if c.val = e ∧ lo ≤ b.val ∧ b.val < hi then Ideal.exp2 (σ.m (ix3 c b l) - newTop σ c b l) else σ.a (ix3 c b l)
  p : ∀ (c : Fin 2) (b : Fin 1024) (n : Fin 2048),
    σ'.p (ix3 c b n) = if c.val = e ∧ lo ≤ b.val ∧ b.val < hi then Ideal.exp2 (σ.s (ix3 c b n) - newTop σ c b (laneOf n)) else σ.p (ix3 c b n)

/-- A choice by the later rows, and among the others by the earlier ones, is a choice by both. -/
theorem ite_rows {α : Type} {e lo mid hi : ℕ} (h1 : lo ≤ mid) (h2 : mid ≤ hi) (c b : ℕ) (x y z : α) (hx : ¬ (c = e ∧ lo ≤ b ∧ b < mid) → z = x) :
    (if c = e ∧ mid ≤ b ∧ b < hi then z else if c = e ∧ lo ≤ b ∧ b < mid then x else y) = if c = e ∧ lo ≤ b ∧ b < hi then x else y := by
  by_cases hu : c = e ∧ mid ≤ b ∧ b < hi
  · rw [if_pos hu, if_pos ⟨hu.1, by omega, hu.2.2⟩]
    exact hx (by omega)
  · rw [if_neg hu]
    by_cases hl : c = e ∧ lo ≤ b ∧ b < mid
    · rw [if_pos hl, if_pos ⟨hl.1, hl.2.1, by omega⟩]
    · rw [if_neg hl, if_neg (by omega)]

theorem newTop_of {σ σ' : Scratch Ideal} {c : Fin 2} {b : Fin 1024} {l : Fin 128} (hs : σ'.s = σ.s) (hm : σ'.m (ix3 c b l) = σ.m (ix3 c b l)) :
    newTop σ' c b l = newTop σ c b l := by
  unfold newTop
  rw [hs, hm]

theorem pieces_after {e : ℕ} (he : e < 2) (n : ℕ) : ∀ (a : ℕ) (h : a + n ≤ 16) (σ : Scratch Ideal), After e (64 * a) (64 * (a + n)) σ (σ.pieces he n a h) := by
  induction n with
  | zero =>
    intro a h σ
    refine ⟨rfl, rfl, fun c b l => ?_, fun c b l => ?_, fun c b l => ?_⟩ <;> rw [if_neg (by omega)] <;> rfl
  | succ n ih =>
    intro a h σ
    have hi := ih (a + 1) (by omega) (σ.piece he (r := a) (by omega))
    have hn : ∀ (c : Fin 2) (b : Fin 1024) (l : Fin 128), ¬ (c.val = e ∧ 64 * a ≤ b.val ∧ b.val < 64 * a + 64) →
        newTop (σ.piece he (r := a) (by omega)) c b l = newTop σ c b l := fun c b l hb =>
      newTop_of rfl (by rw [piece_m, if_neg hb])
    have e1 : 64 * (a + 1) = 64 * a + 64 := by omega
    have e2 : 64 * (a + 1 + n) = 64 * (a + (n + 1)) := by omega
    rw [e1, e2] at hi
    refine ⟨hi.s, hi.acc, fun c b l => ?_, fun c b l => ?_, fun c b l => ?_⟩
    · refine (hi.m c b l).trans ?_
      rw [piece_m]
      exact ite_rows (by omega) (by omega) _ _ _ _ _ (hn c b l)
    · refine (hi.a c b l).trans ?_
      rw [piece_a]
      refine ite_rows (by omega) (by omega) _ _ _ _ _ fun hb => ?_
      rw [hn c b l hb, piece_m, if_neg hb]
    · refine (hi.p c b l).trans ?_
      rw [piece_p]
      refine ite_rows (by omega) (by omega) _ _ _ _ _ fun hb => ?_
      rw [hn c b _ hb]
      rfl

/-- Key `n` of step `j`. -/
abbrev keyOf (j : ℕ) (n : Fin 2048) : Fin 8192 := ⟨(2048 * j + n.val) % 8192, by omega⟩

/-- Lane `l` of head `c` of a pair. -/
abbrev lane2 (c : Fin 2) (l : Fin 128) : Fin 256 := ⟨128 * c.val + l.val, by omega⟩

/-- What a head's blocks and sums leave. -/
structure Headed (j e : ℕ) (v : Vec Ideal S8192x256 .bf16) (σ σ' : Scratch Ideal) : Prop where
  s : σ'.s = σ.s
  m : ∀ (c : Fin 2) (b : Fin 1024) (l : Fin 128), σ'.m (ix3 c b l) = if c.val = e then newTop σ c b l else σ.m (ix3 c b l)
  acc : ∀ (c : Fin 2) (b : Fin 1024) (l : Fin 128),
    σ'.acc (ix3 c b l) = if c.val = e then Ideal.exp2 (σ.m (ix3 c b l) - newTop σ c b l) * σ.acc (ix3 c b l)
        + ∑ n : Fin 2048, Ideal.exp2 (σ.s (ix3 c b n) - newTop σ c b (laneOf n)) * v (ix2 (keyOf j n) (lane2 c l))
      else σ.acc (ix3 c b l)

theorem window_keys {e j : ℕ} (he : e < 2) (hj : j < 4) (v : Vec Ideal S8192x256 .bf16) (n : Fin 2048) (l : Fin 128) (c : Fin 2) (h : c.val = e) :
    window (s := S8192x256) v ![2048 * j, 128 * e] S2048x128.size (keys_inb he hj) (ix2 n l) = v (ix2 (keyOf j n) (lane2 c l)) := by
  refine (window2_at v (2048 * j) (128 * e) (keys_inb he hj) n l (by omega) (by omega)).trans ?_
  have h1 : (⟨2048 * j + n.val, by omega⟩ : Fin 8192) = keyOf j n := Fin.ext (Nat.mod_eq_of_lt (by omega)).symm
  have h2 : (⟨128 * e + l.val, by omega⟩ : Fin 256) = lane2 c l := Fin.ext (by show 128 * e + l.val = 128 * c.val + l.val; omega)
  rw [h1, h2]

theorem window_query {e : ℕ} (he : e < 2) (q : Vec Ideal S1024x256 .bf16) (b : Fin 1024) (l : Fin 128) (c : Fin 2) (h : c.val = e) :
    window (s := S1024x256) q ![0, 128 * e] S1024x128.size (query_inb he) (ix2 b l) = q (ix2 b (lane2 c l)) := by
  refine (window2_at q 0 (128 * e) (query_inb he) b l (by omega) (by omega)).trans ?_
  have h1 : (⟨0 + b.val, by omega⟩ : Fin 1024) = b := Fin.ext (by show 0 + b.val = b.val; omega)
  have h2 : (⟨128 * e + l.val, by omega⟩ : Fin 256) = lane2 c l := Fin.ext (by show 128 * e + l.val = 128 * c.val + l.val; omega)
  rw [h1, h2]

theorem window_head {n2 : ℕ} {e : ℕ} (he : e < 2) (x : (⟨3, ![2, 1024, n2]⟩ : Shape).Idx → EReal)
    (inb : ∀ a, (![e, 0, 0] : Fin 3 → ℕ) a + (![1, 1024, n2] : Fin 3 → ℕ) a ≤ (⟨3, ![2, 1024, n2]⟩ : Shape).size a) (c : Fin 2) (b : Fin 1024) (l : Fin n2) (h : c.val = e) :
    window (s := ⟨3, ![2, 1024, n2]⟩) x ![e, 0, 0] ![1, 1024, n2] inb (ix3 0 b l) = x (ix3 c b l) := by
  refine (window3_at x e 0 inb he 0 b l (by omega)).trans ?_
  have h1 : (⟨e, he⟩ : Fin 2) = c := Fin.ext h.symm
  have h2 : (⟨0 + b.val, by omega⟩ : Fin 1024) = b := Fin.ext (by show 0 + b.val = b.val; omega)
  rw [h1, h2]

/-- An array of two heads with one head overwritten. -/
theorem put_head {n2 : ℕ} (x : (⟨3, ![2, 1024, n2]⟩ : Shape).Idx → EReal) (e : ℕ) (w : (⟨3, ![1, 1024, n2]⟩ : Shape).Idx → EReal) (c : Fin 2) (b : Fin 1024) (l : Fin n2) :
    put (s := ⟨3, ![2, 1024, n2]⟩) x ![e, 0, 0] ![1, 1024, n2] w (ix3 c b l) = if c.val = e then w (ix3 0 b l) else x (ix3 c b l) := by
  refine (put3_at x e 0 w c b l).trans ?_
  by_cases h : c.val = e
  · rw [dif_pos ⟨h, by omega, by omega⟩, if_pos h]
    rfl
  · rw [dif_neg (fun h' => h h'.1), if_neg h]

/-- One head's sums, from what its blocks left. -/
theorem accumulate_acc {e j : ℕ} (he : e < 2) (hj : j < 4) (v : Vec Ideal S8192x256 .bf16) (σ τ : Scratch Ideal) (hp : After e 0 1024 σ τ) (c : Fin 2) (b : Fin 1024) (l : Fin 128) :
    (τ.accumulate he hj v).acc (ix3 c b l) = if c.val = e then Ideal.exp2 (σ.m (ix3 c b l) - newTop σ c b l) * σ.acc (ix3 c b l)
        + ∑ n : Fin 2048, Ideal.exp2 (σ.s (ix3 c b n) - newTop σ c b (laneOf n)) * v (ix2 (keyOf j n) (lane2 c l))
      else σ.acc (ix3 c b l) := by
  refine (put_head (n2 := 128) τ.acc e _ c b l).trans ?_
  by_cases h : c.val = e
  · have hall : c.val = e ∧ 0 ≤ b.val ∧ b.val < 1024 := ⟨h, by omega, by omega⟩
    rw [if_pos h, if_pos h]
    refine (sums_at _ _ _ _ _ _ _).trans ?_
    refine congrArg₂ (· + ·) (congrArg₂ (· * ·) ?_ ?_) (Finset.sum_congr rfl fun n _ => congrArg₂ (· * ·) ?_ ?_)
    · refine (window_head he _ (head_lanes_inb he) c b l h).trans ((hp.a c b l).trans ?_)
      rw [if_pos hall]
    · refine (window_head he _ (head_lanes_inb he) c b l h).trans ?_
      rw [hp.acc]
    · refine (window_head he _ (head_rows_inb he) c b n h).trans ((hp.p c b n).trans ?_)
      rw [if_pos hall]
    · exact window_keys he hj v n l c h
  · rw [if_neg h, if_neg h, hp.acc]

/-- What a head's sums leave, from what its blocks left. -/
theorem accumulate_headed {e j : ℕ} (he : e < 2) (hj : j < 4) (v : Vec Ideal S8192x256 .bf16) (σ τ : Scratch Ideal) (hp : After e 0 1024 σ τ) :
    Headed j e v σ (τ.accumulate he hj v) := by
  refine ⟨hp.s, fun c b l => (hp.m c b l).trans ?_, accumulate_acc he hj v σ τ hp⟩
  by_cases h : c.val = e
  · rw [if_pos ⟨h, by omega, by omega⟩, if_pos h]
  · rw [if_neg (fun h' => h h'.1), if_neg h]

theorem all_pieces {e : ℕ} (he : e < 2) (n a lo hi : ℕ) (h : a + n ≤ 16) (hlo : 64 * a = lo) (hhi : 64 * (a + n) = hi) (σ : Scratch Ideal) :
    After e lo hi σ (σ.pieces he n a h) := by
  subst hlo hhi
  exact pieces_after he n a h σ

theorem head_headed {e j : ℕ} (he : e < 2) (hj : j < 4) (v : Vec Ideal S8192x256 .bf16) (σ : Scratch Ideal) : Headed j e v σ (σ.head he hj v) :=
  accumulate_headed he hj v σ _ (all_pieces he 16 0 0 1024 (by omega) rfl rfl σ)

/-- The score of row `b` of head `c` against key `n` of step `j`. -/
def rowScore (q : Vec Ideal S1024x256 .bf16) (k : Vec Ideal S8192x256 .bf16) (c : Fin 2) (b : Fin 1024) (j : ℕ) (n : Fin 2048) : EReal :=
  (∑ d : Fin 128, q (ix2 b (lane2 c d)) * k (ix2 (keyOf j n) (lane2 c d))) * scale

theorem score_s {e j : ℕ} (he : e < 2) (hj : j < 4) (q : Vec Ideal S1024x256 .bf16) (k : Vec Ideal S8192x256 .bf16) (σ : Scratch Ideal) (c : Fin 2) (b : Fin 1024) (n : Fin 2048) :
    (σ.score he hj q k).s (ix3 c b n) = if c.val = e then rowScore q k c b j n else σ.s (ix3 c b n) := by
  refine (put_head (n2 := 2048) σ.s e _ c b n).trans ?_
  by_cases h : c.val = e
  · rw [if_pos h, if_pos h]
    refine (scores_at _ _ _ _ _).trans (congrArg (· * scale) (Finset.sum_congr rfl fun d _ => congrArg₂ (· * ·) ?_ ?_))
    · exact window_query he q b d c h
    · exact window_keys he hj k n d c h
  · rw [if_neg h, if_neg h]

/-- The values of a lane, step by step. -/
def rowValue (v : Vec Ideal S8192x256 .bf16) (c : Fin 2) (l : Fin 128) (j : ℕ) (n : Fin 2048) : EReal := v (ix2 (keyOf j n) (lane2 c l))

/-- What the buffers hold after `j` steps. -/
def Held (q : Vec Ideal S1024x256 .bf16) (k v : Vec Ideal S8192x256 .bf16) (j : ℕ) (σ : Scratch Ideal) : Prop :=
  ∀ (c : Fin 2) (b : Fin 1024) (l : Fin 128),
    σ.m (ix3 c b l) = Soft.top (rowScore q k c b) j ∧ σ.acc (ix3 c b l) = Soft.sum (rowScore q k c b) (rowValue v c l) j

theorem start_held (q : Vec Ideal S1024x256 .bf16) (k v : Vec Ideal S8192x256 .bf16) (σ : Scratch Ideal) : Held q k v 0 σ.start := by
  intro c b l
  have hp : ∀ (x : Vec Ideal S2x1024x128 .f32) (w : FVec Ideal S2x1024x128 .f32), put (s := S2x1024x128) x ![0, 0, 0] S2x1024x128.size w (ix3 c b l) = w (ix3 c b l) := by
    intro x w
    unfold put
    have h' : ∀ i, (![0, 0, 0] : Fin 3 → ℕ) i ≤ ((ix3 c b l) i).val ∧ ((ix3 c b l) i).val < (![0, 0, 0] : Fin 3 → ℕ) i + S2x1024x128.size i := fun i => by
      match i with
      | ⟨0, _⟩ => show 0 ≤ c.val ∧ c.val < 0 + 2; omega
      | ⟨1, _⟩ => show 0 ≤ b.val ∧ b.val < 0 + 1024; omega
      | ⟨2, _⟩ => show 0 ≤ l.val ∧ l.val < 0 + 128; omega
    rw [dif_pos h']
    refine congrArg w (funext fun i => Fin.ext ?_)
    match i with
    | ⟨0, _⟩ => rfl
    | ⟨1, _⟩ => rfl
    | ⟨2, _⟩ => rfl
  exact ⟨(hp σ.m startMax).trans (startMax_at c b l), (hp σ.acc startSum).trans (startSum_at c b l)⟩

theorem step_held {j : ℕ} (hj : j < 4) (q : Vec Ideal S1024x256 .bf16) (k v : Vec Ideal S8192x256 .bf16) (σ : Scratch Ideal) (h : Held q k v j σ) :
    Held q k v (j + 1) (σ.step hj q k v) := by
  intro c b l
  let τ := (σ.score (e := 0) (by omega) hj q k).score (e := 1) (by omega) hj q k
  have hs : ∀ n, τ.s (ix3 c b n) = rowScore q k c b j n := fun n => by
    refine (score_s (e := 1) (by omega) hj q k _ c b n).trans ?_
    by_cases h1 : c.val = 1
    · rw [if_pos h1]
    · rw [if_neg h1]
      refine (score_s (e := 0) (by omega) hj q k σ c b n).trans ?_
      rw [if_pos (by omega)]
  have ht : ∀ l, newTop τ c b l = Soft.top (rowScore q k c b) (j + 1) := fun l => by
    unfold newTop
    have : τ.m (ix3 c b l) = Soft.top (rowScore q k c b) j := (h c b l).1
    rw [this, funext hs]
    rfl
  have hm : ∀ l, τ.m (ix3 c b l) = Soft.top (rowScore q k c b) j := fun l => (h c b l).1
  have ha : ∀ l, τ.acc (ix3 c b l) = Soft.sum (rowScore q k c b) (rowValue v c l) j := fun l => (h c b l).2
  have h0 := head_headed (e := 0) (by omega) hj v τ
  have h1 := head_headed (e := 1) (by omega) hj v (τ.head (e := 0) (by omega) hj v)
  by_cases hc : c.val = 0
  · refine ⟨(h1.m c b l).trans ?_, (h1.acc c b l).trans ?_⟩
    · rw [if_neg (by omega), h0.m, if_pos hc, ht]
    · rw [if_neg (by omega), h0.acc, if_pos hc, ht, hm, ha]
      simp only [ht, hs]
      rfl
  · have hm0 : ∀ l, (τ.head (e := 0) (by omega) hj v).m (ix3 c b l) = τ.m (ix3 c b l) := fun l => by rw [h0.m, if_neg hc]
    have ht0 : ∀ l, newTop (τ.head (e := 0) (by omega) hj v) c b l = Soft.top (rowScore q k c b) (j + 1) := fun l => (newTop_of h0.s (hm0 l)).trans (ht l)
    refine ⟨(h1.m c b l).trans ?_, (h1.acc c b l).trans ?_⟩
    · rw [if_pos (by omega), ht0]
    · rw [if_pos (by omega), ht0, hm0, hm, h0.acc, if_neg hc, ha, h0.s]
      simp only [ht0, hs]
      rfl

theorem all_held (q : Vec Ideal S1024x256 .bf16) (k v : Vec Ideal S8192x256 .bf16) (σ : Scratch Ideal) : Held q k v 4 (σ.all q k v) :=
  step_held _ q k v _ (step_held _ q k v _ (step_held _ q k v _ (step_held _ q k v _ (start_held q k v σ))))

/-- One head's quotient, read at a lane. -/
def headOut (q : Vec Ideal S1024x256 .bf16) (k v : Vec Ideal S8192x256 .bf16) (c : Fin 2) (b : Fin 1024) (l : Fin 128) : EReal :=
  Ideal.div (Soft.sum (rowScore q k c b) (rowValue v c l) 4) (Soft.sum (rowScore q k c b) (rowValue v c 64) 4)

/-- The output block: two heads of sixty-four lanes. -/
def outBlock (q : Vec Ideal S1024x256 .bf16) (k v : Vec Ideal S8192x256 .bf16) : Vec Ideal S1024x128 .bf16 := fun y =>
  headOut q k v ⟨(y 1).val / 64, by have : (y 1).val < 128 := (y 1).isLt; omega⟩ (y 0) ⟨(y 1).val % 64, by omega⟩

theorem outBlock_at (q : Vec Ideal S1024x256 .bf16) (k v : Vec Ideal S8192x256 .bf16) (b : Fin 1024) (l : Fin 128) :
    outBlock q k v (ix2 b l) = headOut q k v ⟨l.val / 64, by omega⟩ b ⟨l.val % 64, by omega⟩ := rfl

theorem all_out (q : Vec Ideal S1024x256 .bf16) (k v : Vec Ideal S8192x256 .bf16) (σ : Scratch Ideal) : (σ.all q k v).out = outBlock q k v := by
  have ha := all_held q k v σ
  have h0 : ∀ b l, window (s := S2x1024x128) (σ.all q k v).acc ![0, 0, 0] S1x1024x128.size (head_lanes_inb (e := 0) (by omega)) (ix3 0 b l)
      = Soft.sum (rowScore q k 0 b) (rowValue v 0 l) 4 := fun b l =>
    (window_head (e := 0) (by omega) _ (head_lanes_inb (e := 0) (by omega)) 0 b l rfl).trans (ha 0 b l).2
  have h1 : ∀ b l, window (s := S2x1024x128) (σ.all q k v).acc ![1, 0, 0] S1x1024x128.size (head_lanes_inb (e := 1) (by omega)) (ix3 0 b l)
      = Soft.sum (rowScore q k 1 b) (rowValue v 1 l) 4 := fun b l =>
    (window_head (e := 1) (by omega) _ (head_lanes_inb (e := 1) (by omega)) 1 b l rfl).trans (ha 1 b l).2
  refine funext fun y => ?_
  obtain ⟨b, l, rfl⟩ : ∃ (b : Fin 1024) (l : Fin 128), y = ix2 b l := ⟨y 0, y 1, by funext i; match i with | ⟨0, _⟩ => rfl | ⟨1, _⟩ => rfl⟩
  rw [outBlock_at]
  refine (merged_at _ _ b l).trans ?_
  unfold headOut
  by_cases h : l.val < 64
  · rw [dif_pos h, h0, h0]
    have e1 : (⟨l.val / 64, by omega⟩ : Fin 2) = 0 := Fin.ext (by show l.val / 64 = 0; omega)
    have e2 : (⟨l.val % 64, by omega⟩ : Fin 128) = l := Fin.ext (by show l.val % 64 = l.val; omega)
    rw [e1, e2]
  · rw [dif_neg h, h1, h1]
    have e1 : (⟨l.val / 64, by omega⟩ : Fin 2) = 1 := Fin.ext (by show l.val / 64 = 1; omega)
    have e2 : (⟨l.val % 64, by omega⟩ : Fin 128) = ⟨l.val - 64, by omega⟩ := Fin.ext (by show l.val % 64 = l.val - 64; omega)
    rw [e1, e2]

end Cert.KernelIdeal.Flash
end
-- ==== Proof.FlashRun.lean ====
/- The attention kernel's run over the extended reals: what every grid point writes, and so what the result array ends
   with, as one function of the arrays the region is entered with. -/
module

public import proofs.«01_k».proof.Proof.FlashEq
public import proofs.«01_k».proof.Proof.FlashRuns
public import proofs.«01_k».proof.Proof.FlashStep
public import proofs.«01_k».proof.Proof.Gen.KernelIdeal.Frame.Runs
public import Idealize.ShloMosaic.Lib.Claim

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds VecWindow
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The blocks and the proof data -/

/-- The queries', keys' and values' blocks at a point. -/
abbrev qblk (c : Dev nD) (t : Fin cfg0.N) : Vec Ideal S1024x256 .bf16 := iblk m c 0 t
abbrev kblk (c : Dev nD) (t : Fin cfg0.N) : Vec Ideal S8192x256 .bf16 := iblk m c 1 t
abbrev vblk (c : Dev nD) (t : Fin cfg0.N) : Vec Ideal S8192x256 .bf16 := iblk m c 2 t

/-- The proof data of the pipeline: the inputs' buffers stay at their blocks, the output's ends at the two heads. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (qblk m c t) (kblk m c t) (vblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (qblk m c t) (kblk m c t) (vblk m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A whole block overwritten. -/
theorem put_whole {S : Shape} {α : Type} (x w : S.Idx → α) (off : Fin S.rank → ℕ) (hz : ∀ a, off a = 0) : put (s := S) x off S.size w = w := by
  refine funext fun y => ?_
  unfold put
  have h : ∀ a, off a ≤ (y a).val ∧ (y a).val < off a + S.size a := fun a => by
    rw [hz a]
    exact ⟨Nat.zero_le _, by rw [Nat.zero_add]; exact (y a).isLt⟩
  rw [dif_pos h]
  refine congrArg w (funext fun a => Fin.ext ?_)
  show (y a).val - off a = (y a).val
  rw [hz a, Nat.sub_zero]

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
theorem sound_body (c : Dev nD) (t : Fin cfg0.N) :
    bodyPre m c t ⊢ wp Idealize.ShloMosaic.frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  rw [body_eq]
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩⟩
  iapply (flash_runs (ms0_0 t) (ms0_1 t) (ms0_2 t) (ms0_3 t) (hs0_3 t) scM0_0 scM0_1 (Memref.isWhole_whole _) scM0_2 scM0_3 scM0_4 c
    (q := qblk m c t) (k := kblk m c t) (v := vblk m c t) _ ⟨s0, s1, s2, s3, s4⟩ Set.univ _) $$ [H0 H1 H2 H3 HS0 HS1 HS2 HS3 HS4]
  · isplitr [H3]
    · unfold held
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      iexact HS4
    iexact H3
  rw [all_out, put_whole _ _ _ (fun a => by fin_cases a <;> rfl)]
  unfold held
  iintro ⟨⟨H0, H1, H2, HS0, HS1, HS2, HS3, HS4⟩, H3⟩
  rw [wp_pure]
  imodintro
  isplitl [HS0 HS1 HS2 HS3 HS4 Hg]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hg
  isplitl [Ho]; · iexact Ho
  isplitl [H0]; · iexact H0
  isplitl [H1]; · iexact H1
  isplitl [H2]; · iexact H2
  iexact H3

theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every array at what the proof data says. -/
theorem run_post : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Flash
end
-- ==== Proof.FlashResult.lean ====
/- The array the attention kernel's run ends with: every block of it is one grid point's two heads, and all together are
   one function of the queries, keys and values. -/
module

public import proofs.«01_k».proof.Proof.FlashRun

@[expose] public section

set_option maxRecDepth 16384

noncomputable section

namespace Cert.KernelIdeal.Flash

open Cert.KernelIdeal Cert.KernelIdeal.Gen
open Idealize.ShloMosaic Idealize.ShloMosaic.TcCoe Idealize.SL.Sem
open Idealize.ShloMosaic.Pipeline (Dat Cfg Window)

/-- Lane `d` of head `h`. -/
abbrev lane8 (h : Fin 8) (d : Fin 128) : Fin 1024 := ⟨128 * h.val + d.val, by omega⟩

/-- Key `n` of step `j` of the batch row `R` is in. -/
abbrev keyRow (R : Fin 65536) (j : ℕ) (n : Fin 2048) : Fin 65536 := ⟨8192 * (R.val / 8192) + (2048 * j + n.val) % 8192, by omega⟩

/-- The score of row `R`, head `h`, against key `n` of step `j`. -/
def gScore (Q K : Vec Ideal S65536x1024 .bf16) (R : Fin 65536) (h : Fin 8) (j : ℕ) (n : Fin 2048) : EReal :=
  (∑ d : Fin 128, Q (ix2 R (lane8 h d)) * K (ix2 (keyRow R j n) (lane8 h d))) * scale

/-- The values of lane `l` of head `h`, step by step. -/
def gValue (W : Vec Ideal S65536x1024 .bf16) (R : Fin 65536) (h : Fin 8) (l : Fin 128) (j : ℕ) (n : Fin 2048) : EReal := W (ix2 (keyRow R j n) (lane8 h l))

/-- The result at row `R`, head `h`, lane `l`. -/
def gOut (Q K W : Vec Ideal S65536x1024 .bf16) (R : Fin 65536) (h : Fin 8) (l : Fin 64) : EReal :=
  Ideal.div (Soft.sum (gScore Q K R h) (gValue W R h ⟨l.val, by omega⟩) 4) (Soft.sum (gScore Q K R h) (gValue W R h 64) 4)

/-- The result array: eight heads of sixty-four lanes. -/
def gArray (Q K W : Vec Ideal S65536x1024 .bf16) : Vec Ideal S65536x512 .bf16 := fun y =>
  gOut Q K W (y 0) ⟨(y 1).val / 64, by have : (y 1).val < 512 := (y 1).isLt; omega⟩ ⟨(y 1).val % 64, by omega⟩

/-- Sixteen hundred blocks read as one: a point's block of the result is the array's at its place. -/
theorem headOut_eq (Q K W : Vec Ideal S65536x1024 .bf16) (q : Vec Ideal S1024x256 .bf16) (k v : Vec Ideal S8192x256 .bf16) (b i g : ℕ) (hb : b < 8) (hi : i < 8) (hg : g < 4)
    (hq : ∀ (r : Fin 1024) (d : Fin 256), q (ix2 r d) = Q (ix2 ⟨1024 * (8 * b + i) + r.val, by omega⟩ ⟨256 * g + d.val, by omega⟩))
    (hk : ∀ (n : Fin 8192) (d : Fin 256), k (ix2 n d) = K (ix2 ⟨8192 * b + n.val, by omega⟩ ⟨256 * g + d.val, by omega⟩))
    (hv : ∀ (n : Fin 8192) (d : Fin 256), v (ix2 n d) = W (ix2 ⟨8192 * b + n.val, by omega⟩ ⟨256 * g + d.val, by omega⟩))
    (r : Fin 1024) (l : Fin 128) :
    outBlock q k v (ix2 r l) = gArray Q K W (ix2 ⟨1024 * (8 * b + i) + r.val, by omega⟩ ⟨128 * g + l.val, by omega⟩) := by
  rw [outBlock_at]
  show headOut q k v _ r _ = gOut Q K W ⟨1024 * (8 * b + i) + r.val, by omega⟩ ⟨(128 * g + l.val) / 64, by omega⟩ ⟨(128 * g + l.val) % 64, by omega⟩
  have hlane : ∀ d : Fin 128, (⟨256 * g + (lane2 ⟨l.val / 64, by omega⟩ d).val, by have := (lane2 ⟨l.val / 64, by omega⟩ d).isLt; omega⟩ : Fin 1024) = lane8 ⟨(128 * g + l.val) / 64, by omega⟩ d := fun d =>
    Fin.ext (by show 256 * g + (128 * (l.val / 64) + d.val) = 128 * ((128 * g + l.val) / 64) + d.val; omega)
  have hrow : ∀ (j : ℕ) (n : Fin 2048), (⟨8192 * b + (keyOf j n).val, by have := (keyOf j n).isLt; omega⟩ : Fin 65536) = keyRow ⟨1024 * (8 * b + i) + r.val, by omega⟩ j n := fun j n =>
    Fin.ext (by show 8192 * b + (2048 * j + n.val) % 8192 = 8192 * ((1024 * (8 * b + i) + r.val) / 8192) + (2048 * j + n.val) % 8192; omega)
  have hs : rowScore q k ⟨l.val / 64, by omega⟩ r = gScore Q K ⟨1024 * (8 * b + i) + r.val, by omega⟩ ⟨(128 * g + l.val) / 64, by omega⟩ := by
    funext j n
    unfold rowScore gScore
    refine congrArg (· * scale) (Finset.sum_congr rfl fun d _ => ?_)
    rw [hq, hk, hlane, hrow]
  have hw : ∀ d, rowValue v ⟨l.val / 64, by omega⟩ d = gValue W ⟨1024 * (8 * b + i) + r.val, by omega⟩ ⟨(128 * g + l.val) / 64, by omega⟩ d := fun d => by
    funext j n
    unfold rowValue gValue
    rw [hv, hlane, hrow]
  have hl : (⟨l.val % 64, by omega⟩ : Fin 128) = ⟨(128 * g + l.val) % 64, by omega⟩ := Fin.ext (by show l.val % 64 = (128 * g + l.val) % 64; omega)
  unfold headOut gOut
  rw [hs, hw, hw, hl]

variable (m : (ℓ : Loc nD τ sig) → Buf (Elt Ideal) ℓ) (ρ : Dev nD → PrngReg)

/-! ## Where the blocks lie -/

theorem at0 (t : Fin cfg0.N) : win0_0.index t 0 = 8 * (t.val / 32) + t.val % 8 ∧ win0_0.index t 1 = t.val / 8 % 4 :=
  (by decide +kernel : ∀ t : Fin grid0.N, win0_0.index t 0 = 8 * (t.val / 32) + t.val % 8 ∧ win0_0.index t 1 = t.val / 8 % 4) t
theorem at1 (t : Fin cfg0.N) : win0_1.index t 0 = t.val / 32 ∧ win0_1.index t 1 = t.val / 8 % 4 :=
  (by decide +kernel : ∀ t : Fin grid0.N, win0_1.index t 0 = t.val / 32 ∧ win0_1.index t 1 = t.val / 8 % 4) t
theorem at2 (t : Fin cfg0.N) : win0_2.index t 0 = t.val / 32 ∧ win0_2.index t 1 = t.val / 8 % 4 :=
  (by decide +kernel : ∀ t : Fin grid0.N, win0_2.index t 0 = t.val / 32 ∧ win0_2.index t 1 = t.val / 8 % 4) t
theorem at3 (t : Fin cfg0.N) : win0_3.index t 0 = 8 * (t.val / 32) + t.val % 8 ∧ win0_3.index t 1 = t.val / 8 % 4 :=
  (by decide +kernel : ∀ t : Fin grid0.N, win0_3.index t 0 = 8 * (t.val / 32) + t.val % 8 ∧ win0_3.index t 1 = t.val / 8 % 4) t

theorem lt_256 (t : Fin cfg0.N) : t.val < 256 := lt_of_lt_of_eq t.isLt N_0

/-- The queries', keys' and values' arrays as the region finds them. -/
abbrev qArr (c : Dev nD) : Vec Ideal S65536x1024 .bf16 := V m c main_v39
abbrev kArr (c : Dev nD) : Vec Ideal S65536x1024 .bf16 := V m c main_v62
abbrev vArr (c : Dev nD) : Vec Ideal S65536x1024 .bf16 := V m c main_v70

theorem qblk_at (c : Dev nD) (t : Fin cfg0.N) (r : Fin 1024) (d : Fin 256) :
    qblk m c t (ix2 r d) = qArr m c (ix2 ⟨1024 * (8 * (t.val / 32) + t.val % 8) + r.val, by have := lt_256 t; omega⟩ ⟨256 * (t.val / 8 % 4) + d.val, by omega⟩) := by
  unfold qblk iblk
  rw [View.read_apply]
  refine congrArg (qArr m c) (funext fun a => Fin.ext ?_)
  match a with
  | ⟨0, _⟩ => show win0_0.index t 0 * 1024 + 1 * r.val = _; rw [(at0 t).1]; show _ = 1024 * (8 * (t.val / 32) + t.val % 8) + r.val; omega
  | ⟨1, _⟩ => show win0_0.index t 1 * 256 + 1 * d.val = _; rw [(at0 t).2]; show _ = 256 * (t.val / 8 % 4) + d.val; omega

theorem kblk_at (c : Dev nD) (t : Fin cfg0.N) (n : Fin 8192) (d : Fin 256) :
    kblk m c t (ix2 n d) = kArr m c (ix2 ⟨8192 * (t.val / 32) + n.val, by have := lt_256 t; omega⟩ ⟨256 * (t.val / 8 % 4) + d.val, by omega⟩) := by
  unfold kblk iblk
  rw [View.read_apply]
  refine congrArg (kArr m c) (funext fun a => Fin.ext ?_)
  match a with
  | ⟨0, _⟩ => show win0_1.index t 0 * 8192 + 1 * n.val = _; rw [(at1 t).1]; show _ = 8192 * (t.val / 32) + n.val; omega
  | ⟨1, _⟩ => show win0_1.index t 1 * 256 + 1 * d.val = _; rw [(at1 t).2]; show _ = 256 * (t.val / 8 % 4) + d.val; omega

theorem vblk_at (c : Dev nD) (t : Fin cfg0.N) (n : Fin 8192) (d : Fin 256) :
    vblk m c t (ix2 n d) = vArr m c (ix2 ⟨8192 * (t.val / 32) + n.val, by have := lt_256 t; omega⟩ ⟨256 * (t.val / 8 % 4) + d.val, by omega⟩) := by
  unfold vblk iblk
  rw [View.read_apply]
  refine congrArg (vArr m c) (funext fun a => Fin.ext ?_)
  match a with
  | ⟨0, _⟩ => show win0_2.index t 0 * 8192 + 1 * n.val = _; rw [(at2 t).1]; show _ = 8192 * (t.val / 32) + n.val; omega
  | ⟨1, _⟩ => show win0_2.index t 1 * 256 + 1 * d.val = _; rw [(at2 t).2]; show _ = 256 * (t.val / 8 % 4) + d.val; omega

/-- The result array. -/
abbrev result (c : Dev nD) : Buf (Elt Ideal) ((c : Thread nD τ).loc main_v71) := gArray (qArr m c) (kArr m c) (vArr m c)

/-- A block of the result array, at an index. -/
theorem oblk_at (X : Vec Ideal S65536x512 .bf16) (t : Fin cfg0.N) (r : Fin 1024) (l : Fin 128) :
    ((cfg0.win 3).blk t).view.read (Elt Ideal) X (ix2 r l)
      = X (ix2 ⟨1024 * (8 * (t.val / 32) + t.val % 8) + r.val, by have := lt_256 t; omega⟩ ⟨128 * (t.val / 8 % 4) + l.val, by omega⟩) := by
  rw [View.read_apply]
  refine congrArg X (funext fun a => Fin.ext ?_)
  match a with
  | ⟨0, _⟩ => show win0_3.index t 0 * 1024 + 1 * r.val = _; rw [(at3 t).1]; show _ = 1024 * (8 * (t.val / 32) + t.val % 8) + r.val; omega
  | ⟨1, _⟩ => show win0_3.index t 1 * 128 + 1 * l.val = _; rw [(at3 t).2]; show _ = 128 * (t.val / 8 % 4) + l.val; omega

/-- Two blocks equal at every index are equal. -/
theorem block_ext (x y : Vec Ideal S1024x128 .bf16) (h : ∀ (r : Fin 1024) (l : Fin 128), x (ix2 r l) = y (ix2 r l)) : x = y := by
  funext z
  obtain ⟨r, l, rfl⟩ : ∃ (r : Fin 1024) (l : Fin 128), z = ix2 r l := ⟨z 0, z 1, by funext i; match i with | ⟨0, _⟩ => rfl | ⟨1, _⟩ => rfl⟩
  exact h r l

theorem outBlock_eq (c : Dev nD) (t : Fin cfg0.N) :
    outBlock (qblk m c t) (kblk m c t) (vblk m c t) = ((cfg0.win 3).blk t).view.read (Elt Ideal) (result m c) := by
  have ht := lt_256 t
  refine block_ext _ _ fun r l => ?_
  refine Eq.trans ?_ (oblk_at (result m c) t r l).symm
  exact headOut_eq (qArr m c) (kArr m c) (vArr m c) (qblk m c t) (kblk m c t) (vblk m c t) (t.val / 32) (t.val % 8) (t.val / 8 % 4) (by omega) (by omega) (by omega)
    (qblk_at m c t) (kblk_at m c t) (vblk_at m c t) r l

theorem flushed_eq (c : Dev nD) (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3, ← outBlock_eq]
  rfl

theorem final_out (c : Dev nD) : (dats m 0 c).arrAt 3 cfg0.N = result m c :=
  (dats m 0 c).arrAt_eq_of_cover 3 (result m c) (flushed_eq m c) fun i => by
    have h0 : (i 0 : Nat) < 65536 := (i 0).isLt
    have h1 : (i 1 : Nat) < 512 := (i 1).isLt
    have hN : cfg0.N = 256 := N_0
    let t : Fin cfg0.N := ⟨32 * ((i 0 : Nat) / 8192) + 8 * ((i 1 : Nat) / 128) + (i 0 : Nat) / 1024 % 8, by rw [hN]; omega⟩
    have e0 : win0_3.index t 0 = (i 0 : Nat) / 1024 := (at3 t).1.trans (by
      show 8 * ((32 * ((i 0 : Nat) / 8192) + 8 * ((i 1 : Nat) / 128) + (i 0 : Nat) / 1024 % 8) / 32) + (32 * ((i 0 : Nat) / 8192) + 8 * ((i 1 : Nat) / 128) + (i 0 : Nat) / 1024 % 8) % 8 = _
      omega)
    have e1 : win0_3.index t 1 = (i 1 : Nat) / 128 := (at3 t).2.trans (by
      show (32 * ((i 0 : Nat) / 8192) + 8 * ((i 1 : Nat) / 128) + (i 0 : Nat) / 1024 % 8) / 8 % 4 = _
      omega)
    refine ⟨t, flush0_3 t, ?_⟩
    show i ∈ ((View.whole main_v71).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [e0]; omega
    | ⟨1, _⟩ =>
      show win0_3.index t 1 * 128 ≤ (i 1 : Nat) ∧ (i 1 : Nat) < win0_3.index t 1 * 128 + 128
      rw [e1]; omega

/-- The run, read: the result array, and the arguments unchanged. -/
theorem run : θ_run defs (onTc (τ := τ) (main (F := Ideal))) ⟨m, fun _ => 0, ρ⟩ fun r => ∀ c : Dev nD,
      r.2.mem ((c.tc : Thread nD τ).loc main_v71) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final_out m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_post m ρ)

end Cert.KernelIdeal.Flash
end
-- ==== Proof.FlashHost.lean ====
/- The arrays the attention kernel is called with, as terms of the arguments: the queries and keys with their rotated parts
   beside them, and the values with a lane of ones. -/
module

public import proofs.«01_k».proof.Proof.FlashResult

@[expose] public section

set_option maxRecDepth 16384

noncomputable section

namespace Cert.KernelIdeal.Flash

open Cert.KernelIdeal Cert.KernelIdeal.Gen
open Idealize.ShloMosaic Idealize.ShloMosaic.TcCoe Idealize.SL.Sem

/-- The angles of the rotation. -/
def angTerm : FVec Ideal S8192x16 .f32 :=
  mulf (broadcastInDim S8192x16 ![0, 1] bcast_S8192x1_S8192x16_0_1 (broadcastInDim S8192x1 ![0] bcast_S8192_S8192x1_0 (sitofp .f32 (iotaInDim S8192 32 0))))
    (broadcastInDim S8192x16 ![0, 1] bcast_S1x16_S8192x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- A table laid out four times over. -/
def four (x : FVec Ideal S8192x16 .f32) : FVec Ideal S8192x64 .f32 :=
  shapeCast S8192x64 (broadcastInDim S1x8192x4x16 ![0, 1, 2, 3] bcast_S1x8192x1x16_S1x8192x4x16_0_1_2_3 (shapeCast S1x8192x1x16 x shapeCasts_S8192x16_S1x8192x1x16)) shapeCasts_S1x8192x4x16_S8192x64

/-- The queries' table: ones, the cosines, the sines. -/
def qTab : FVec Ideal S8192x128 .f32 :=
  concatenate S8192x128 1 [⟨S8192x64, (broadcastInDim S8192x64 ![] bcast_S_S8192x64 (constant (F := Ideal) S_ .f32 0x3F800000#32))⟩,
    ⟨S8192x32, extractStridedSlice S8192x32 ![0, 0] (four (Host.cos angTerm)) slices_S8192x64_S8192x32_0_0⟩,
    ⟨S8192x32, extractStridedSlice S8192x32 ![0, 0] (four (Host.sin angTerm)) slices_S8192x64_S8192x32_0_0⟩] concatenates_S8192x64_S8192x32_S8192x32_S8192x128_d1

/-- A key table: zeros, then the cosines or the sines. -/
def kTab (x : FVec Ideal S8192x16 .f32) : FVec Ideal S8192x128 .f32 :=
  concatenate S8192x128 1 [⟨S8192x64, (broadcastInDim S8192x64 ![] bcast_S_S8192x64 (constant (F := Ideal) S_ .f32 0x00000000#32))⟩, ⟨S8192x64, four x⟩] concatenates_S8192x64_S8192x64_S8192x128_d1

/-- The queries by heads. -/
def qHeads (x : FVec Ideal S8x8192x768 .f32) : FVec Ideal S8x8192x8x96 .f32 := shapeCast S8x8192x8x96 x shapeCasts_S8x8192x768_S8x8192x8x96

/-- The queries' rotary parts. -/
def qRope (x : FVec Ideal S8x8192x768 .f32) : FVec Ideal S8x8192x8x32 .f32 :=
  extractStridedSlice S8x8192x8x32 ![0, 0, 0, 64] (qHeads x) slices_S8x8192x8x96_S8x8192x8x32_0_0_0_64

/-- The queries' rotary parts, their halves exchanged. -/
def qRot (x : FVec Ideal S8x8192x768 .f32) : FVec Ideal S8x8192x8x32 .f32 :=
  concatenate S8x8192x8x32 3 [⟨S8x8192x8x16, Host.negf (extractStridedSlice S8x8192x8x16 ![0, 0, 0, 16] (qRope x) slices_S8x8192x8x32_S8x8192x8x16_0_0_0_16)⟩,
    ⟨S8x8192x8x16, extractStridedSlice S8x8192x8x16 ![0, 0, 0, 0] (qRope x) slices_S8x8192x8x32_S8x8192x8x16_0_0_0_0⟩] concatenates_S8x8192x8x16_S8x8192x8x16_S8x8192x8x32_d3

/-- The queries' lanes before the table. -/
def qLanes (x : FVec Ideal S8x8192x768 .f32) : FVec Ideal S8x8192x8x128 .f32 :=
  concatenate S8x8192x8x128 3 [⟨S8x8192x8x64, extractStridedSlice S8x8192x8x64 ![0, 0, 0, 0] (qHeads x) slices_S8x8192x8x96_S8x8192x8x64_0_0_0_0⟩,
    ⟨S8x8192x8x32, qRope x⟩, ⟨S8x8192x8x32, qRot x⟩] concatenates_S8x8192x8x64_S8x8192x8x32_S8x8192x8x32_S8x8192x8x128_d3

/-- The queries the kernel is called with. -/
def qTerm (x : FVec Ideal S8x8192x768 .f32) : FVec Ideal S65536x1024 .bf16 :=
  shapeCast S65536x1024
    (truncf .bf16 (mulf (qLanes x) (broadcastInDim S8x8192x8x128 ![0, 1, 2, 3] bcast_S1x8192x1x128_S8x8192x8x128_0_1_2_3
      (broadcastInDim S1x8192x1x128 ![1, 3] bcast_S8192x128_S1x8192x1x128_1_3 qTab))) bitsLt_bf16_f32) shapeCasts_S8x8192x8x128_S65536x1024

/-- The keys and values by heads. -/
def kvHeads (y : FVec Ideal S8x8192x1024 .f32) : FVec Ideal S8x8192x8x128 .f32 := shapeCast S8x8192x8x128 y shapeCasts_S8x8192x1024_S8x8192x8x128

/-- The shared rotary key, its halves exchanged. -/
def kRot (z : FVec Ideal S8x8192x32 .f32) : FVec Ideal S8x8192x32 .f32 :=
  concatenate S8x8192x32 2 [⟨S8x8192x16, Host.negf (extractStridedSlice S8x8192x16 ![0, 0, 16] z slices_S8x8192x32_S8x8192x16_0_0_16)⟩,
    ⟨S8x8192x16, extractStridedSlice S8x8192x16 ![0, 0, 0] z slices_S8x8192x32_S8x8192x16_0_0_0⟩] concatenates_S8x8192x16_S8x8192x16_S8x8192x32_d2

/-- Zeros, then an array twice. -/
def twice (z : FVec Ideal S8x8192x32 .f32) : FVec Ideal S8x8192x128 .f32 :=
  concatenate S8x8192x128 2 [⟨S8x8192x64, (broadcastInDim S8x8192x64 ![] bcast_S_S8x8192x64 (constant (F := Ideal) S_ .f32 0x00000000#32))⟩, ⟨S8x8192x32, z⟩, ⟨S8x8192x32, z⟩]
    concatenates_S8x8192x64_S8x8192x32_S8x8192x32_S8x8192x128_d2

/-- A key table over the batch. -/
def kWide (x : FVec Ideal S8192x128 .f32) : FVec Ideal S8x8192x128 .f32 :=
  broadcastInDim S8x8192x128 ![0, 1, 2] bcast_S1x8192x128_S8x8192x128_0_1_2 (broadcastInDim S1x8192x128 ![1, 2] bcast_S8192x128_S1x8192x128_1_2 x)

/-- The rotated shared key's lanes. -/
def kRope (z : FVec Ideal S8x8192x32 .f32) : FVec Ideal S8x8192x128 .f32 :=
  addf (mulf (twice z) (kWide (kTab (Host.cos angTerm)))) (mulf (twice (kRot z)) (kWide (kTab (Host.sin angTerm))))

/-- Sixty-four lanes, then zeros. -/
def padded (y : FVec Ideal S8x8192x8x64 .f32) : FVec Ideal S8x8192x8x128 .f32 :=
  concatenate S8x8192x8x128 3 [⟨S8x8192x8x64, y⟩, ⟨S8x8192x8x64, (broadcastInDim S8x8192x8x64 ![] bcast_S_S8x8192x8x64 (constant (F := Ideal) S_ .f32 0x00000000#32))⟩]
    concatenates_S8x8192x8x64_S8x8192x8x64_S8x8192x8x128_d3

/-- The keys the kernel is called with. -/
def kTerm (y : FVec Ideal S8x8192x1024 .f32) (z : FVec Ideal S8x8192x32 .f32) : FVec Ideal S65536x1024 .bf16 :=
  shapeCast S65536x1024
    (truncf .bf16 (addf (padded (extractStridedSlice S8x8192x8x64 ![0, 0, 0, 0] (kvHeads y) slices_S8x8192x8x128_S8x8192x8x64_0_0_0_0))
      (broadcastInDim S8x8192x8x128 ![0, 1, 2, 3] bcast_S8x8192x1x128_S8x8192x8x128_0_1_2_3 (broadcastInDim S8x8192x1x128 ![0, 1, 3] bcast_S8x8192x128_S8x8192x1x128_0_1_3 (kRope z)))) bitsLt_bf16_f32)
    shapeCasts_S8x8192x8x128_S65536x1024

/-- The values the kernel is called with. -/
def vTerm (y : FVec Ideal S8x8192x1024 .f32) : FVec Ideal S65536x1024 .bf16 :=
  shapeCast S65536x1024
    (truncf .bf16 (select (cmpi .eq (iotaInDim S8x8192x8x128 32 3) (broadcastInDim S8x8192x8x128 ![] bcast_S_S8x8192x8x128 (constantI S_ 32 64#32)))
      (broadcastInDim S8x8192x8x128 ![] bcast_S_S8x8192x8x128 (constant (F := Ideal) S_ .f32 0x3F800000#32))
      (padded (extractStridedSlice S8x8192x8x64 ![0, 0, 0, 64] (kvHeads y) slices_S8x8192x8x128_S8x8192x8x64_0_0_0_64))) bitsLt_bf16_f32)
    shapeCasts_S8x8192x8x128_S65536x1024

variable (m : (ℓ : Loc nD τ sig) → Buf (Elt Ideal) ℓ) (c : Dev nD)

set_option maxHeartbeats 8000000 in
theorem V_q : V m c main_v39 = qTerm (m ((c.tc : Thread nD τ).loc main_arg0)) := by
  unfold V
  simp only [List.flatten_cons, List.flatten_nil, List.append_nil, List.cons_append, List.nil_append]
  after_results_simp
  all_goals rfl

set_option maxHeartbeats 8000000 in
theorem V_k : V m c main_v62 = kTerm (m ((c.tc : Thread nD τ).loc main_arg1)) (m ((c.tc : Thread nD τ).loc main_arg2)) := by
  unfold V
  simp only [List.flatten_cons, List.flatten_nil, List.append_nil, List.cons_append, List.nil_append]
  after_results_simp
  all_goals rfl

set_option maxHeartbeats 8000000 in
theorem V_v : V m c main_v70 = vTerm (m ((c.tc : Thread nD τ).loc main_arg1)) := by
  unfold V
  simp only [List.flatten_cons, List.flatten_nil, List.append_nil, List.cons_append, List.nil_append]
  after_results_simp
  all_goals rfl

end Cert.KernelIdeal.Flash
end
-- ==== Proof.FlashLanes.lean ====
/- The lanes of the arrays the attention kernel is called with, of real arguments. -/
module

public import proofs.«01_k».proof.Proof.FlashHost
public import Idealize.ShloMosaic.Lib.Pointwise

@[expose] public section

set_option maxRecDepth 16384

noncomputable section

namespace Cert.Mla

open Idealize.ShloMosaic

/-- The angle of token `s` in the pair `i`. -/
def ang (s : Fin 8192) (i : Fin 16) : ℝ := (s.val : ℝ) * Real.rpow 10000 (-(i.val : ℝ) * (1 / 16))

/-- The cosine and the sine of lane `i` of a rotary part, at token `s`. -/
def co (s : Fin 8192) (i : Fin 32) : ℝ := Real.cos (ang s ⟨i.val % 16, by omega⟩)
@[inherit_doc co] def si (s : Fin 8192) (i : Fin 32) : ℝ := Real.sin (ang s ⟨i.val % 16, by omega⟩)

/-- The halves of a rotary part exchanged, the first negated. -/
def rot (p : Fin 32 → ℝ) (i : Fin 32) : ℝ := if h : i.val < 16 then - p ⟨16 + i.val, by omega⟩ else p ⟨i.val - 16, by omega⟩

/-- A rotary part turned by its token's angles. -/
def rope (s : Fin 8192) (p : Fin 32 → ℝ) (i : Fin 32) : ℝ := p i * co s i + rot p i * si s i

theorem angle_real (s : Fin 8192) (i : Fin 16) :
    (FloatOps.sitofp (F := Ideal) FTy.f32 (BitVec.ofNat 32 s.val) : EReal) *
      (Ideal.pow (Ideal.ofBits FTy.f32 0x461C4000#32) (Ideal.div (-(FloatOps.sitofp (F := Ideal) FTy.f32 (BitVec.ofNat 32 i.val) : EReal)) (Ideal.ofBits FTy.f32 0x41800000#32)))
      = ((ang s i : ℝ) : EReal) := by
  have h1 : (Ideal.ofBits .f32 0x461C4000#32 : EReal) = ((10000 : ℝ) : EReal) := by simp [Ideal.ofBits, Ideal.ieee, -EReal.coe_mul]; norm_num
  have h2 : (Ideal.ofBits .f32 0x41800000#32 : EReal) = ((16 : ℝ) : EReal) := by simp [Ideal.ofBits, Ideal.ieee, -EReal.coe_mul]; norm_num
  have h3 : ∀ n : ℕ, n < 8192 → (FloatOps.sitofp (F := Ideal) FTy.f32 (BitVec.ofNat 32 n) : EReal) = ((n : ℝ) : EReal) := by
    intro n hn
    change (((BitVec.ofNat 32 n).toInt : ℝ) : EReal) = _
    have : (BitVec.ofNat 32 n).toInt = n := by
      rw [BitVec.toInt_eq_toNat_of_lt] <;> simp <;> omega
    rw [this]; simp
  rw [h1, h2, h3 _ s.isLt, h3 _ (by omega), ← EReal.coe_neg, Ideal.div_coe (by norm_num), ← EReal.coe_mul, Ideal.pow_coe_coe]
  exact (EReal.coe_mul _ _).symm

end Cert.Mla

namespace Cert.KernelIdeal.Flash

open Cert.KernelIdeal Cert.KernelIdeal.Gen
open Idealize.ShloMosaic Idealize.ShloMosaic.TcCoe Idealize.SL.Sem
open Cert.Mla

/-- Token `s` of batch `b` as a row. -/
abbrev row (b : Fin 8) (s : Fin 8192) : Fin 65536 := ⟨8192 * b.val + s.val, by omega⟩

theorem angTerm_at (s : Fin 8192) (i : Fin 16) : angTerm (ix2 s i) = ((ang s i : ℝ) : EReal) := by
  rw [← angle_real]
  pointwise [angTerm]

theorem cosTerm_at (s : Fin 8192) (i : Fin 16) : Host.cos angTerm (ix2 s i) = ((Real.cos (ang s i) : ℝ) : EReal) := by
  change Ideal.cos (angTerm (ix2 s i)) = _
  rw [angTerm_at, Ideal.cos_coe]

theorem sinTerm_at (s : Fin 8192) (i : Fin 16) : Host.sin angTerm (ix2 s i) = ((Real.sin (ang s i) : ℝ) : EReal) := by
  change Ideal.sin (angTerm (ix2 s i)) = _
  rw [angTerm_at, Ideal.sin_coe]

theorem four_at (x : FVec Ideal S8192x16 .f32) (s : Fin 8192) (i : Fin 64) : four x (ix2 s i) = x (ix2 s ⟨i.val % 16, by omega⟩) := by
  pointwise [four]

/-- The queries' table by lanes. -/
theorem qTab_at (s : Fin 8192) (d : Fin 128) :
    qTab (ix2 s d) = if h : d.val < 64 then ((1 : ℝ) : EReal) else if h' : d.val - 64 < 32 then ((co s ⟨d.val - 64, h'⟩ : ℝ) : EReal)
      else ((si s ⟨d.val - 64 - 32, by omega⟩ : ℝ) : EReal) := by
  have hc : ∀ i : Fin 64, four (Host.cos angTerm) (ix2 s i) = ((Real.cos (ang s ⟨i.val % 16, by omega⟩) : ℝ) : EReal) := fun i => by rw [four_at, cosTerm_at]
  have hs : ∀ i : Fin 64, four (Host.sin angTerm) (ix2 s i) = ((Real.sin (ang s ⟨i.val % 16, by omega⟩) : ℝ) : EReal) := fun i => by rw [four_at, sinTerm_at]
  pointwise [qTab]
  simp only [hc, hs]
  rfl

/-- A key table by lanes. -/
theorem kTab_at (x : FVec Ideal S8192x16 .f32) (s : Fin 8192) (d : Fin 128) :
    kTab x (ix2 s d) = if h : d.val < 64 then (0 : EReal) else x (ix2 s ⟨(d.val - 64) % 16, by omega⟩) := by
  have hc : ∀ i : Fin 64, four x (ix2 s i) = x (ix2 s ⟨i.val % 16, by omega⟩) := four_at x s
  pointwise [kTab]
  simp only [hc]

section Queries
variable (x : FVec Ideal S8x8192x768 .f32)

theorem qRope_at (b : Fin 8) (s : Fin 8192) (h : Fin 8) (i : Fin 32) :
    qRope x (ix4 b s h i) = x (ix3 b s ⟨h.val * 96 + (64 + i.val), by omega⟩) := by
  pointwise [qRope, qHeads]

theorem qRot_at (b : Fin 8) (s : Fin 8192) (h : Fin 8) (i : Fin 32) :
    qRot x (ix4 b s h i) = if hi : i.val < 16 then - qRope x (ix4 b s h ⟨16 + i.val, by omega⟩) else qRope x (ix4 b s h ⟨i.val - 16, by omega⟩) := by
  pointwise [qRot]

theorem qLanes_at (b : Fin 8) (s : Fin 8192) (h : Fin 8) (d : Fin 128) :
    qLanes x (ix4 b s h d) = if h1 : d.val < 64 then x (ix3 b s ⟨h.val * 96 + d.val, by omega⟩)
      else if h2 : d.val - 64 < 32 then qRope x (ix4 b s h ⟨d.val - 64, h2⟩) else qRot x (ix4 b s h ⟨d.val - 64 - 32, by omega⟩) := by
  pointwise [qLanes, qHeads]

theorem qTerm_at (b : Fin 8) (s : Fin 8192) (h : Fin 8) (d : Fin 128) :
    qTerm x (ix2 (row b s) (lane8 h d)) = qLanes x (ix4 b s h d) * qTab (ix2 s d) := by
  have e1 : (8192 * b.val + s.val) / 8192 = b.val := by omega
  have e2 : (8192 * b.val + s.val) % 8192 = s.val := by omega
  have e3 : (128 * h.val + d.val) / 128 = h.val := by omega
  have e4 : (128 * h.val + d.val) % 128 = d.val := by omega
  pointwise [qTerm]
  simp only [e1, e2, e3, e4]

end Queries

section Keys
variable (y : FVec Ideal S8x8192x1024 .f32) (z : FVec Ideal S8x8192x32 .f32)

theorem kRot_at (b : Fin 8) (s : Fin 8192) (i : Fin 32) :
    kRot z (ix3 b s i) = if hi : i.val < 16 then - z (ix3 b s ⟨16 + i.val, by omega⟩) else z (ix3 b s ⟨i.val - 16, by omega⟩) := by
  pointwise [kRot]

theorem twice_at (b : Fin 8) (s : Fin 8192) (d : Fin 128) :
    twice z (ix3 b s d) = if h1 : d.val < 64 then (0 : EReal)
      else if h2 : d.val - 64 < 32 then z (ix3 b s ⟨d.val - 64, h2⟩) else z (ix3 b s ⟨d.val - 64 - 32, by omega⟩) := by
  pointwise [twice]

theorem kRope_at (b : Fin 8) (s : Fin 8192) (d : Fin 128) :
    kRope z (ix3 b s d) = twice z (ix3 b s d) * kTab (Host.cos angTerm) (ix2 s d) + twice (kRot z) (ix3 b s d) * kTab (Host.sin angTerm) (ix2 s d) := by
  pointwise [kRope, kWide]

theorem padded_at (w : FVec Ideal S8x8192x8x64 .f32) (b : Fin 8) (s : Fin 8192) (h : Fin 8) (d : Fin 128) :
    padded w (ix4 b s h d) = if h1 : d.val < 64 then w (ix4 b s h ⟨d.val, h1⟩) else (0 : EReal) := by
  pointwise [padded]

theorem kTerm_at (b : Fin 8) (s : Fin 8192) (h : Fin 8) (d : Fin 128) :
    kTerm y z (ix2 (row b s) (lane8 h d)) = (if h1 : d.val < 64 then y (ix3 b s ⟨h.val * 128 + d.val, by omega⟩) else (0 : EReal)) + kRope z (ix3 b s d) := by
  have e1 : (8192 * b.val + s.val) / 8192 = b.val := by omega
  have e2 : (8192 * b.val + s.val) % 8192 = s.val := by omega
  have e3 : (128 * h.val + d.val) / 128 = h.val := by omega
  have e4 : (128 * h.val + d.val) % 128 = d.val := by omega
  have hp := padded_at (extractStridedSlice S8x8192x8x64 ![0, 0, 0, 0] (kvHeads y) slices_S8x8192x8x128_S8x8192x8x64_0_0_0_0) b s h d
  pointwise [kTerm]
  simp only [e1, e2, e3, e4, hp]
  pointwise [kvHeads]

theorem vTerm_at (b : Fin 8) (s : Fin 8192) (h : Fin 8) (l : Fin 64) :
    vTerm y (ix2 (row b s) (lane8 h ⟨l.val, by omega⟩)) = y (ix3 b s ⟨h.val * 128 + (64 + l.val), by omega⟩) := by
  have e1 : (8192 * b.val + s.val) / 8192 = b.val := by omega
  have e2 : (8192 * b.val + s.val) % 8192 = s.val := by omega
  have e3 : (128 * h.val + l.val) / 128 = h.val := by omega
  have e4 : (128 * h.val + l.val) % 128 = l.val := by omega
  have e5 : ∀ i : Fin 64, IntOp.cmpi CmpIPredicate.eq (BitVec.ofNat 32 i.val) 64#32 = 0#1 := by decide
  have hp := padded_at (extractStridedSlice S8x8192x8x64 ![0, 0, 0, 64] (kvHeads y) slices_S8x8192x8x128_S8x8192x8x64_0_0_0_64) b s h ⟨l.val, by omega⟩
  pointwise [vTerm]
  simp only [e1, e2, e3, e4, e5, hp]
  rw [dif_pos l.isLt]
  change extractStridedSlice S8x8192x8x64 ![0, 0, 0, 64] (kvHeads y) slices_S8x8192x8x128_S8x8192x8x64_0_0_0_64 (ix4 b s h l) = _
  pointwise [kvHeads]

theorem vTerm_one (b : Fin 8) (s : Fin 8192) (h : Fin 8) :
    vTerm y (ix2 (row b s) (lane8 h 64)) = 1 := by
  have e4 : (128 * h.val + 64) % 128 = 64 := by omega
  pointwise [vTerm]
  simp only [e4]
  rfl

end Keys

end Cert.KernelIdeal.Flash
end
-- ==== Proof.FlashRef.lean ====
/- The reference's result as a term of the arguments, in layers. -/
module

public import proofs.«01_k».proof.Proof.FlashLanes
public import proofs.«01_k».proof.Proof.Gen.ReferenceIdeal.Run

@[expose] public section

set_option maxRecDepth 16384

noncomputable section

namespace Cert.ReferenceIdeal.Mla

open Cert.ReferenceIdeal Cert.ReferenceIdeal.Gen
open Idealize.ShloMosaic Idealize.ShloMosaic.TcCoe Idealize.SL.Sem
open Cert.Mla

/-- The angles of the rotation. -/
def angTerm : FVec Ideal S8192x16 .f32 :=
  mulf (broadcastInDim S8192x16 ![0, 1] bcast_S8192x1_S8192x16_0_1 (broadcastInDim S8192x1 ![0] bcast_S8192_S8192x1_0 (sitofp .f32 (iotaInDim S8192 32 0))))
    (broadcastInDim S8192x16 ![0, 1] bcast_S1x16_S8192x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- A table over the batch and the heads. -/
def overHeads (t : FVec Ideal S8192x16 .f32) : FVec Ideal S8x8192x8x16 .f32 :=
  broadcastInDim S8x8192x8x16 ![0, 1, 2, 3] bcast_S1x8192x1x16_S8x8192x8x16_0_1_2_3 (broadcastInDim S1x8192x1x16 ![1, 2, 3] bcast_S8192x1x16_S1x8192x1x16_1_2_3
    (broadcastInDim S8192x1x16 ![0, 2] bcast_S8192x16_S8192x1x16_0_2 t))

/-- A table over the batch. -/
def overBatch (t : FVec Ideal S8192x16 .f32) : FVec Ideal S8x8192x1x16 .f32 :=
  broadcastInDim S8x8192x1x16 ![0, 1, 2, 3] bcast_S1x8192x1x16_S8x8192x1x16_0_1_2_3 (broadcastInDim S1x8192x1x16 ![1, 2, 3] bcast_S8192x1x16_S1x8192x1x16_1_2_3
    (broadcastInDim S8192x1x16 ![0, 2] bcast_S8192x16_S8192x1x16_0_2 t))

section
variable (x : FVec Ideal S8x8192x768 .f32) (y : FVec Ideal S8x8192x1024 .f32) (z : FVec Ideal S8x8192x32 .f32)

def qHeads : FVec Ideal S8x8192x8x96 .f32 := shapeCast S8x8192x8x96 x shapeCasts_S8x8192x768_S8x8192x8x96
def qPlain : FVec Ideal S8x8192x8x64 .f32 := extractStridedSlice S8x8192x8x64 ![0, 0, 0, 0] (qHeads x) slices_S8x8192x8x96_S8x8192x8x64_0_0_0_0
def qPart : FVec Ideal S8x8192x8x32 .f32 := extractStridedSlice S8x8192x8x32 ![0, 0, 0, 64] (qHeads x) slices_S8x8192x8x96_S8x8192x8x32_0_0_0_64
def qLo : FVec Ideal S8x8192x8x16 .f32 := extractStridedSlice S8x8192x8x16 ![0, 0, 0, 0] (qPart x) slices_S8x8192x8x32_S8x8192x8x16_0_0_0_0
def qHi : FVec Ideal S8x8192x8x16 .f32 := extractStridedSlice S8x8192x8x16 ![0, 0, 0, 16] (qPart x) slices_S8x8192x8x32_S8x8192x8x16_0_0_0_16

/-- The queries' rotary parts turned. -/
def qRoped : FVec Ideal S8x8192x8x32 .f32 :=
  Value.fn_main_v35 (F := Ideal) (subf (mulf (qLo x) (overHeads (Host.cos angTerm))) (mulf (qHi x) (overHeads (Host.sin angTerm))))
    (addf (mulf (qHi x) (overHeads (Host.cos angTerm))) (mulf (qLo x) (overHeads (Host.sin angTerm))))

def kvHeads : FVec Ideal S8x8192x8x128 .f32 := shapeCast S8x8192x8x128 y shapeCasts_S8x8192x1024_S8x8192x8x128
def kPlain : FVec Ideal S8x8192x8x64 .f32 := extractStridedSlice S8x8192x8x64 ![0, 0, 0, 0] (kvHeads y) slices_S8x8192x8x128_S8x8192x8x64_0_0_0_0
def vPlain : FVec Ideal S8x8192x8x64 .f32 := extractStridedSlice S8x8192x8x64 ![0, 0, 0, 64] (kvHeads y) slices_S8x8192x8x128_S8x8192x8x64_0_0_0_64
def kPart : FVec Ideal S8x8192x1x32 .f32 := broadcastInDim S8x8192x1x32 ![0, 1, 3] bcast_S8x8192x32_S8x8192x1x32_0_1_3 z
def kLo : FVec Ideal S8x8192x1x16 .f32 := extractStridedSlice S8x8192x1x16 ![0, 0, 0, 0] (kPart z) slices_S8x8192x1x32_S8x8192x1x16_0_0_0_0
def kHi : FVec Ideal S8x8192x1x16 .f32 := extractStridedSlice S8x8192x1x16 ![0, 0, 0, 16] (kPart z) slices_S8x8192x1x32_S8x8192x1x16_0_0_0_16

/-- The shared rotary key turned. -/
def kRoped : FVec Ideal S8x8192x32 .f32 :=
  shapeCast S8x8192x32 (Value.fn_main_v72 (F := Ideal) (subf (mulf (kLo z) (overBatch (Host.cos angTerm))) (mulf (kHi z) (overBatch (Host.sin angTerm))))
    (addf (mulf (kHi z) (overBatch (Host.cos angTerm))) (mulf (kLo z) (overBatch (Host.sin angTerm))))) shapeCasts_S8x8192x1x32_S8x8192x32

/-- The scores. -/
def scores : FVec Ideal S8x8x8192x8192 .f32 :=
  Host.divf (addf (Host.dotGeneral dot_S8x8192x8x64_S8x8192x8x64_S8x8x8192x8192_3_3_1_1_02_02 none (qPlain x) (kPlain y))
      (transpose S8x8x8192x8192 [0, 3, 2, 1] (Host.dotGeneral dot_S8x8192x32_S8x8192x8x32_S8x8192x8192x8_2_3_1_12_0_0 none (kRoped z) (qRoped x)) transposes_S8x8192x8192x8_S8x8x8192x8192_0_3_2_1))
    (broadcastInDim S8x8x8192x8192 ![] bcast_S_S8x8x8192x8192 (Host.sqrt (constant (F := Ideal) S_ .f32 0x42C00000#32)))

end

/-- The largest score of every row. -/
def tops (s : FVec Ideal S8x8x8192x8192 .f32) : FVec Ideal S8x8x8192 .f32 :=
  maximumf (broadcastInDim S8x8x8192 ![] bcast_S_S8x8x8192 (constant (F := Ideal) S_ .f32 0xFF800000#32))
    (Host.reduce FloatOps.maximumf s (constant (F := Ideal) S_ .f32 0xFF800000#32) reducesTo_S8x8x8192x8192_S8x8x8192_d3 h_S_)

/-- An array of rows over the keys. -/
def overKeys (t : FVec Ideal S8x8x8192 .f32) : FVec Ideal S8x8x8192x8192 .f32 :=
  broadcastInDim S8x8x8192x8192 ![0, 1, 2, 3] bcast_S8x8x8192x1_S8x8x8192x8192_0_1_2_3 (broadcastInDim S8x8x8192x1 ![0, 1, 2] bcast_S8x8x8192_S8x8x8192x1_0_1_2 t)

/-- The exponentials of the scores less the rows' largest. -/
def exps (s : FVec Ideal S8x8x8192x8192 .f32) : FVec Ideal S8x8x8192x8192 .f32 := Host.exp (subf s (overKeys (tops s)))

/-- The rows' sums. -/
def sums (e : FVec Ideal S8x8x8192x8192 .f32) : FVec Ideal S8x8x8192 .f32 :=
  Host.reduceAdd e (constant (F := Ideal) S_ .f32 0x00000000#32) reducesTo_S8x8x8192x8192_S8x8x8192_d3 h_S_

/-- The weights. -/
def weights (s : FVec Ideal S8x8x8192x8192 .f32) : FVec Ideal S8x8x8192x8192 .f32 := Host.divf (exps s) (overKeys (sums (exps s)))

/-- The reference's result. -/
def refTerm (x : FVec Ideal S8x8192x768 .f32) (y : FVec Ideal S8x8192x1024 .f32) (z : FVec Ideal S8x8192x32 .f32) : FVec Ideal S65536x512 .bf16 :=
  truncf .bf16 (shapeCast S65536x512 (transpose S8x8192x8x64 [0, 3, 1, 2]
    (Host.dotGeneral dot_S8x8192x8x64_S8x8x8192x8192_S8x8x64x8192_1_3_3_2_02_01 none (vPlain y) (weights (scores x y z))) transposes_S8x8x64x8192_S8x8192x8x64_0_3_1_2)
    shapeCasts_S8x8192x8x64_S65536x512) bitsLt_bf16_f32

theorem res_eq (m : (ℓ : Loc nD τ sig) → Buf (Elt Ideal) ℓ) (c : Dev nD) :
    Value.res_main_v95 m c = refTerm (m ((c.tc : Thread nD τ).loc main_arg0)) (m ((c.tc : Thread nD τ).loc main_arg1)) (m ((c.tc : Thread nD τ).loc main_arg2)) := by
  unfold Value.res_main_v95
  rfl

end Cert.ReferenceIdeal.Mla
end
-- ==== Proof.FlashRefAt.lean ====
/- The reference's result by its elements, of real arguments. -/
module

public import proofs.«01_k».proof.Proof.FlashRef

@[expose] public section

set_option maxRecDepth 16384

noncomputable section

namespace Cert.ReferenceIdeal.Mla

open Cert.ReferenceIdeal Cert.ReferenceIdeal.Gen
open Idealize.ShloMosaic Idealize.ShloMosaic.TcCoe Idealize.SL.Sem
open Cert.Mla

theorem angTerm_at (s : Fin 8192) (i : Fin 16) : angTerm (ix2 s i) = ((ang s i : ℝ) : EReal) := by
  rw [← angle_real]
  pointwise [angTerm]

theorem cosTerm_at (s : Fin 8192) (i : Fin 16) : Host.cos angTerm (ix2 s i) = ((Real.cos (ang s i) : ℝ) : EReal) := by
  change Ideal.cos (angTerm (ix2 s i)) = _
  rw [angTerm_at, Ideal.cos_coe]

theorem sinTerm_at (s : Fin 8192) (i : Fin 16) : Host.sin angTerm (ix2 s i) = ((Real.sin (ang s i) : ℝ) : EReal) := by
  change Ideal.sin (angTerm (ix2 s i)) = _
  rw [angTerm_at, Ideal.sin_coe]

theorem overHeads_at (t : FVec Ideal S8192x16 .f32) (b : Fin 8) (s : Fin 8192) (h : Fin 8) (i : Fin 16) : overHeads t (ix4 b s h i) = t (ix2 s i) := by
  pointwise [overHeads]

theorem overBatch_at (t : FVec Ideal S8192x16 .f32) (b : Fin 8) (s : Fin 8192) (h : Fin 1) (i : Fin 16) : overBatch t (ix4 b s h i) = t (ix2 s i) := by
  pointwise [overBatch]

variable (x : FVec Ideal S8x8192x768 .f32) (y : FVec Ideal S8x8192x1024 .f32) (z : FVec Ideal S8x8192x32 .f32)

theorem qPlain_at (b : Fin 8) (s : Fin 8192) (h : Fin 8) (d : Fin 64) : qPlain x (ix4 b s h d) = x (ix3 b s ⟨h.val * 96 + d.val, by omega⟩) := by
  pointwise [qPlain, qHeads]

theorem qLo_at (b : Fin 8) (s : Fin 8192) (h : Fin 8) (i : Fin 16) : qLo x (ix4 b s h i) = x (ix3 b s ⟨h.val * 96 + (64 + i.val), by omega⟩) := by
  pointwise [qLo, qPart, qHeads]

theorem qHi_at (b : Fin 8) (s : Fin 8192) (h : Fin 8) (i : Fin 16) : qHi x (ix4 b s h i) = x (ix3 b s ⟨h.val * 96 + (64 + (16 + i.val)), by omega⟩) := by
  pointwise [qHi, qPart, qHeads]

theorem kPlain_at (b : Fin 8) (s : Fin 8192) (h : Fin 8) (d : Fin 64) : kPlain y (ix4 b s h d) = y (ix3 b s ⟨h.val * 128 + d.val, by omega⟩) := by
  pointwise [kPlain, kvHeads]

theorem vPlain_at (b : Fin 8) (s : Fin 8192) (h : Fin 8) (d : Fin 64) : vPlain y (ix4 b s h d) = y (ix3 b s ⟨h.val * 128 + (64 + d.val), by omega⟩) := by
  pointwise [vPlain, kvHeads]

theorem kLo_at (b : Fin 8) (s : Fin 8192) (h : Fin 1) (i : Fin 16) : kLo z (ix4 b s h i) = z (ix3 b s ⟨i.val, by omega⟩) := by
  pointwise [kLo, kPart]

theorem kHi_at (b : Fin 8) (s : Fin 8192) (h : Fin 1) (i : Fin 16) : kHi z (ix4 b s h i) = z (ix3 b s ⟨16 + i.val, by omega⟩) := by
  pointwise [kHi, kPart]

/-- The queries' rotary parts turned. -/
theorem qRoped_at (q : S8x8192x768.Idx → ℝ) (b : Fin 8) (s : Fin 8192) (h : Fin 8) (i : Fin 32) :
    qRoped (fun j => ((q j : ℝ) : EReal)) (ix4 b s h i) = ((rope s (fun l => q (ix3 b s ⟨h.val * 96 + (64 + l.val), by omega⟩)) i : ℝ) : EReal) := by
  pointwise [qRoped, Value.fn_main_v35]
  simp only [overHeads_at, qLo_at, qHi_at, cosTerm_at, sinTerm_at]
  split
  · rw [← EReal.coe_mul, ← EReal.coe_mul, ← EReal.coe_sub]
    simp only [rope, rot, co, si, dif_pos ‹i.val < 16›, Nat.mod_eq_of_lt ‹i.val < 16›]
    exact congrArg _ (by ring)
  · have e1 : 16 + (i.val - 16) = i.val := by omega
    have e2 : i.val % 16 = i.val - 16 := by omega
    rw [← EReal.coe_mul, ← EReal.coe_mul, ← EReal.coe_add]
    simp only [rope, rot, co, si, dif_neg ‹¬ i.val < 16›, e1, e2]

theorem kRoped_at (k : S8x8192x32.Idx → ℝ) (b : Fin 8) (s : Fin 8192) (i : Fin 32) :
    kRoped (fun j => ((k j : ℝ) : EReal)) (ix3 b s i) = ((rope s (fun l => k (ix3 b s l)) i : ℝ) : EReal) := by
  pointwise [kRoped, Value.fn_main_v72]
  simp only [overBatch_at, kLo_at, kHi_at, cosTerm_at, sinTerm_at]
  split
  · rw [← EReal.coe_mul, ← EReal.coe_mul, ← EReal.coe_sub]
    simp only [rope, rot, co, si, dif_pos ‹i.val < 16›, Nat.mod_eq_of_lt ‹i.val < 16›]
    exact congrArg _ (by ring)
  · have e1 : 16 + (i.val - 16) = i.val := by omega
    have e2 : i.val % 16 = i.val - 16 := by omega
    rw [← EReal.coe_mul, ← EReal.coe_mul, ← EReal.coe_add]
    simp only [rope, rot, co, si, dif_neg ‹¬ i.val < 16›, e1, e2]

theorem scores_at (b h : Fin 8) (s n : Fin 8192) :
    scores x y z (ix4 b h s n) = Ideal.div ((∑ d : Fin 64, qPlain x (ix4 b s h d) * kPlain y (ix4 b n h d)) + ∑ i : Fin 32, kRoped z (ix3 b n i) * qRoped x (ix4 b s h i))
      (Ideal.sqrt (Ideal.ofBits .f32 0x42C00000#32)) := by
  pointwise [scores]

/-- A host maximum over the last of four axes is the fold over that axis. -/
theorem lastMax {n0 n1 n2 n3 : ℕ} {t u : Shape} (h : (⟨4, ![n0, n1, n2, n3]⟩ : Shape).ReducesTo [3] t) (w : FVec Ideal ⟨4, ![n0, n1, n2, n3]⟩ .f32) (e : FVec Ideal u .f32)
    (hu : 0 < u.numel) (j : t.Idx) :
    (Host.reduce (FloatOps.maximumf (F := Ideal) (φ := .f32)) w e h hu j : EReal) = (Finset.univ : Finset (Fin n3)).fold (max : EReal → EReal → EReal) (e (Shape.Idx.first hu))
      (fun k => w (ix4 ⟨(j ⟨0, h.lt_r4_a3_0⟩).val, Shape.coordLt (j ⟨0, h.lt_r4_a3_0⟩) h.size_r4_a3_0⟩ ⟨(j ⟨1, h.lt_r4_a3_1⟩).val, Shape.coordLt (j ⟨1, h.lt_r4_a3_1⟩) h.size_r4_a3_1⟩ ⟨(j ⟨2, h.lt_r4_a3_2⟩).val, Shape.coordLt (j ⟨2, h.lt_r4_a3_2⟩) h.size_r4_a3_2⟩ k)) := by
  rw [Host.reduce_eq_fold]
  exact Shape.ReducesTo.fold_fiber_r4_a3 h j max _ w

theorem tops_at (w : FVec Ideal S8x8x8192x8192 .f32) (b h : Fin 8) (s : Fin 8192) :
    tops w (ix3 b h s) = max (Ideal.ofBits .f32 0xFF800000#32) (Finset.univ.fold max (Ideal.ofBits .f32 0xFF800000#32) (fun n : Fin 8192 => w (ix4 b h s n))) := by
  unfold tops
  rw [maximumf_apply]
  refine congrArg (max _) ?_
  exact lastMax reducesTo_S8x8x8192x8192_S8x8x8192_d3 w _ h_S_ (ix3 b h s)

theorem overKeys_at (t : FVec Ideal S8x8x8192 .f32) (b h : Fin 8) (s n : Fin 8192) : overKeys t (ix4 b h s n) = t (ix3 b h s) := by
  pointwise [overKeys]

theorem sums_at (w : FVec Ideal S8x8x8192x8192 .f32) (b h : Fin 8) (s : Fin 8192) :
    sums w (ix3 b h s) = ∑ n : Fin 8192, w (ix4 b h s n) := by
  pointwise [sums]

theorem exps_at (w : FVec Ideal S8x8x8192x8192 .f32) (b h : Fin 8) (s n : Fin 8192) :
    exps w (ix4 b h s n) = Ideal.exp (w (ix4 b h s n) - tops w (ix3 b h s)) := by
  pointwise [exps]
  rw [overKeys_at]

theorem weights_at (w : FVec Ideal S8x8x8192x8192 .f32) (b h : Fin 8) (s n : Fin 8192) :
    weights w (ix4 b h s n) = Ideal.div (exps w (ix4 b h s n)) (sums (exps w) (ix3 b h s)) := by
  pointwise [weights]
  rw [overKeys_at]

theorem refTerm_at (b h : Fin 8) (s : Fin 8192) (l : Fin 64) :
    refTerm x y z (ix2 (⟨8192 * b.val + s.val, by omega⟩ : Fin 65536) (⟨64 * h.val + l.val, by omega⟩ : Fin 512)) = ∑ n : Fin 8192, vPlain y (ix4 b n h l) * weights (scores x y z) (ix4 b h s n) := by
  pointwise [refTerm]

end Cert.ReferenceIdeal.Mla
end
-- ==== Proof.FlashScore.lean ====
/- The scores of the kernel and of the reference, of real arguments: one real number each. -/
module

public import proofs.«01_k».proof.Proof.FlashRefAt

@[expose] public section

set_option maxRecDepth 16384

noncomputable section

namespace Cert.Mla

open Idealize.ShloMosaic
open Cert.KernelIdeal (S8x8192x768 S8x8192x1024 S8x8192x32)
open Cert.KernelIdeal.Flash (row lane8 keyRow gScore qTerm kTerm vTerm scale)

/-- An array of reals as an array of extended reals. -/
abbrev up {ι : Type} (f : ι → ℝ) : ι → EReal := fun i => ((f i : ℝ) : EReal)

variable (q : S8x8192x768.Idx → ℝ) (k : S8x8192x1024.Idx → ℝ) (p : S8x8192x32.Idx → ℝ)

/-- The rotary part of head `h`'s query at token `s`, and of the key at token `n`. -/
def qp (b : Fin 8) (s : Fin 8192) (h : Fin 8) (i : Fin 32) : ℝ := q (ix3 b s ⟨h.val * 96 + (64 + i.val), by omega⟩)
@[inherit_doc qp] def kp (b : Fin 8) (n : Fin 8192) (i : Fin 32) : ℝ := p (ix3 b n i)

/-- The other lanes. -/
def qn (b : Fin 8) (s : Fin 8192) (h : Fin 8) (d : Fin 64) : ℝ := q (ix3 b s ⟨h.val * 96 + d.val, by omega⟩)
@[inherit_doc qn] def kn (b : Fin 8) (n : Fin 8192) (h : Fin 8) (d : Fin 64) : ℝ := k (ix3 b n ⟨h.val * 128 + d.val, by omega⟩)

/-- A key's value, lane `l`. -/
def val (b : Fin 8) (n : Fin 8192) (h : Fin 8) (l : Fin 64) : ℝ := k (ix3 b n ⟨h.val * 128 + (64 + l.val), by omega⟩)

/-- The score of token `s` with token `n` before the scale. -/
def score (b : Fin 8) (s : Fin 8192) (h : Fin 8) (n : Fin 8192) : ℝ :=
  (∑ d, qn q b s h d * kn k b n h d) + ∑ i, rope n (kp p b n) i * rope s (qp q b s h) i

theorem sum128 (f : Fin 128 → EReal) :
    ∑ d, f d = ∑ d : Fin 64, f ⟨d.val, by omega⟩ + (∑ i : Fin 32, f ⟨64 + i.val, by omega⟩ + ∑ i : Fin 32, f ⟨96 + i.val, by omega⟩) := by
  have e1 := Fin.sum_univ_add (a := 64) (b := 64) f
  have e2 := Fin.sum_univ_add (a := 32) (b := 32) (fun i : Fin 64 => f (Fin.natAdd 64 i))
  rw [e2] at e1
  refine e1.trans (congrArg₂ _ rfl (congrArg₂ _ rfl (Finset.sum_congr rfl fun i _ => congrArg f (Fin.ext ?_))))
  simp only [Fin.natAdd]
  omega

section Kernel
variable (b : Fin 8) (s : Fin 8192) (h : Fin 8)

theorem q_plain (d : Fin 64) : qTerm (up q) (ix2 (row b s) (lane8 h ⟨d.val, by omega⟩)) = ((qn q b s h d : ℝ) : EReal) := by
  rw [Cert.KernelIdeal.Flash.qTerm_at, Cert.KernelIdeal.Flash.qLanes_at, Cert.KernelIdeal.Flash.qTab_at, dif_pos d.isLt, dif_pos d.isLt, ← EReal.coe_mul, mul_one]
  rfl

theorem q_part (i : Fin 32) : Cert.KernelIdeal.Flash.qRope (up q) (ix4 b s h i) = ((qp q b s h i : ℝ) : EReal) := by
  rw [Cert.KernelIdeal.Flash.qRope_at]
  rfl

theorem q_rot (i : Fin 32) : Cert.KernelIdeal.Flash.qRot (up q) (ix4 b s h i) = ((rot (qp q b s h) i : ℝ) : EReal) := by
  rw [Cert.KernelIdeal.Flash.qRot_at]
  unfold rot
  split
  · rw [q_part, EReal.coe_neg]
  · rw [q_part]

theorem q_cos (i : Fin 32) : qTerm (up q) (ix2 (row b s) (lane8 h ⟨64 + i.val, by omega⟩)) = ((qp q b s h i * co s i : ℝ) : EReal) := by
  have e : 64 + i.val - 64 = i.val := by omega
  have n : ¬ 64 + i.val < 64 := by omega
  rw [Cert.KernelIdeal.Flash.qTerm_at, Cert.KernelIdeal.Flash.qLanes_at, Cert.KernelIdeal.Flash.qTab_at, dif_neg n, dif_neg n]
  simp only [e, i.isLt, dif_pos, q_part, EReal.coe_mul]

theorem q_sin (i : Fin 32) : qTerm (up q) (ix2 (row b s) (lane8 h ⟨96 + i.val, by omega⟩)) = ((rot (qp q b s h) i * si s i : ℝ) : EReal) := by
  have e : 96 + i.val - 64 - 32 = i.val := by omega
  have n : ¬ 96 + i.val < 64 := by omega
  have n' : ¬ 96 + i.val - 64 < 32 := by omega
  rw [Cert.KernelIdeal.Flash.qTerm_at, Cert.KernelIdeal.Flash.qLanes_at, Cert.KernelIdeal.Flash.qTab_at, dif_neg n, dif_neg n, dif_neg n', dif_neg n']
  simp only [e, q_rot, EReal.coe_mul]

theorem k_plain (d : Fin 64) : kTerm (up k) (up p) (ix2 (row b s) (lane8 h ⟨d.val, by omega⟩)) = ((kn k b s h d : ℝ) : EReal) := by
  rw [Cert.KernelIdeal.Flash.kTerm_at, Cert.KernelIdeal.Flash.kRope_at, Cert.KernelIdeal.Flash.twice_at, Cert.KernelIdeal.Flash.twice_at, dif_pos d.isLt, dif_pos d.isLt, dif_pos d.isLt]
  simp only [zero_mul, add_zero]
  rfl

theorem k_rot (i : Fin 32) : Cert.KernelIdeal.Flash.kRot (up p) (ix3 b s i) = ((rot (kp p b s) i : ℝ) : EReal) := by
  rw [Cert.KernelIdeal.Flash.kRot_at]
  unfold rot
  split
  · rw [EReal.coe_neg]; rfl
  · rfl

/-- Of the rotary lanes, lane `i` of either copy. -/
theorem k_rope (d : Fin 128) (i : Fin 32) (hd : d.val = 64 + i.val ∨ d.val = 96 + i.val) :
    kTerm (up k) (up p) (ix2 (row b s) (lane8 h d)) = ((rope s (kp p b s) i : ℝ) : EReal) := by
  have n : ¬ d.val < 64 := by omega
  have ht : ∀ z : Cert.KernelIdeal.S8x8192x32.Idx → EReal, Cert.KernelIdeal.Flash.twice z (ix3 b s d) = z (ix3 b s i) := by
    intro z
    rw [Cert.KernelIdeal.Flash.twice_at, dif_neg n]
    split
    · exact congrArg (fun l => z (ix3 b s l)) (Fin.ext (by simp only; omega))
    · exact congrArg (fun l => z (ix3 b s l)) (Fin.ext (by simp only; omega))
  have em : (d.val - 64) % 16 = i.val % 16 := by omega
  rw [Cert.KernelIdeal.Flash.kTerm_at, Cert.KernelIdeal.Flash.kRope_at, ht, ht, dif_neg n, zero_add, Cert.KernelIdeal.Flash.kTab_at, Cert.KernelIdeal.Flash.kTab_at, dif_neg n, dif_neg n,
    Cert.KernelIdeal.Flash.cosTerm_at, Cert.KernelIdeal.Flash.sinTerm_at, k_rot]
  simp only [em]
  unfold rope co si
  rw [EReal.coe_add, EReal.coe_mul, EReal.coe_mul]
  rfl

end Kernel

/-- The key row of a step, of a token's row. -/
theorem keyRow_row (b : Fin 8) (s : Fin 8192) (j : ℕ) (n : Fin 2048) : keyRow (row b s) j n = row b ⟨(2048 * j + n.val) % 8192, Nat.mod_lt _ (by decide)⟩ := by
  refine Fin.ext ?_
  simp only [row, keyRow]
  omega

/-- The kernel's score. -/
theorem kernel_score (b : Fin 8) (s : Fin 8192) (h : Fin 8) (j : ℕ) (n : Fin 2048) :
    gScore (qTerm (up q)) (kTerm (up k) (up p)) (row b s) h j n
      = ((score q k p b s h ⟨(2048 * j + n.val) % 8192, Nat.mod_lt _ (by decide)⟩ * ((Real.sqrt 96)⁻¹ * (Real.log 2)⁻¹) : ℝ) : EReal) := by
  unfold gScore scale
  rw [keyRow_row, EReal.coe_mul (score q k p b s h _)]
  refine congrArg₂ _ ?_ rfl
  generalize (⟨(2048 * j + n.val) % 8192, Nat.mod_lt _ (by decide)⟩ : Fin 8192) = t
  rw [sum128]
  have e1 : ∀ d : Fin 64, qTerm (up q) (ix2 (row b s) (lane8 h ⟨d.val, by omega⟩)) * kTerm (up k) (up p) (ix2 (row b t) (lane8 h ⟨d.val, by omega⟩))
      = ((qn q b s h d * kn k b t h d : ℝ) : EReal) := fun d => by rw [q_plain, k_plain, EReal.coe_mul]
  have e2 : ∀ i : Fin 32, qTerm (up q) (ix2 (row b s) (lane8 h ⟨64 + i.val, by omega⟩)) * kTerm (up k) (up p) (ix2 (row b t) (lane8 h ⟨64 + i.val, by omega⟩))
      = ((qp q b s h i * co s i * rope t (kp p b t) i : ℝ) : EReal) := fun i => by rw [q_cos, k_rope k p b t h _ i (.inl rfl), ← EReal.coe_mul]
  have e3 : ∀ i : Fin 32, qTerm (up q) (ix2 (row b s) (lane8 h ⟨96 + i.val, by omega⟩)) * kTerm (up k) (up p) (ix2 (row b t) (lane8 h ⟨96 + i.val, by omega⟩))
      = ((rot (qp q b s h) i * si s i * rope t (kp p b t) i : ℝ) : EReal) := fun i => by rw [q_sin, k_rope k p b t h _ i (.inr rfl), ← EReal.coe_mul]
  simp only [e1, e2, e3]
  rw [← Cert.Soft.coe_sum, ← Cert.Soft.coe_sum, ← Cert.Soft.coe_sum, ← EReal.coe_add, ← EReal.coe_add, ← Finset.sum_add_distrib]
  unfold score
  congr 2
  refine Finset.sum_congr rfl fun i _ => ?_
  unfold rope
  ring

/-- The reference's score. -/
theorem reference_score (b : Fin 8) (s : Fin 8192) (h : Fin 8) (n : Fin 8192) :
    Cert.ReferenceIdeal.Mla.scores (up q) (up k) (up p) (ix4 b h s n) = ((score q k p b s h n * (1 / Real.sqrt 96) : ℝ) : EReal) := by
  have e96 : (Ideal.ofBits .f32 0x42C00000#32 : EReal) = ((96 : ℝ) : EReal) := by simp [Ideal.ofBits, Ideal.ieee, -EReal.coe_mul]; norm_num
  rw [Cert.ReferenceIdeal.Mla.scores_at, e96, Ideal.sqrt_coe, if_neg (by norm_num), Ideal.div_coe (by positivity), EReal.coe_mul]
  refine congrArg₂ _ ?_ rfl
  have e1 : ∀ d : Fin 64, Cert.ReferenceIdeal.Mla.qPlain (up q) (ix4 b s h d) * Cert.ReferenceIdeal.Mla.kPlain (up k) (ix4 b n h d)
      = ((qn q b s h d * kn k b n h d : ℝ) : EReal) := fun d => by rw [Cert.ReferenceIdeal.Mla.qPlain_at, Cert.ReferenceIdeal.Mla.kPlain_at, EReal.coe_mul]; rfl
  have e2 : ∀ i : Fin 32, Cert.ReferenceIdeal.Mla.kRoped (up p) (ix3 b n i) * Cert.ReferenceIdeal.Mla.qRoped (up q) (ix4 b s h i)
      = ((rope n (kp p b n) i * rope s (qp q b s h) i : ℝ) : EReal) := fun i => by rw [Cert.ReferenceIdeal.Mla.kRoped_at, Cert.ReferenceIdeal.Mla.qRoped_at, EReal.coe_mul]; rfl
  simp only [e1, e2]
  rw [← Cert.Soft.coe_sum, ← Cert.Soft.coe_sum, ← EReal.coe_add]
  rfl

end Cert.Mla
end
-- ==== Proof.FlashValue.lean ====
/- The kernel's result array is the reference's, of real arguments. -/
module

public import proofs.«01_k».proof.Proof.FlashScore

@[expose] public section

set_option maxRecDepth 16384

noncomputable section

namespace Cert.Mla

open Idealize.ShloMosaic
open Cert.KernelIdeal (S8x8192x768 S8x8192x1024 S8x8192x32 S65536x512)
open Cert.KernelIdeal.Flash (row lane8 keyRow gScore gValue gOut gArray qTerm kTerm vTerm)

/-- A sum over four blocks of 2048 keys is the sum over the 8192 keys. -/
theorem sum_blocks (f : Fin 8192 → ℝ) :
    ∑ j ∈ Finset.range 4, ∑ n : Fin 2048, f ⟨(2048 * j + n.val) % 8192, Nat.mod_lt _ (by decide)⟩ = ∑ t, f t := by
  rw [Finset.sum_range (fun j => ∑ n : Fin 2048, f ⟨(2048 * j + n.val) % 8192, Nat.mod_lt _ (by decide)⟩), ← Fintype.sum_prod_type']
  refine Fintype.sum_equiv (finProdFinEquiv (m := 4) (n := 2048)) _ f fun a => congrArg f (Fin.ext ?_)
  simp only [finProdFinEquiv, Equiv.coe_fn_mk]
  omega

/-- Powers of two of scaled scores are exponentials. -/
theorem two_pow (x c : ℝ) : Real.rpow 2 (x * (c⁻¹ * (Real.log 2)⁻¹)) = Real.exp (x * (1 / c)) := by
  have : Real.log 2 ≠ 0 := (Real.log_pos (by norm_num)).ne'
  change (2 : ℝ) ^ (x * (c⁻¹ * (Real.log 2)⁻¹) : ℝ) = _
  rw [Real.rpow_def_of_pos (by norm_num)]
  congr 1
  field_simp

/-- A softmax may subtract any number from its scores. -/
theorem shift {ι : Type} [Fintype ι] (a v : ι → ℝ) (μ : ℝ) :
    (∑ n, Real.exp (a n) * v n) / ∑ n, Real.exp (a n) = ∑ n, v n * (Real.exp (a n - μ) * (1 / ∑ m, Real.exp (a m - μ))) := by
  have e : ∀ n, Real.exp (a n - μ) = Real.exp (a n) * Real.exp (-μ) := fun n => by rw [← Real.exp_add]; rfl
  have hμ : Real.exp (-μ) ≠ 0 := Real.exp_ne_zero _
  simp only [e, ← Finset.sum_mul]
  rw [Finset.sum_div]
  refine Finset.sum_congr rfl fun n _ => ?_
  rw [one_div, mul_inv]
  field_simp

variable (q : S8x8192x768.Idx → ℝ) (k : S8x8192x1024.Idx → ℝ) (p : S8x8192x32.Idx → ℝ)

/-- The attention's output at token `s` of batch `b`, head `h`, lane `l`. -/
def out (b : Fin 8) (s : Fin 8192) (h : Fin 8) (l : Fin 64) : ℝ :=
  (∑ n, Real.exp (score q k p b s h n * (1 / Real.sqrt 96)) * val k b n h l) / ∑ n, Real.exp (score q k p b s h n * (1 / Real.sqrt 96))

/-- The kernel's element. -/
theorem kernel_out (b : Fin 8) (s : Fin 8192) (h : Fin 8) (l : Fin 64) :
    gOut (qTerm (up q)) (kTerm (up k) (up p)) (vTerm (up k)) (row b s) h l = ((out q k p b s h l : ℝ) : EReal) := by
  have hs : gScore (qTerm (up q)) (kTerm (up k) (up p)) (row b s) h
      = fun j n => ((score q k p b s h ⟨(2048 * j + n.val) % 8192, Nat.mod_lt _ (by decide)⟩ * ((Real.sqrt 96)⁻¹ * (Real.log 2)⁻¹) : ℝ) : EReal) :=
    funext fun j => funext fun n => kernel_score q k p b s h j n
  have hv : gValue (vTerm (up k)) (row b s) h ⟨l.val, by omega⟩
      = fun j n => ((val k b ⟨(2048 * j + n.val) % 8192, Nat.mod_lt _ (by decide)⟩ h l : ℝ) : EReal) := by
    funext j n
    unfold gValue
    rw [keyRow_row, Cert.KernelIdeal.Flash.vTerm_at]
    rfl
  have h1 : gValue (vTerm (up k)) (row b s) h 64 = fun _ _ => (1 : EReal) := by
    funext j n
    unfold gValue
    rw [keyRow_row, Cert.KernelIdeal.Flash.vTerm_one]
  unfold gOut
  rw [hs, hv, h1]
  refine (Cert.Soft.div_sum (by decide) (fun j n => score q k p b s h ⟨(2048 * j + n.val) % 8192, Nat.mod_lt _ (by decide)⟩ * ((Real.sqrt 96)⁻¹ * (Real.log 2)⁻¹))
    (fun j n => val k b ⟨(2048 * j + n.val) % 8192, Nat.mod_lt _ (by decide)⟩ h l) 3).trans ?_
  simp only [two_pow]
  rw [sum_blocks (fun t => Real.exp (score q k p b s h t * (1 / Real.sqrt 96)) * val k b t h l), sum_blocks (fun t => Real.exp (score q k p b s h t * (1 / Real.sqrt 96)))]
  rfl

open Cert.ReferenceIdeal.Mla in
/-- The reference's element. -/
theorem reference_out (b : Fin 8) (s : Fin 8192) (h : Fin 8) (l : Fin 64) :
    refTerm (up q) (up k) (up p) (ix2 (⟨8192 * b.val + s.val, by omega⟩ : Fin 65536) (⟨64 * h.val + l.val, by omega⟩ : Fin 512)) = ((out q k p b s h l : ℝ) : EReal) := by
  obtain ⟨μ, hμ⟩ : ∃ μ : ℝ, tops (scores (up q) (up k) (up p)) (ix3 b h s) = ((μ : ℝ) : EReal) := by
    obtain ⟨μ, hμ⟩ := Cert.Soft.fold_real (Finset.univ : Finset (Fin 8192)) (fun n => score q k p b s h n * (1 / Real.sqrt 96)) Finset.univ_nonempty
    refine ⟨μ, ?_⟩
    rw [tops_at, Cert.KernelIdeal.Flash.ofBits_least]
    simp only [reference_score]
    rw [hμ]
    exact max_eq_right bot_le
  have he : ∀ n, exps (scores (up q) (up k) (up p)) (ix4 b h s n) = ((Real.exp (score q k p b s h n * (1 / Real.sqrt 96) - μ) : ℝ) : EReal) := fun n => by
    rw [exps_at, hμ, reference_score, ← EReal.coe_sub, Ideal.exp_coe]
  have hz : sums (exps (scores (up q) (up k) (up p))) (ix3 b h s) = ((∑ n, Real.exp (score q k p b s h n * (1 / Real.sqrt 96) - μ) : ℝ) : EReal) := by
    rw [sums_at]
    simp only [he]
    rw [Cert.Soft.coe_sum]
  have hp : (∑ n : Fin 8192, Real.exp (score q k p b s h n * (1 / Real.sqrt 96) - μ)) ≠ 0 :=
    (Finset.sum_pos (fun n _ => Real.exp_pos _) Finset.univ_nonempty).ne'
  have hw : ∀ n : Fin 8192, vPlain (up k) (ix4 b n h l) * weights (scores (up q) (up k) (up p)) (ix4 b h s n)
      = ((val k b n h l * (Real.exp (score q k p b s h n * (1 / Real.sqrt 96) - μ) * (1 / ∑ m, Real.exp (score q k p b s h m * (1 / Real.sqrt 96) - μ))) : ℝ) : EReal) := fun n => by
    rw [weights_at, he, hz, Ideal.div_coe hp, vPlain_at, EReal.coe_mul, EReal.coe_mul]
    rfl
  rw [refTerm_at]
  simp only [hw]
  rw [← Cert.Soft.coe_sum]
  exact congrArg _ (shift (fun n => score q k p b s h n * (1 / Real.sqrt 96)) (fun n => val k b n h l) μ).symm

/-- The two arrays. -/
theorem arrays_eq : gArray (qTerm (up q)) (kTerm (up k) (up p)) (vTerm (up k)) = Cert.ReferenceIdeal.Mla.refTerm (up q) (up k) (up p) := by
  funext y
  have h0 : (y 0).val < 65536 := (y 0).isLt
  have h1 : (y 1).val < 512 := (y 1).isLt
  have hr : row ⟨(y 0).val / 8192, by omega⟩ ⟨(y 0).val % 8192, by omega⟩ = y 0 := Fin.ext (by simp only [row]; omega)
  have hl : (⟨64 * ((y 1).val / 64) + (y 1).val % 64, by omega⟩ : Fin 512) = y 1 := Fin.ext (by simp only; omega)
  have e1 := kernel_out q k p ⟨(y 0).val / 8192, by omega⟩ ⟨(y 0).val % 8192, by omega⟩ ⟨(y 1).val / 64, by omega⟩ ⟨(y 1).val % 64, by omega⟩
  have e2 := reference_out q k p ⟨(y 0).val / 8192, by omega⟩ ⟨(y 0).val % 8192, by omega⟩ ⟨(y 1).val / 64, by omega⟩ ⟨(y 1).val % 64, by omega⟩
  have hy : y = ix2 (⟨8192 * ((y 0).val / 8192) + (y 0).val % 8192, by omega⟩ : Fin 65536) (⟨64 * ((y 1).val / 64) + (y 1).val % 64, by omega⟩ : Fin 512) := by
    funext a
    match a with
    | ⟨0, _⟩ => exact hr.symm
    | ⟨1, _⟩ => exact hl.symm
  rw [hr] at e1
  refine Eq.trans ?_ ((e2.symm).trans (congrArg _ hy.symm))
  exact e1

end Cert.Mla
end
-- ==== Proof.FlashFinite.lean ====
/- What the precondition says of the arguments: each is an array of real numbers. -/
module

public import proofs.«01_k».proof.Defs
public import proofs.«01_k».proof.Proof.FlashValue
public import Idealize.ShloMosaic.Lib.ReduceAll

@[expose] public section

noncomputable section

namespace Cert.Mla

open Idealize.ShloMosaic

/-- The side conditions of the precondition's operations. -/
theorem pre_facts : Cert.Pre_finite.Facts where
  bcast_S_S8x8192x768 := by decide
  reducesTo_S8x8192x768_S_d0_1_2 := by decide
  h_S_ := by decide
  bcast_S_S8x8192x1024 := by decide
  reducesTo_S8x8192x1024_S_d0_1_2 := by decide
  bcast_S_S8x8192x32 := by decide
  reducesTo_S8x8192x32_S_d0_1_2 := by decide

theorem and_ones (a b : BitVec 1) (h : IntOp.andi a b = 1#1) : a = 1#1 ∧ b = 1#1 := by
  revert a b
  decide

/-- A number whose magnitude is below infinity is a real. -/
theorem real_of_below (x : EReal) (h : Ideal.cmp .olt (max x (-x)) (Ideal.ofBits .f32 0x7F800000#32) = 1#1) : ∃ r : ℝ, x = (r : EReal) := by
  have f : (Ideal.ofBits .f32 0x7F800000#32 : EReal) = ⊤ := by simp [Ideal.ofBits, Ideal.ieee]
  rw [f] at h
  have hl : max x (-x) < ⊤ := by
    by_contra hn
    simp [Ideal.cmp, hn] at h
  induction x with
  | bot => simp at hl
  | top => simp at hl
  | coe r => exact ⟨r, rfl⟩

/-- An array that passes the test holds reals. -/
theorem reals_of_all {s u : Shape} {axes : List (Fin s.rank)} (w : FVec Ideal s .f32) (g : FVec Ideal s .f32) (hg : ∀ i, g i = Ideal.ofBits .f32 0x7F800000#32) (e : IVec u 1)
    (h : s.ReducesTo axes (⟨0, ![]⟩ : Shape)) (hu : 0 < u.numel) (j : (⟨0, ![]⟩ : Shape).Idx)
    (hr : Host.reduce IntOp.andi (cmpf .olt (Host.absf w) g) e h hu j = 1#1) : ∃ r : s.Idx → ℝ, w = up r := by
  have hi : ∀ i, ∃ r : ℝ, w i = (r : EReal) := fun i => by
    have := Host.reduce_andi_eq_one _ e h hu j hr i (funext fun a => a.elim0)
    refine real_of_below (w i) ?_
    rw [← hg i]
    exact this
  choose r hr' using hi
  exact ⟨r, funext hr'⟩

/-- The precondition makes the three arrays real. -/
theorem reals_of_pre (x : FVec Ideal Cert.Pre_finite.S8x8192x768 .f32) (y : FVec Ideal Cert.Pre_finite.S8x8192x1024 .f32) (z : FVec Ideal Cert.Pre_finite.S8x8192x32 .f32)
    (h : @Cert.Pre_finite.fn pre_facts Ideal _ x y z = fun _ => 1#1) :
    (∃ q : Cert.Pre_finite.S8x8192x768.Idx → ℝ, x = up q) ∧ (∃ k : Cert.Pre_finite.S8x8192x1024.Idx → ℝ, y = up k) ∧ (∃ p : Cert.Pre_finite.S8x8192x32.Idx → ℝ, z = up p) := by
  have h0 := congrFun h (fun a => a.elim0)
  obtain ⟨h1, h2⟩ := and_ones _ _ h0
  obtain ⟨h3, h4⟩ := and_ones _ _ h1
  exact ⟨reals_of_all x _ (fun _ => rfl) _ _ _ _ h3, reals_of_all y _ (fun _ => rfl) _ _ _ _ h4, reals_of_all z _ (fun _ => rfl) _ _ _ _ h2⟩

end Cert.Mla
end
-- ==== Proof.FlashClaim.lean ====
/- The value claim: on finite arguments the kernel's result array is the reference's. -/
module

public import proofs.«01_k».proof.Proof.FlashFinite

@[expose] public section

noncomputable section

namespace Cert.Mla

open Idealize.ShloMosaic Idealize.SL.Sem

/-- On finite arguments the two programs end with equal results and unchanged arguments. -/
theorem algebraic : Cert.algebraic_KernelIdeal_ReferenceIdeal_pre_finite (hKernelIdeal := Cert.KernelIdeal.Gen.facts) (hReferenceIdeal := Cert.ReferenceIdeal.Gen.facts)
    (hPre_finite := pre_facts) := by
  intro m g m' g' hpre hargs
  refine ⟨Cert.KernelIdeal.Flash.result m, Cert.KernelIdeal.Flash.run m g, ?_⟩
  refine (θ_run Cert.ReferenceIdeal.defs _ _).mono (fun r h c => ⟨(h c).1.trans ?_, (h c).2⟩) (Cert.ReferenceIdeal.Value.run (F := Ideal) m' g')
  obtain ⟨a0, a1, a2⟩ := hargs c
  obtain ⟨⟨q, hq⟩, ⟨k, hk⟩, ⟨p, hp⟩⟩ := reals_of_pre _ _ _ (hpre c)
  rw [Cert.ReferenceIdeal.Mla.res_eq, a0, a1, a2]
  unfold Cert.KernelIdeal.Flash.result
  rw [Cert.KernelIdeal.Flash.qArr, Cert.KernelIdeal.Flash.kArr, Cert.KernelIdeal.Flash.vArr, Cert.KernelIdeal.Flash.V_q, Cert.KernelIdeal.Flash.V_k, Cert.KernelIdeal.Flash.V_v]
  rw [hq, hk, hp]
  exact (arrays_eq q k p).symm

end Cert.Mla
end
-- ==== Proof.MlpMath.lean ====
/- The feed-forward part of a layer on one row, as sums over extended reals: the rows that the two programs work on, and how a
   sum over blocks of an axis is the sum over the axis. -/
module

public import Idealize.ShloMosaic.Lib.Pointwise

@[expose] public section

noncomputable section

namespace Cert.Mlp

open Idealize.ShloMosaic

/-- The root-mean-square norm of a row: each entry times the reciprocal root of the mean of the squares, and times its gain.
    `c` is the row's length and `e` what is added under the root. -/
def rms {n : ℕ} (c e : EReal) (y w : Fin n → EReal) (j : Fin n) : EReal :=
  y j * Ideal.rsqrt (Ideal.div (∑ k, y k * y k) c + e) * w j

/-- The square of the positive part. -/
def relu2 (z x : EReal) : EReal := max x z * max x z

/-- A row through the two products of the feed-forward part, added to the row `y`. -/
def ff {n f : ℕ} (z : EReal) (y h : Fin n → EReal) (w1 : Fin n → Fin f → EReal) (w2 : Fin f → Fin n → EReal) (j : Fin n) : EReal :=
  y j + ∑ u, relu2 z (∑ k, h k * w1 k u) * w2 u j

/-- The residual row and the product of a row of two halves with the rows of a matrix. -/
def mix {n a b : ℕ} (x : Fin n → EReal) (o : Fin a → EReal) (p : Fin b → EReal) (wa : Fin a → Fin n → EReal) (wb : Fin b → Fin n → EReal) (j : Fin n) : EReal :=
  x j + ∑ k, o k * wa k j + ∑ k, p k * wb k j

/-- A sum over 4096 is the sum over its four blocks of 1024, added one after the other. -/
theorem sum_four (y : EReal) (f : Fin 4096 → EReal) :
    y + ∑ u : Fin 1024, f ⟨u.val, by omega⟩ + ∑ u : Fin 1024, f ⟨1024 + u.val, by omega⟩ + ∑ u : Fin 1024, f ⟨2048 + u.val, by omega⟩
        + ∑ u : Fin 1024, f ⟨3072 + u.val, by omega⟩ = y + ∑ u, f u := by
  have e3 : ∑ u : Fin 4096, f u = ∑ u : Fin 3072, f ⟨u.val, by omega⟩ + ∑ u : Fin 1024, f ⟨3072 + u.val, by omega⟩ := Fin.sum_univ_add (a := 3072) (b := 1024) f
  have e2 : ∑ u : Fin 3072, f ⟨u.val, by omega⟩ = ∑ u : Fin 2048, f ⟨u.val, by omega⟩ + ∑ u : Fin 1024, f ⟨2048 + u.val, by omega⟩ :=
    Fin.sum_univ_add (a := 2048) (b := 1024) fun u : Fin 3072 => f ⟨u.val, by omega⟩
  have e1 : ∑ u : Fin 2048, f ⟨u.val, by omega⟩ = ∑ u : Fin 1024, f ⟨u.val, by omega⟩ + ∑ u : Fin 1024, f ⟨1024 + u.val, by omega⟩ :=
    Fin.sum_univ_add (a := 1024) (b := 1024) fun u : Fin 2048 => f ⟨u.val, by omega⟩
  rw [e3, e2, e1]
  simp only [add_assoc]

/-- A gate: the value times its logistic. `u` is one. -/
def silu (u x : EReal) : EReal := x * Ideal.div u (u + Ideal.exp (-x))

/-- One entry of a row of four heads of 128: the norm of its head, times its gate. -/
def gated (u c e : EReal) (o g : Fin 512 → EReal) (w : Fin 128 → EReal) (k : Fin 512) : EReal :=
  rms c e (fun l : Fin 128 => o ⟨128 * (k.val / 128) + l.val, by omega⟩) w ⟨k.val % 128, by omega⟩ * silu u (g k)

/-- The entry by the head that it lies in. -/
theorem gated_cases (u c e : EReal) (o g : Fin 512 → EReal) (w : Fin 128 → EReal) (k : Fin 512) :
    gated u c e o g w k
      = if h : k.val < 128 then rms c e (fun l : Fin 128 => o ⟨l.val, by omega⟩) w ⟨k.val, h⟩ * silu u (g k)
        else if h : k.val - 128 < 128 then rms c e (fun l : Fin 128 => o ⟨128 + l.val, by omega⟩) w ⟨k.val - 128, h⟩ * silu u (g ⟨128 + (k.val - 128), by omega⟩)
        else if h : k.val - 128 - 128 < 128 then
          rms c e (fun l : Fin 128 => o ⟨256 + l.val, by omega⟩) w ⟨k.val - 128 - 128, h⟩ * silu u (g ⟨256 + (k.val - 128 - 128), by omega⟩)
        else
          rms c e (fun l : Fin 128 => o ⟨384 + l.val, by omega⟩) w ⟨k.val - 128 - 128 - 128, by omega⟩ * silu u (g ⟨384 + (k.val - 128 - 128 - 128), by omega⟩) := by
  unfold gated
  split_ifs with h1 h2 h3
  · have e1 : k.val / 128 = 0 := by omega
    have e2 : k.val % 128 = k.val := by omega
    simp only [e1, e2, Nat.mul_zero, Nat.zero_add]
  · have e1 : k.val / 128 = 1 := by omega
    have e2 : k.val % 128 = k.val - 128 := by omega
    have e3 : 128 + (k.val - 128) = k.val := by omega
    simp only [e1, e2, e3, Nat.mul_one]
  · have e1 : k.val / 128 = 2 := by omega
    have e2 : k.val % 128 = k.val - 128 - 128 := by omega
    have e3 : 256 + (k.val - 128 - 128) = k.val := by omega
    simp only [e1, e2, e3, Nat.reduceMul]
  · have e1 : k.val / 128 = 3 := by omega
    have e2 : k.val % 128 = k.val - 128 - 128 - 128 := by omega
    have e3 : 384 + (k.val - 128 - 128 - 128) = k.val := by omega
    simp only [e1, e2, e3, Nat.reduceMul]

end Cert.Mlp
end
-- ==== Proof.Mlp3Ref.lean ====
/- The second layer's output projection and feed-forward part in the reference: its result as a term in layers, and its elements. -/
module

public import proofs.«01_k».proof.Proof.MlpMath
public import proofs.«01_k».proof.Proof.Gen.Reference3Ideal

@[expose] public section

set_option maxRecDepth 16384

noncomputable section

namespace Cert.Reference3Ideal.Mlp

open Cert.Reference3Ideal Cert.Reference3Ideal.Gen Idealize.ShloMosaic Idealize.ShloMosaic.TcCoe Idealize.SL.Sem
open Cert.Mlp (rms relu2 ff mix silu gated)

section
variable (x : FVec Ideal S8x8192x1024 .f32) (a b : FVec Ideal S8x8192x512 .f32) (w : FVec Ideal S1024x1024 .f32) (g : FVec Ideal S1024 .f32)
  (w1 : FVec Ideal S1024x4096 .f32) (w2 : FVec Ideal S4096x1024 .f32)

/-- The norm of each head of a scan's two directions, added. -/
def headsTerm (o o' : FVec Ideal S8x8192x4x128 .f32) (n : FVec Ideal S128 .f32) : FVec Ideal S8x8192x4x128 .f32 :=
  mulf (mulf (addf o o') (broadcastInDim S8x8192x4x128 ![0, 1, 2, 3] bcast_S8x8192x4x1_S8x8192x4x128_0_1_2_3 (Host.rsqrt (addf (Host.divf
      (broadcastInDim S8x8192x4x1 ![0, 1, 2] bcast_S8x8192x4_S8x8192x4x1_0_1_2
        (Host.reduceAdd (mulf (addf o o') (addf o o')) (constant S_ .f32 0x00000000#32) reducesTo_S8x8192x4x128_S8x8192x4_d3 h_S_))
      (broadcastInDim S8x8192x4x1 ![] bcast_S_S8x8192x4x1 (constant S_ .f32 0x43000000#32))) (broadcastInDim S8x8192x4x1 ![] bcast_S_S8x8192x4x1 (constant S_ .f32 0x358637BD#32))))))
    (broadcastInDim S8x8192x4x128 ![0, 1, 2, 3] bcast_S1x1x1x128_S8x8192x4x128_0_1_2_3 (broadcastInDim S1x1x1x128 ![3] bcast_S128_S1x1x1x128_3 n))

/-- The gate of each entry. -/
def siluTerm (x : FVec Ideal S8x8192x4x128 .f32) : FVec Ideal S8x8192x4x128 .f32 :=
  mulf x (Host.divf (broadcastInDim S8x8192x4x128 ![] bcast_S_S8x8192x4x128 (constant S_ .f32 0x3F800000#32))
    (addf (broadcastInDim S8x8192x4x128 ![] bcast_S_S8x8192x4x128 (constant S_ .f32 0x3F800000#32)) (Host.exp (Host.negf x))))

/-- A scan's output: its heads' norms, gated, side by side. -/
def gateTerm (o o' : FVec Ideal S8x8192x4x128 .f32) (q : FVec Ideal S8x8192x512 .f32) (n : FVec Ideal S128 .f32) : FVec Ideal S8x8192x512 .f32 :=
  shapeCast S8x8192x512 (mulf (headsTerm o o' n) (siluTerm (shapeCast S8x8192x4x128 q shapeCasts_S8x8192x512_S8x8192x4x128))) shapeCasts_S8x8192x4x128_S8x8192x512

theorem headsTerm_at (o o' : FVec Ideal S8x8192x4x128 .f32) (n : FVec Ideal S128 .f32) (p : Fin 8) (s : Fin 8192) (d : Fin 4) (l : Fin 128) :
    headsTerm o o' n (ix4 p s d l)
      = rms (Ideal.ofBits .f32 0x43000000#32) (Ideal.ofBits .f32 0x358637BD#32) (fun l => o (ix4 p s d l) + o' (ix4 p s d l)) (fun l => n (ix1 l)) l := by
  unfold headsTerm rms
  pointwise

theorem siluTerm_at (x : FVec Ideal S8x8192x4x128 .f32) (p : Fin 8) (s : Fin 8192) (d : Fin 4) (l : Fin 128) :
    siluTerm x (ix4 p s d l) = silu (Ideal.ofBits .f32 0x3F800000#32) (x (ix4 p s d l)) := by
  unfold siluTerm silu
  pointwise

/-- Entry `k` of a scan's gated output is that of lane `k % 128` of head `k / 128`. -/
theorem gateTerm_at (o o' : FVec Ideal S8x8192x4x128 .f32) (q : FVec Ideal S8x8192x512 .f32) (n : FVec Ideal S128 .f32) (p : Fin 8) (s : Fin 8192) (k : Fin 512) :
    gateTerm o o' q n (ix3 p s k)
      = gated (Ideal.ofBits .f32 0x3F800000#32) (Ideal.ofBits .f32 0x43000000#32) (Ideal.ofBits .f32 0x358637BD#32)
          (fun k => o (ix4 p s ⟨k.val / 128, by omega⟩ ⟨k.val % 128, by omega⟩) + o' (ix4 p s ⟨k.val / 128, by omega⟩ ⟨k.val % 128, by omega⟩))
          (fun k => q (ix3 p s k)) (fun l => n (ix1 l)) k := by
  have e1 : ∀ l : Fin 128, (128 * (k.val / 128) + l.val) / 128 = k.val / 128 := fun l => by omega
  have e2 : ∀ l : Fin 128, (128 * (k.val / 128) + l.val) % 128 = l.val := fun l => by omega
  unfold gated gateTerm
  simp only [e1, e2]
  pointwise [headsTerm_at, siluTerm_at]

/-- The mixers' outputs side by side. -/
def sides : FVec Ideal S8x8192x1024 .f32 := concatenate S8x8192x1024 2 [⟨S8x8192x512, a⟩, ⟨S8x8192x512, b⟩] concatenates_S8x8192x512_S8x8192x512_S8x8192x1024_d2

/-- After the output projection. -/
def mixTerm : FVec Ideal S8x8192x1024 .f32 := addf x (Host.dotGeneral dot_S8x8192x1024_S1024x1024_S8x8192x1024_2_0_01_1_n_n none (sides a b) w)

/-- The norm of `y`. -/
def normTerm (y : FVec Ideal S8x8192x1024 .f32) : FVec Ideal S8x8192x1024 .f32 :=
  mulf (mulf y (broadcastInDim S8x8192x1024 ![0, 1, 2] bcast_S8x8192x1_S8x8192x1024_0_1_2 (Host.rsqrt (addf (Host.divf
      (broadcastInDim S8x8192x1 ![0, 1] bcast_S8x8192_S8x8192x1_0_1 (Host.reduceAdd (mulf y y) (constant S_ .f32 0x00000000#32) reducesTo_S8x8192x1024_S8x8192_d2 h_S_))
      (broadcastInDim S8x8192x1 ![] bcast_S_S8x8192x1 (constant S_ .f32 0x44800000#32))) (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- The positive part of the first product. -/
def hidTerm (h : FVec Ideal S8x8192x1024 .f32) : FVec Ideal S8x8192x4096 .f32 :=
  maximumf (Host.dotGeneral dot_S8x8192x1024_S1024x4096_S8x8192x4096_2_0_01_1_n_n none h w1) (broadcastInDim S8x8192x4096 ![] bcast_S_S8x8192x4096 (constant S_ .f32 0x00000000#32))

/-- After the feed-forward part. -/
def ffTerm (y : FVec Ideal S8x8192x1024 .f32) : FVec Ideal S8x8192x1024 .f32 :=
  addf y (Host.dotGeneral dot_S8x8192x4096_S4096x1024_S8x8192x1024_2_0_01_1_n_n none (mulf (hidTerm w1 (normTerm g y)) (hidTerm w1 (normTerm g y))) w2)

theorem mixTerm_at (p : Fin 8) (s : Fin 8192) (j : Fin 1024) :
    mixTerm x a b w (ix3 p s j) = mix (fun k => x (ix3 p s k)) (fun k => a (ix3 p s k)) (fun k => b (ix3 p s k))
      (fun k j => w (ix2 ⟨k.val, by omega⟩ j)) (fun k j => w (ix2 ⟨512 + k.val, by omega⟩ j)) j := by
  unfold mixTerm sides mix
  pointwise
  exact (add_assoc _ _ _).symm

theorem normTerm_at (y : FVec Ideal S8x8192x1024 .f32) (p : Fin 8) (s : Fin 8192) (j : Fin 1024) :
    normTerm g y (ix3 p s j) = rms (Ideal.ofBits .f32 0x44800000#32) (Ideal.ofBits .f32 0x358637BD#32) (fun k => y (ix3 p s k)) (fun k => g (ix1 k)) j := by
  unfold normTerm rms
  pointwise

theorem hidTerm_at (h : FVec Ideal S8x8192x1024 .f32) (p : Fin 8) (s : Fin 8192) (u : Fin 4096) :
    hidTerm w1 h (ix3 p s u) = max (∑ k : Fin 1024, h (ix3 p s k) * w1 (ix2 k u)) 0 := by
  unfold hidTerm
  pointwise

theorem ffTerm_at (y : FVec Ideal S8x8192x1024 .f32) (p : Fin 8) (s : Fin 8192) (j : Fin 1024) :
    ffTerm g w1 w2 y (ix3 p s j) = ff 0 (fun k => y (ix3 p s k))
      (rms (Ideal.ofBits .f32 0x44800000#32) (Ideal.ofBits .f32 0x358637BD#32) (fun k => y (ix3 p s k)) (fun k => g (ix1 k)))
      (fun k u => w1 (ix2 k u)) (fun u j => w2 (ix2 u j)) j := by
  unfold ffTerm ff relu2
  pointwise [hidTerm_at, normTerm_at]

/-- The last norm of the rows after the feed-forward part, of the rows `y` after the mixers. -/
def lastTerm (e : FVec Ideal S1024 .f32) (y : FVec Ideal S8x8192x1024 .f32) : FVec Ideal S8x8192x1024 .f32 := normTerm e (ffTerm g w1 w2 y)

theorem lastTerm_at (e : FVec Ideal S1024 .f32) (y : FVec Ideal S8x8192x1024 .f32) (p : Fin 8) (s : Fin 8192) (j : Fin 1024) :
    lastTerm g w1 w2 e y (ix3 p s j) = rms (Ideal.ofBits .f32 0x44800000#32) (Ideal.ofBits .f32 0x358637BD#32)
      (ff 0 (fun k => y (ix3 p s k)) (rms (Ideal.ofBits .f32 0x44800000#32) (Ideal.ofBits .f32 0x358637BD#32) (fun k => y (ix3 p s k)) (fun k => g (ix1 k)))
        (fun k u => w1 (ix2 k u)) (fun u j => w2 (ix2 u j))) (fun k => e (ix1 k)) j := by
  unfold lastTerm
  rw [normTerm_at]
  simp only [ffTerm_at]

/-- The reference's result of its arguments. -/
def result (e : FVec Ideal S1024 .f32) : FVec Ideal S65536x1024 .f32 := shapeCast S65536x1024 (lastTerm g w1 w2 e (mixTerm x a b w)) shapeCasts_S8x8192x1024_S65536x1024

/-- The result at an index: the row of a token through both parts. -/
theorem result_at (e : FVec Ideal S1024 .f32) (R : Fin 65536) (j : Fin 1024) :
    result x a b w g w1 w2 e (ix2 R j) = lastTerm g w1 w2 e (mixTerm x a b w) (ix3 ⟨R.val / 8192, by omega⟩ ⟨R.val % 8192, by omega⟩ j) := by
  unfold result
  pointwise
end

end Cert.Reference3Ideal.Mlp
end
-- ==== Proof.Mlp3RefRun.lean ====
/- The second layer's output projection and feed-forward part in the reference: the run of its host operations, which ends with the result
   array at the term of the arguments that `Mlp3Ref` states in layers. -/
module

public import proofs.«01_k».proof.Proof.Mlp3Ref
public import Idealize.ShloMosaic.Lib.StableHlo.Run

@[expose] public section

noncomputable section

namespace Cert.Reference3Ideal.Mlp

open Cert.Reference3Ideal Cert.Reference3Ideal.Gen Idealize.ShloMosaic Idealize.ShloMosaic.TcCoe Idealize.SL.Sem Idealize.ShloMosaic.StableHlo

section
variable {F : FTy → Type} [FloatOps F]

/-- Two arrays side by side along the last axis, as a function of the two. -/
def fn_main_v36 : (⟨S8x8192x512, .f32⟩ : BufTy).Contents (Elt F) → (⟨S8x8192x512, .f32⟩ : BufTy).Contents (Elt F) → (⟨S8x8192x1024, .f32⟩ : BufTy).Contents (Elt F) :=
  (fun a b => concatenate S8x8192x1024 2 [⟨S8x8192x512, a⟩, ⟨S8x8192x512, b⟩] concatenates_S8x8192x512_S8x8192x512_S8x8192x1024_d2)

/-- The program's 101 operations, in order. -/
abbrev ops : List (HloOp τ sig (Elt F)) :=
  [ binary main_arg1 main_arg2 main_v0 (addf : (⟨S8x8192x4x128, .f32⟩ : BufTy).Contents (Elt F) → (⟨S8x8192x4x128, .f32⟩ : BufTy).Contents (Elt F) → (⟨S8x8192x4x128, .f32⟩ : BufTy).Contents (Elt F)),
    binary main_v0 main_v0 main_v1 (mulf : (⟨S8x8192x4x128, .f32⟩ : BufTy).Contents (Elt F) → (⟨S8x8192x4x128, .f32⟩ : BufTy).Contents (Elt F) → (⟨S8x8192x4x128, .f32⟩ : BufTy).Contents (Elt F)),
    nullary main_cst (constant S_ .f32 0x00000000#32),
    binary main_v1 main_cst main_v2 ((fun x v => Host.reduceAdd x v reducesTo_S8x8192x4x128_S8x8192x4_d3 h_S_) : (⟨S8x8192x4x128, .f32⟩ : BufTy).Contents (Elt F) → (⟨S_, .f32⟩ : BufTy).Contents (Elt F) → (⟨S8x8192x4, .f32⟩ : BufTy).Contents (Elt F)),
    unary main_v2 main_v3 (broadcastInDim S8x8192x4x1 ![0, 1, 2] bcast_S8x8192x4_S8x8192x4x1_0_1_2 : (⟨S8x8192x4, .f32⟩ : BufTy).Contents (Elt F) → (⟨S8x8192x4x1, .f32⟩ : BufTy).Contents (Elt F)),
    nullary main_cst_0 (constant S_ .f32 0x43000000#32),
    unary main_cst_0 main_v4 (broadcastInDim S8x8192x4x1 ![] bcast_S_S8x8192x4x1 : (⟨S_, .f32⟩ : BufTy).Contents (Elt F) → (⟨S8x8192x4x1, .f32⟩ : BufTy).Contents (Elt F)),
    binary main_v3 main_v4 main_v5 (Host.divf : (⟨S8x8192x4x1, .f32⟩ : BufTy).Contents (Elt F) → (⟨S8x8192x4x1, .f32⟩ : BufTy).Contents (Elt F) → (⟨S8x8192x4x1, .f32⟩ : BufTy).Contents (Elt F)),
    nullary main_cst_1 (constant S_ .f32 0x358637BD#32),
    unary main_cst_1 main_v6 (broadcastInDim S8x8192x4x1 ![] bcast_S_S8x8192x4x1 : (⟨S_, .f32⟩ : BufTy).Contents (Elt F) → (⟨S8x8192x4x1, .f32⟩ : BufTy).Contents (Elt F)),
    binary main_v5 main_v6 main_v7 (addf : (⟨S8x8192x4x1, .f32⟩ : BufTy).Contents (Elt F) → (⟨S8x8192x4x1, .f32⟩ : BufTy).Contents (Elt F) → (⟨S8x8192x4x1, .f32⟩ : BufTy).Contents (Elt F)),
    unary main_v7 main_v8 (Host.rsqrt : (⟨S8x8192x4x1, .f32⟩ : BufTy).Contents (Elt F) → (⟨S8x8192x4x1, .f32⟩ : BufTy).Contents (Elt F)),
    unary main_v8 main_v9 (broadcastInDim S8x8192x4x128 ![0, 1, 2, 3] bcast_S8x8192x4x1_S8x8192x4x128_0_1_2_3 : (⟨S8x8192x4x1, .f32⟩ : BufTy).Contents (Elt F) → (⟨S8x8192x4x128, .f32⟩ : BufTy).Contents (Elt F)),
    binary main_v0 main_v9 main_v10 (mulf : (⟨S8x8192x4x128, .f32⟩ : BufTy).Contents (Elt F) → (⟨S8x8192x4x128, .f32⟩ : BufTy).Contents (Elt F) → (⟨S8x8192x4x128, .f32⟩ : BufTy).Contents (Elt F)),
    unary main_arg7 main_v11 (broadcastInDim S1x1x1x128 ![3] bcast_S128_S1x1x1x128_3 : (⟨S128, .f32⟩ : BufTy).Contents (Elt F) → (⟨S1x1x1x128, .f32⟩ : BufTy).Contents (Elt F)),
    unary main_v11 main_v12 (broadcastInDim S8x8192x4x128 ![0, 1, 2, 3] bcast_S1x1x1x128_S8x8192x4x128_0_1_2_3 : (⟨S1x1x1x128, .f32⟩ : BufTy).Contents (Elt F) → (⟨S8x8192x4x128, .f32⟩ : BufTy).Contents (Elt F)),
    binary main_v10 main_v12 main_v13 (mulf : (⟨S8x8192x4x128, .f32⟩ : BufTy).Contents (Elt F) → (⟨S8x8192x4x128, .f32⟩ : BufTy).Contents (Elt F) → (⟨S8x8192x4x128, .f32⟩ : BufTy).Contents (Elt F)),
    reshape main_arg5 main_v14 (rfl : (.f32 : EltTy) = .f32) shapeCasts_S8x8192x512_S8x8192x4x128,
    TRef.unary (TRef.of (T := ⟨S8x8192x4x128, .f32⟩) main_v14) (TRef.of (T := ⟨S8x8192x4x128, .f32⟩) main_call0_v0) Host.negf,
    TRef.unary (TRef.of (T := ⟨S8x8192x4x128, .f32⟩) main_call0_v0) (TRef.of (T := ⟨S8x8192x4x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S8x8192x4x128, .f32⟩) main_call0_v2) (broadcastInDim S8x8192x4x128 ![] bcast_S_S8x8192x4x128),
    TRef.binary (TRef.of (T := ⟨S8x8192x4x128, .f32⟩) main_call0_v2) (TRef.of (T := ⟨S8x8192x4x128, .f32⟩) main_call0_v1) (TRef.of (T := ⟨S8x8192x4x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S8x8192x4x128, .f32⟩) main_call0_v4) (broadcastInDim S8x8192x4x128 ![] bcast_S_S8x8192x4x128),
    TRef.binary (TRef.of (T := ⟨S8x8192x4x128, .f32⟩) main_call0_v4) (TRef.of (T := ⟨S8x8192x4x128, .f32⟩) main_call0_v3) (TRef.of (T := ⟨S8x8192x4x128, .f32⟩) main_call0_v5) Host.divf,
    TRef.binary (TRef.of (T := ⟨S8x8192x4x128, .f32⟩) main_v14) (TRef.of (T := ⟨S8x8192x4x128, .f32⟩) main_call0_v5) (TRef.of (T := ⟨S8x8192x4x128, .f32⟩) main_v15) mulf,
    binary main_v13 main_v15 main_v16 (mulf : (⟨S8x8192x4x128, .f32⟩ : BufTy).Contents (Elt F) → (⟨S8x8192x4x128, .f32⟩ : BufTy).Contents (Elt F) → (⟨S8x8192x4x128, .f32⟩ : BufTy).Contents (Elt F)),
    reshape main_v16 main_v17 (rfl : (.f32 : EltTy) = .f32) shapeCasts_S8x8192x4x128_S8x8192x512,
    binary main_arg3 main_arg4 main_v18 (addf : (⟨S8x8192x4x128, .f32⟩ : BufTy).Contents (Elt F) → (⟨S8x8192x4x128, .f32⟩ : BufTy).Contents (Elt F) → (⟨S8x8192x4x128, .f32⟩ : BufTy).Contents (Elt F)),
    binary main_v18 main_v18 main_v19 (mulf : (⟨S8x8192x4x128, .f32⟩ : BufTy).Contents (Elt F) → (⟨S8x8192x4x128, .f32⟩ : BufTy).Contents (Elt F) → (⟨S8x8192x4x128, .f32⟩ : BufTy).Contents (Elt F)),
    nullary main_cst_2 (constant S_ .f32 0x00000000#32),
    binary main_v19 main_cst_2 main_v20 ((fun x v => Host.reduceAdd x v reducesTo_S8x8192x4x128_S8x8192x4_d3 h_S_) : (⟨S8x8192x4x128, .f32⟩ : BufTy).Contents (Elt F) → (⟨S_, .f32⟩ : BufTy).Contents (Elt F) → (⟨S8x8192x4, .f32⟩ : BufTy).Contents (Elt F)),
    unary main_v20 main_v21 (broadcastInDim S8x8192x4x1 ![0, 1, 2] bcast_S8x8192x4_S8x8192x4x1_0_1_2 : (⟨S8x8192x4, .f32⟩ : BufTy).Contents (Elt F) → (⟨S8x8192x4x1, .f32⟩ : BufTy).Contents (Elt F)),
    nullary main_cst_3 (constant S_ .f32 0x43000000#32),
    unary main_cst_3 main_v22 (broadcastInDim S8x8192x4x1 ![] bcast_S_S8x8192x4x1 : (⟨S_, .f32⟩ : BufTy).Contents (Elt F) → (⟨S8x8192x4x1, .f32⟩ : BufTy).Contents (Elt F)),
    binary main_v21 main_v22 main_v23 (Host.divf : (⟨S8x8192x4x1, .f32⟩ : BufTy).Contents (Elt F) → (⟨S8x8192x4x1, .f32⟩ : BufTy).Contents (Elt F) → (⟨S8x8192x4x1, .f32⟩ : BufTy).Contents (Elt F)),
    nullary main_cst_4 (constant S_ .f32 0x358637BD#32),
    unary main_cst_4 main_v24 (broadcastInDim S8x8192x4x1 ![] bcast_S_S8x8192x4x1 : (⟨S_, .f32⟩ : BufTy).Contents (Elt F) → (⟨S8x8192x4x1, .f32⟩ : BufTy).Contents (Elt F)),
    binary main_v23 main_v24 main_v25 (addf : (⟨S8x8192x4x1, .f32⟩ : BufTy).Contents (Elt F) → (⟨S8x8192x4x1, .f32⟩ : BufTy).Contents (Elt F) → (⟨S8x8192x4x1, .f32⟩ : BufTy).Contents (Elt F)),
    unary main_v25 main_v26 (Host.rsqrt : (⟨S8x8192x4x1, .f32⟩ : BufTy).Contents (Elt F) → (⟨S8x8192x4x1, .f32⟩ : BufTy).Contents (Elt F)),
    unary main_v26 main_v27 (broadcastInDim S8x8192x4x128 ![0, 1, 2, 3] bcast_S8x8192x4x1_S8x8192x4x128_0_1_2_3 : (⟨S8x8192x4x1, .f32⟩ : BufTy).Contents (Elt F) → (⟨S8x8192x4x128, .f32⟩ : BufTy).Contents (Elt F)),
    binary main_v18 main_v27 main_v28 (mulf : (⟨S8x8192x4x128, .f32⟩ : BufTy).Contents (Elt F) → (⟨S8x8192x4x128, .f32⟩ : BufTy).Contents (Elt F) → (⟨S8x8192x4x128, .f32⟩ : BufTy).Contents (Elt F)),
    unary main_arg8 main_v29 (broadcastInDim S1x1x1x128 ![3] bcast_S128_S1x1x1x128_3 : (⟨S128, .f32⟩ : BufTy).Contents (Elt F) → (⟨S1x1x1x128, .f32⟩ : BufTy).Contents (Elt F)),
    unary main_v29 main_v30 (broadcastInDim S8x8192x4x128 ![0, 1, 2, 3] bcast_S1x1x1x128_S8x8192x4x128_0_1_2_3 : (⟨S1x1x1x128, .f32⟩ : BufTy).Contents (Elt F) → (⟨S8x8192x4x128, .f32⟩ : BufTy).Contents (Elt F)),
    binary main_v28 main_v30 main_v31 (mulf : (⟨S8x8192x4x128, .f32⟩ : BufTy).Contents (Elt F) → (⟨S8x8192x4x128, .f32⟩ : BufTy).Contents (Elt F) → (⟨S8x8192x4x128, .f32⟩ : BufTy).Contents (Elt F)),
    reshape main_arg6 main_v32 (rfl : (.f32 : EltTy) = .f32) shapeCasts_S8x8192x512_S8x8192x4x128,
    TRef.unary (TRef.of (T := ⟨S8x8192x4x128, .f32⟩) main_v32) (TRef.of (T := ⟨S8x8192x4x128, .f32⟩) main_call1_v0) Host.negf,
    TRef.unary (TRef.of (T := ⟨S8x8192x4x128, .f32⟩) main_call1_v0) (TRef.of (T := ⟨S8x8192x4x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S8x8192x4x128, .f32⟩) main_call1_v2) (broadcastInDim S8x8192x4x128 ![] bcast_S_S8x8192x4x128),
    TRef.binary (TRef.of (T := ⟨S8x8192x4x128, .f32⟩) main_call1_v2) (TRef.of (T := ⟨S8x8192x4x128, .f32⟩) main_call1_v1) (TRef.of (T := ⟨S8x8192x4x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S8x8192x4x128, .f32⟩) main_call1_v4) (broadcastInDim S8x8192x4x128 ![] bcast_S_S8x8192x4x128),
    TRef.binary (TRef.of (T := ⟨S8x8192x4x128, .f32⟩) main_call1_v4) (TRef.of (T := ⟨S8x8192x4x128, .f32⟩) main_call1_v3) (TRef.of (T := ⟨S8x8192x4x128, .f32⟩) main_call1_v5) Host.divf,
    TRef.binary (TRef.of (T := ⟨S8x8192x4x128, .f32⟩) main_v32) (TRef.of (T := ⟨S8x8192x4x128, .f32⟩) main_call1_v5) (TRef.of (T := ⟨S8x8192x4x128, .f32⟩) main_v33) mulf,
    binary main_v31 main_v33 main_v34 (mulf : (⟨S8x8192x4x128, .f32⟩ : BufTy).Contents (Elt F) → (⟨S8x8192x4x128, .f32⟩ : BufTy).Contents (Elt F) → (⟨S8x8192x4x128, .f32⟩ : BufTy).Contents (Elt F)),
    reshape main_v34 main_v35 (rfl : (.f32 : EltTy) = .f32) shapeCasts_S8x8192x4x128_S8x8192x512,
    binary main_v17 main_v35 main_v36 (fn_main_v36 (F := F)),
    binary main_v36 main_arg9 main_v37 ((fun l r => Host.dotGeneral dot_S8x8192x1024_S1024x1024_S8x8192x1024_2_0_01_1_n_n none l r) : (⟨S8x8192x1024, .f32⟩ : BufTy).Contents (Elt F) → (⟨S1024x1024, .f32⟩ : BufTy).Contents (Elt F) → (⟨S8x8192x1024, .f32⟩ : BufTy).Contents (Elt F)),
    binary main_arg0 main_v37 main_v38 (addf : (⟨S8x8192x1024, .f32⟩ : BufTy).Contents (Elt F) → (⟨S8x8192x1024, .f32⟩ : BufTy).Contents (Elt F) → (⟨S8x8192x1024, .f32⟩ : BufTy).Contents (Elt F)),
    binary main_v38 main_v38 main_v39 (mulf : (⟨S8x8192x1024, .f32⟩ : BufTy).Contents (Elt F) → (⟨S8x8192x1024, .f32⟩ : BufTy).Contents (Elt F) → (⟨S8x8192x1024, .f32⟩ : BufTy).Contents (Elt F)),
    nullary main_cst_5 (constant S_ .f32 0x00000000#32),
    binary main_v39 main_cst_5 main_v40 ((fun x v => Host.reduceAdd x v reducesTo_S8x8192x1024_S8x8192_d2 h_S_) : (⟨S8x8192x1024, .f32⟩ : BufTy).Contents (Elt F) → (⟨S_, .f32⟩ : BufTy).Contents (Elt F) → (⟨S8x8192, .f32⟩ : BufTy).Contents (Elt F)),
    unary main_v40 main_v41 (broadcastInDim S8x8192x1 ![0, 1] bcast_S8x8192_S8x8192x1_0_1 : (⟨S8x8192, .f32⟩ : BufTy).Contents (Elt F) → (⟨S8x8192x1, .f32⟩ : BufTy).Contents (Elt F)),
    nullary main_cst_6 (constant S_ .f32 0x44800000#32),
    unary main_cst_6 main_v42 (broadcastInDim S8x8192x1 ![] bcast_S_S8x8192x1 : (⟨S_, .f32⟩ : BufTy).Contents (Elt F) → (⟨S8x8192x1, .f32⟩ : BufTy).Contents (Elt F)),
    binary main_v41 main_v42 main_v43 (Host.divf : (⟨S8x8192x1, .f32⟩ : BufTy).Contents (Elt F) → (⟨S8x8192x1, .f32⟩ : BufTy).Contents (Elt F) → (⟨S8x8192x1, .f32⟩ : BufTy).Contents (Elt F)),
    nullary main_cst_7 (constant S_ .f32 0x358637BD#32),
    unary main_cst_7 main_v44 (broadcastInDim S8x8192x1 ![] bcast_S_S8x8192x1 : (⟨S_, .f32⟩ : BufTy).Contents (Elt F) → (⟨S8x8192x1, .f32⟩ : BufTy).Contents (Elt F)),
    binary main_v43 main_v44 main_v45 (addf : (⟨S8x8192x1, .f32⟩ : BufTy).Contents (Elt F) → (⟨S8x8192x1, .f32⟩ : BufTy).Contents (Elt F) → (⟨S8x8192x1, .f32⟩ : BufTy).Contents (Elt F)),
    unary main_v45 main_v46 (Host.rsqrt : (⟨S8x8192x1, .f32⟩ : BufTy).Contents (Elt F) → (⟨S8x8192x1, .f32⟩ : BufTy).Contents (Elt F)),
    unary main_v46 main_v47 (broadcastInDim S8x8192x1024 ![0, 1, 2] bcast_S8x8192x1_S8x8192x1024_0_1_2 : (⟨S8x8192x1, .f32⟩ : BufTy).Contents (Elt F) → (⟨S8x8192x1024, .f32⟩ : BufTy).Contents (Elt F)),
    binary main_v38 main_v47 main_v48 (mulf : (⟨S8x8192x1024, .f32⟩ : BufTy).Contents (Elt F) → (⟨S8x8192x1024, .f32⟩ : BufTy).Contents (Elt F) → (⟨S8x8192x1024, .f32⟩ : BufTy).Contents (Elt F)),
    unary main_arg10 main_v49 (broadcastInDim S1x1x1024 ![2] bcast_S1024_S1x1x1024_2 : (⟨S1024, .f32⟩ : BufTy).Contents (Elt F) → (⟨S1x1x1024, .f32⟩ : BufTy).Contents (Elt F)),
    unary main_v49 main_v50 (broadcastInDim S8x8192x1024 ![0, 1, 2] bcast_S1x1x1024_S8x8192x1024_0_1_2 : (⟨S1x1x1024, .f32⟩ : BufTy).Contents (Elt F) → (⟨S8x8192x1024, .f32⟩ : BufTy).Contents (Elt F)),
    binary main_v48 main_v50 main_v51 (mulf : (⟨S8x8192x1024, .f32⟩ : BufTy).Contents (Elt F) → (⟨S8x8192x1024, .f32⟩ : BufTy).Contents (Elt F) → (⟨S8x8192x1024, .f32⟩ : BufTy).Contents (Elt F)),
    binary main_v51 main_arg11 main_v52 ((fun l r => Host.dotGeneral dot_S8x8192x1024_S1024x4096_S8x8192x4096_2_0_01_1_n_n none l r) : (⟨S8x8192x1024, .f32⟩ : BufTy).Contents (Elt F) → (⟨S1024x4096, .f32⟩ : BufTy).Contents (Elt F) → (⟨S8x8192x4096, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8x8192x4096, .f32⟩) main_call2_v0) (broadcastInDim S8x8192x4096 ![] bcast_S_S8x8192x4096),
    TRef.binary (TRef.of (T := ⟨S8x8192x4096, .f32⟩) main_v52) (TRef.of (T := ⟨S8x8192x4096, .f32⟩) main_call2_v0) (TRef.of (T := ⟨S8x8192x4096, .f32⟩) main_v53) maximumf,
    binary main_v53 main_v53 main_v54 (mulf : (⟨S8x8192x4096, .f32⟩ : BufTy).Contents (Elt F) → (⟨S8x8192x4096, .f32⟩ : BufTy).Contents (Elt F) → (⟨S8x8192x4096, .f32⟩ : BufTy).Contents (Elt F)),
    binary main_v54 main_arg12 main_v55 ((fun l r => Host.dotGeneral dot_S8x8192x4096_S4096x1024_S8x8192x1024_2_0_01_1_n_n none l r) : (⟨S8x8192x4096, .f32⟩ : BufTy).Contents (Elt F) → (⟨S4096x1024, .f32⟩ : BufTy).Contents (Elt F) → (⟨S8x8192x1024, .f32⟩ : BufTy).Contents (Elt F)),
    binary main_v38 main_v55 main_v56 (addf : (⟨S8x8192x1024, .f32⟩ : BufTy).Contents (Elt F) → (⟨S8x8192x1024, .f32⟩ : BufTy).Contents (Elt F) → (⟨S8x8192x1024, .f32⟩ : BufTy).Contents (Elt F)),
    binary main_v56 main_v56 main_v57 (mulf : (⟨S8x8192x1024, .f32⟩ : BufTy).Contents (Elt F) → (⟨S8x8192x1024, .f32⟩ : BufTy).Contents (Elt F) → (⟨S8x8192x1024, .f32⟩ : BufTy).Contents (Elt F)),
    nullary main_cst_8 (constant S_ .f32 0x00000000#32),
    binary main_v57 main_cst_8 main_v58 ((fun x v => Host.reduceAdd x v reducesTo_S8x8192x1024_S8x8192_d2 h_S_) : (⟨S8x8192x1024, .f32⟩ : BufTy).Contents (Elt F) → (⟨S_, .f32⟩ : BufTy).Contents (Elt F) → (⟨S8x8192, .f32⟩ : BufTy).Contents (Elt F)),
    unary main_v58 main_v59 (broadcastInDim S8x8192x1 ![0, 1] bcast_S8x8192_S8x8192x1_0_1 : (⟨S8x8192, .f32⟩ : BufTy).Contents (Elt F) → (⟨S8x8192x1, .f32⟩ : BufTy).Contents (Elt F)),
    nullary main_cst_9 (constant S_ .f32 0x44800000#32),
    unary main_cst_9 main_v60 (broadcastInDim S8x8192x1 ![] bcast_S_S8x8192x1 : (⟨S_, .f32⟩ : BufTy).Contents (Elt F) → (⟨S8x8192x1, .f32⟩ : BufTy).Contents (Elt F)),
    binary main_v59 main_v60 main_v61 (Host.divf : (⟨S8x8192x1, .f32⟩ : BufTy).Contents (Elt F) → (⟨S8x8192x1, .f32⟩ : BufTy).Contents (Elt F) → (⟨S8x8192x1, .f32⟩ : BufTy).Contents (Elt F)),
    nullary main_cst_10 (constant S_ .f32 0x358637BD#32),
    unary main_cst_10 main_v62 (broadcastInDim S8x8192x1 ![] bcast_S_S8x8192x1 : (⟨S_, .f32⟩ : BufTy).Contents (Elt F) → (⟨S8x8192x1, .f32⟩ : BufTy).Contents (Elt F)),
    binary main_v61 main_v62 main_v63 (addf : (⟨S8x8192x1, .f32⟩ : BufTy).Contents (Elt F) → (⟨S8x8192x1, .f32⟩ : BufTy).Contents (Elt F) → (⟨S8x8192x1, .f32⟩ : BufTy).Contents (Elt F)),
    unary main_v63 main_v64 (Host.rsqrt : (⟨S8x8192x1, .f32⟩ : BufTy).Contents (Elt F) → (⟨S8x8192x1, .f32⟩ : BufTy).Contents (Elt F)),
    unary main_v64 main_v65 (broadcastInDim S8x8192x1024 ![0, 1, 2] bcast_S8x8192x1_S8x8192x1024_0_1_2 : (⟨S8x8192x1, .f32⟩ : BufTy).Contents (Elt F) → (⟨S8x8192x1024, .f32⟩ : BufTy).Contents (Elt F)),
    binary main_v56 main_v65 main_v66 (mulf : (⟨S8x8192x1024, .f32⟩ : BufTy).Contents (Elt F) → (⟨S8x8192x1024, .f32⟩ : BufTy).Contents (Elt F) → (⟨S8x8192x1024, .f32⟩ : BufTy).Contents (Elt F)),
    unary main_arg13 main_v67 (broadcastInDim S1x1x1024 ![2] bcast_S1024_S1x1x1024_2 : (⟨S1024, .f32⟩ : BufTy).Contents (Elt F) → (⟨S1x1x1024, .f32⟩ : BufTy).Contents (Elt F)),
    unary main_v67 main_v68 (broadcastInDim S8x8192x1024 ![0, 1, 2] bcast_S1x1x1024_S8x8192x1024_0_1_2 : (⟨S1x1x1024, .f32⟩ : BufTy).Contents (Elt F) → (⟨S8x8192x1024, .f32⟩ : BufTy).Contents (Elt F)),
    binary main_v66 main_v68 main_v69 (mulf : (⟨S8x8192x1024, .f32⟩ : BufTy).Contents (Elt F) → (⟨S8x8192x1024, .f32⟩ : BufTy).Contents (Elt F) → (⟨S8x8192x1024, .f32⟩ : BufTy).Contents (Elt F)),
    reshape main_v69 main_v70 (rfl : (.f32 : EltTy) = .f32) shapeCasts_S8x8192x1024_S65536x1024 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub ..⟩

end

set_option maxRecDepth 8192 in
set_option maxHeartbeats 40400000 in
/-- Every run ends with the result array at its term of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70) = result (m ((c.tc : Thread nD τ).loc main_arg0)) (gateTerm (m ((c.tc : Thread nD τ).loc main_arg1)) (m ((c.tc : Thread nD τ).loc main_arg2)) (m ((c.tc : Thread nD τ).loc main_arg5)) (m ((c.tc : Thread nD τ).loc main_arg7))) (gateTerm (m ((c.tc : Thread nD τ).loc main_arg3)) (m ((c.tc : Thread nD τ).loc main_arg4)) (m ((c.tc : Thread nD τ).loc main_arg6)) (m ((c.tc : Thread nD τ).loc main_arg8))) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v70).trans (by simp only [ops, TRef.binary, TRef.nullary, TRef.unary, TRef.toBuf, TRef.ofBuf, cast_eq]; after_results_simp; rfl),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl),
      (h c main_arg2).trans (by simp only [ops, TRef.binary, TRef.nullary, TRef.unary, TRef.toBuf, TRef.ofBuf, cast_eq]; after_results_simp <;> rfl),
      (h c main_arg3).trans (by simp only [ops, TRef.binary, TRef.nullary, TRef.unary, TRef.toBuf, TRef.ofBuf, cast_eq]; after_results_simp <;> rfl),
      (h c main_arg4).trans (by simp only [ops, TRef.binary, TRef.nullary, TRef.unary, TRef.toBuf, TRef.ofBuf, cast_eq]; after_results_simp <;> rfl),
      (h c main_arg5).trans (by simp only [ops, TRef.binary, TRef.nullary, TRef.unary, TRef.toBuf, TRef.ofBuf, cast_eq]; after_results_simp <;> rfl),
      (h c main_arg6).trans (by simp only [ops, TRef.binary, TRef.nullary, TRef.unary, TRef.toBuf, TRef.ofBuf, cast_eq]; after_results_simp <;> rfl),
      (h c main_arg7).trans (by simp only [ops, TRef.binary, TRef.nullary, TRef.unary, TRef.toBuf, TRef.ofBuf, cast_eq]; after_results_simp <;> rfl),
      (h c main_arg8).trans (by simp only [ops, TRef.binary, TRef.nullary, TRef.unary, TRef.toBuf, TRef.ofBuf, cast_eq]; after_results_simp <;> rfl),
      (h c main_arg9).trans (by simp only [ops, TRef.binary, TRef.nullary, TRef.unary, TRef.toBuf, TRef.ofBuf, cast_eq]; after_results_simp <;> rfl),
      (h c main_arg10).trans (by simp only [ops, TRef.binary, TRef.nullary, TRef.unary, TRef.toBuf, TRef.ofBuf, cast_eq]; after_results_simp <;> rfl),
      (h c main_arg11).trans (by simp only [ops, TRef.binary, TRef.nullary, TRef.unary, TRef.toBuf, TRef.ofBuf, cast_eq]; after_results_simp <;> rfl),
      (h c main_arg12).trans (by simp only [ops, TRef.binary, TRef.nullary, TRef.unary, TRef.toBuf, TRef.ofBuf, cast_eq]; after_results_simp <;> rfl),
      (h c main_arg13).trans (by simp only [ops, TRef.binary, TRef.nullary, TRef.unary, TRef.toBuf, TRef.ofBuf, cast_eq]; after_results_simp <;> rfl)⟩)
    (run_seq scopedRefs_eq scopedSems_eq defs main (fun _ => ops) main_eq (fun _ => ops_sub) m ρ)

end Cert.Reference3Ideal.Mlp

end
-- ==== Proof.MlpFrames.lean ====
/- The frames of the two layers' output projections and feed-forward parts: the programs end with their arguments unchanged. -/
module

public import proofs.«01_k».proof.Defs
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Reference2Ideal.Run
public import proofs.«01_k».proof.Proof.Mlp3RefRun

@[expose] public section

noncomputable section

namespace Cert.Mlp

open Idealize.ShloMosaic Idealize.SL.Sem

/-- The first layer's kernel as printed ends with its arguments unchanged and every counter at zero. -/
theorem frame_kernel2 : Cert.quiescent_Kernel2 (hKernel2 := Cert.Kernel2.Gen.facts) := fun m ρ _ => Cert.Kernel2.Gen.frame m ρ

/-- So does its idealized form. -/
theorem frame_ideal2 : Cert.quiescent_Kernel2Ideal (hKernel2Ideal := Cert.Kernel2Ideal.Gen.facts) := fun m ρ _ => Cert.Kernel2Ideal.Gen.frame m ρ

/-- The reference is host code alone: its run, and no counter to move. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The second layer's kernel as printed ends with its arguments unchanged and every counter at zero. -/
theorem frame_kernel3 : Cert.quiescent_Kernel3 (hKernel3 := Cert.Kernel3.Gen.facts) := fun m ρ _ => Cert.Kernel3.Gen.frame m ρ

/-- So does its idealized form. -/
theorem frame_ideal3 : Cert.quiescent_Kernel3Ideal (hKernel3Ideal := Cert.Kernel3Ideal.Gen.facts) := fun m ρ _ => Cert.Kernel3Ideal.Gen.frame m ρ

/-- The reference is host code alone: its run, and no counter to move. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Mlp.run m ρ)

end Cert.Mlp

end
-- ==== Proof.Mlp2Body.lean ====
/- One grid point of the first layer's output projection and feed-forward part: what the body leaves in the result's block. -/
module

public import proofs.«01_k».proof.Proof.Gen.Kernel2Ideal.Value
public import proofs.«01_k».proof.Proof.MlpMath
public import Idealize.ShloMosaic.Lib.Pointwise

@[expose] public section

set_option maxRecDepth 16384

noncomputable section

namespace Cert.Kernel2Ideal.Mlp

open Cert.Kernel2Ideal Cert.Kernel2Ideal.Gen Idealize.ShloMosaic Idealize.ShloMosaic.TcCoe Idealize.SL.Sem
open Cert.Mlp (rms relu2 ff mix)

/-- The block after the mixers: the residual plus the two products with the halves of the output weight. -/
def mixed (x0 : Vec Ideal S1024x1024 .f32) (x1 x2 : Vec Ideal S1024x512 .bf16) (x3 : Vec Ideal S1024x1024 .bf16) : Vec Ideal S1024x1024 .f32 :=
  k0_pay2 x0 x1 (View.ld x3 (Rect.unit ![0, 0] S512x1024.size inb_S1024x1024_S512x1024_0_0)) x2
    (View.ld x3 (Rect.unit ![512, 0] S512x1024.size inb_S1024x1024_S512x1024_512_0))

/-- The block after the feed-forward part, of the block `y` after the mixers, chunk of hidden columns by chunk. -/
def fed (y : Vec Ideal S1024x1024 .f32) (x4 : Vec Ideal S1x1024 .f32) (x5 : Vec Ideal S1024x4096 .bf16) (x6 : Vec Ideal S4096x1024 .bf16) : Vec Ideal S1024x1024 .f32 :=
  k0_pay1
    (k0_pay6 (k0_pay3 y) (k0_pay4 y x4)
      (k0_pay5 (View.ld x5 (Rect.unit ![0, 0] S1024x1024.size inb_S1024x4096_S1024x1024_0_0))) (constant S1024x1024 .f32 0#32)
      (View.ld x6 (Rect.unit ![0, 0] S1024x1024.size inb_S4096x1024_S1024x1024_0_0))
      (View.ld x5 (Rect.unit ![0, 1024] S1024x1024.size inb_S1024x4096_S1024x1024_0_1024))
      (View.ld x6 (Rect.unit ![1024, 0] S1024x1024.size inb_S4096x1024_S1024x1024_1024_0))
      (View.ld x5 (Rect.unit ![0, 2048] S1024x1024.size inb_S1024x4096_S1024x1024_0_2048))
      (View.ld x6 (Rect.unit ![2048, 0] S1024x1024.size inb_S4096x1024_S1024x1024_2048_0)))
    (k0_pay7 (k0_pay4 y x4) (View.ld x5 (Rect.unit ![0, 3072] S1024x1024.size inb_S1024x4096_S1024x1024_0_3072)))
    (View.ld x6 (Rect.unit ![3072, 0] S1024x1024.size inb_S4096x1024_S1024x1024_3072_0))

/-- The body's last store covers the block and leaves the fed block; what it read back in between is the mixed block. -/
theorem out_eq (c : Dev nD) (i : grid0.Coords) (arg1 : Memref sig .tc .vmem S1024x1024 .f32) (harg1 : arg1.IsWhole) (arg2 : Memref sig .tc .vmem S1024x512 .bf16) (harg2 : arg2.IsWhole)
    (arg3 : Memref sig .tc .vmem S1024x512 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x4096 .bf16) (harg6 : arg6.IsWhole)
    (arg7 : Memref sig .tc .vmem S4096x1024 .bf16) (harg7 : arg7.IsWhole) (arg8 : Memref sig .tc .vmem S1x1024 .f32) (harg8 : arg8.IsWhole)
    (arg9 : Memref sig .tc .vmem S1024x1024 .f32) (harg9 : arg9.IsWhole)
    (x0 : Vec Ideal S1024x1024 .f32) (x1 : Vec Ideal S1024x512 .bf16) (x2 : Vec Ideal S1024x512 .bf16) (x3 : Vec Ideal S1024x1024 .bf16) (x4 : Vec Ideal S1x1024 .f32)
    (x5 : Vec Ideal S1024x4096 .bf16) (x6 : Vec Ideal S4096x1024 .bf16) (x7 : Vec Ideal S1x1024 .f32) :
    out0_A_8 c i arg1 harg1 arg2 harg2 arg3 harg3 arg4 harg4 arg5 harg5 arg6 harg6 arg7 harg7 arg8 harg8 arg9 harg9 x0 x1 x2 x3 x4 x5 x6 x7
      = fed (mixed x0 x1 x2 x3) x4 x5 x6 := by
  have hz : ∀ {n : ℕ}, n = 0 → (![n, 0] : Fin 2 → ℕ) = fun _ => 0 := fun h => funext fun a => by subst h; fin_cases a <;> rfl
  unfold out0_A_8
  rw [View.read_writes_junk_eq_canon]
  refine (View.canon_cons_unit_zero (hz rfl) _ _ _).trans ?_
  have hv : kernelRun0_A.sl.v15 c arg1 harg1 arg2 harg2 arg3 harg3 arg4 harg4 arg9 x0 x1 x2 x3 = mixed x0 x1 x2 x3 := by
    unfold kernelRun0_A.sl.v15 kernelRun0_A.sl.H8_1
    rw [View.readCov_unit_zero _ (hz rfl)]
    simp only [View.readAt_eq_ld, harg1.read_unread, harg2.read_unread, harg3.read_unread, harg4.read_unread]
    rw [View.ld_unit_zero (hz rfl), View.ld_unit_zero (hz rfl), View.ld_unit_zero (hz rfl)]
    rfl
  unfold kernelRun0_A.sl.r_3 kernelRun0_A.sl.r_4 kernelRun0_A.sl.r kernelRun0_A.sl.r_1 kernelRun0_A.sl.r_2 kernelRun0_A.sl.cst_20
  rw [hv]
  simp only [View.readAt_eq_ld, harg5.read_unread, harg6.read_unread, harg7.read_unread]
  rw [View.ld_unit_zero (S := S1x1024) (hz rfl)]
  rfl

/-! ## The elements -/

theorem mixed_at (x0 : Vec Ideal S1024x1024 .f32) (x1 x2 : Vec Ideal S1024x512 .bf16) (x3 : Vec Ideal S1024x1024 .bf16) (r j : Fin 1024) :
    mixed x0 x1 x2 x3 (ix2 r j)
      = mix (fun k => x0 (ix2 r k)) (fun k => x1 (ix2 r k)) (fun k => x2 (ix2 r k)) (fun k j => x3 (ix2 ⟨k.val, by omega⟩ j)) (fun k j => x3 (ix2 ⟨512 + k.val, by omega⟩ j)) j := by
  unfold mixed mix
  rw [View.ld_unit, View.ld_unit]
  pointwise [k0_pay2]

theorem fed_at (y : Vec Ideal S1024x1024 .f32) (x4 : Vec Ideal S1x1024 .f32) (x5 : Vec Ideal S1024x4096 .bf16) (x6 : Vec Ideal S4096x1024 .bf16) (r j : Fin 1024) :
    fed y x4 x5 x6 (ix2 r j)
      = ff 0 (fun k => y (ix2 r k)) (rms (Ideal.ofBits .f32 0x44800000#32) (Ideal.ofBits .f32 0x358637BD#32) (fun k => y (ix2 r k)) (fun k => x4 (ix2 0 k)))
          (fun k u => x5 (ix2 k u)) (fun u j => x6 (ix2 u j)) j := by
  unfold fed ff
  rw [← Cert.Mlp.sum_four]
  simp only [View.ld_unit]
  unfold relu2 rms
  pointwise [k0_pay1, k0_pay6, k0_pay7, k0_pay4, k0_pay5, k0_pay3]

end Cert.Kernel2Ideal.Mlp
end
-- ==== Proof.Mlp2Run.lean ====
/- The first layer's output projection and feed-forward part: the result array after the run, as a function of the arrays that the
   region finds. -/
module

public import proofs.«01_k».proof.Proof.Mlp2Body

@[expose] public section

set_option maxRecDepth 16384

noncomputable section

namespace Cert.Kernel2Ideal.Mlp

open Cert.Kernel2Ideal Cert.Kernel2Ideal.Gen Idealize.ShloMosaic Idealize.ShloMosaic.TcCoe Idealize.SL.Sem
open Cert.Mlp (rms relu2 ff mix)

/-- A row after the mixers. -/
def mixRow (X : Vec Ideal S65536x1024 .f32) (A B : Vec Ideal S65536x512 .bf16) (W : Vec Ideal S1024x1024 .bf16) (R : Fin 65536) : Fin 1024 → EReal :=
  mix (fun k => X (ix2 R k)) (fun k => A (ix2 R k)) (fun k => B (ix2 R k)) (fun k j => W (ix2 ⟨k.val, by omega⟩ j)) (fun k j => W (ix2 ⟨512 + k.val, by omega⟩ j))

/-- The result array: each row through the feed-forward part. -/
def whole (X : Vec Ideal S65536x1024 .f32) (A B : Vec Ideal S65536x512 .bf16) (W : Vec Ideal S1024x1024 .bf16) (G : Vec Ideal S1x1024 .f32)
    (W1 : Vec Ideal S1024x4096 .bf16) (W2 : Vec Ideal S4096x1024 .bf16) : Vec Ideal S65536x1024 .f32 := fun y =>
  ff 0 (mixRow X A B W (y 0)) (rms (Ideal.ofBits .f32 0x44800000#32) (Ideal.ofBits .f32 0x358637BD#32) (mixRow X A B W (y 0)) (fun k => G (ix2 0 k)))
    (fun k u => W1 (ix2 k u)) (fun u j => W2 (ix2 u j)) (y 1)

variable (m : (ℓ : Loc nD τ sig) → Buf (Elt Ideal) ℓ) (ρ : Dev nD → PrngReg)

/-! ## Where the blocks lie -/

theorem at0 (t : Fin cfg0.N) : win0_0.index t 0 = t.val ∧ win0_0.index t 1 = 0 :=
  (by decide +kernel : ∀ t : Fin grid0.N, win0_0.index t 0 = t.val ∧ win0_0.index t 1 = 0) t
theorem at1 (t : Fin cfg0.N) : win0_1.index t 0 = t.val ∧ win0_1.index t 1 = 0 :=
  (by decide +kernel : ∀ t : Fin grid0.N, win0_1.index t 0 = t.val ∧ win0_1.index t 1 = 0) t
theorem at2 (t : Fin cfg0.N) : win0_2.index t 0 = t.val ∧ win0_2.index t 1 = 0 :=
  (by decide +kernel : ∀ t : Fin grid0.N, win0_2.index t 0 = t.val ∧ win0_2.index t 1 = 0) t
theorem at8 (t : Fin cfg0.N) : win0_8.index t 0 = t.val ∧ win0_8.index t 1 = 0 :=
  (by decide +kernel : ∀ t : Fin grid0.N, win0_8.index t 0 = t.val ∧ win0_8.index t 1 = 0) t

theorem lt_64 (t : Fin cfg0.N) : t.val < 64 := lt_of_lt_of_eq t.isLt N_0

/-- The row of the arrays that row `r` of block `t` is. -/
abbrev rowOf (t : Fin cfg0.N) (r : Fin 1024) : Fin 65536 := ⟨1024 * t.val + r.val, by have := lt_64 t; omega⟩

theorem blk0_at (c : Dev nD) (t : Fin cfg0.N) (r k : Fin 1024) : iblk m c 0 t (ix2 r k) = (V m c main_v4 : Vec Ideal S65536x1024 .f32) (ix2 (rowOf t r) k) := by
  unfold iblk
  rw [View.read_apply]
  refine congrArg (V m c main_v4 : Vec Ideal S65536x1024 .f32) (funext fun a => Fin.ext ?_)
  match a with
  | ⟨0, _⟩ => show win0_0.index t 0 * 1024 + 1 * r.val = _; rw [(at0 t).1]; show _ = 1024 * t.val + r.val; omega
  | ⟨1, _⟩ => show win0_0.index t 1 * 1024 + 1 * k.val = _; rw [(at0 t).2]; show _ = k.val; omega

theorem blk1_at (c : Dev nD) (t : Fin cfg0.N) (r : Fin 1024) (k : Fin 512) : iblk m c 1 t (ix2 r k) = (V m c main_v1 : Vec Ideal S65536x512 .bf16) (ix2 (rowOf t r) k) := by
  unfold iblk
  rw [View.read_apply]
  refine congrArg (V m c main_v1 : Vec Ideal S65536x512 .bf16) (funext fun a => Fin.ext ?_)
  match a with
  | ⟨0, _⟩ => show win0_1.index t 0 * 1024 + 1 * r.val = _; rw [(at1 t).1]; show _ = 1024 * t.val + r.val; omega
  | ⟨1, _⟩ => show win0_1.index t 1 * 512 + 1 * k.val = _; rw [(at1 t).2]; show _ = k.val; omega

theorem blk2_at (c : Dev nD) (t : Fin cfg0.N) (r : Fin 1024) (k : Fin 512) : iblk m c 2 t (ix2 r k) = (V m c main_v3 : Vec Ideal S65536x512 .bf16) (ix2 (rowOf t r) k) := by
  unfold iblk
  rw [View.read_apply]
  refine congrArg (V m c main_v3 : Vec Ideal S65536x512 .bf16) (funext fun a => Fin.ext ?_)
  match a with
  | ⟨0, _⟩ => show win0_2.index t 0 * 1024 + 1 * r.val = _; rw [(at2 t).1]; show _ = 1024 * t.val + r.val; omega
  | ⟨1, _⟩ => show win0_2.index t 1 * 512 + 1 * k.val = _; rw [(at2 t).2]; show _ = k.val; omega

/-- The weights and the gain are staged whole. -/
theorem blk3 (c : Dev nD) (t : Fin cfg0.N) : iblk m c 3 t = (V m c main_v5 : Vec Ideal S1024x1024 .bf16) := by
  funext y
  unfold iblk
  rw [View.read_apply]
  refine congrArg (V m c main_v5 : Vec Ideal S1024x1024 .bf16) (funext fun a => Fin.ext ?_)
  match a with
  | ⟨0, _⟩ => show 0 * 1024 + 1 * (y 0).val = (y 0).val; omega
  | ⟨1, _⟩ => show 0 * 1024 + 1 * (y 1).val = (y 1).val; omega

theorem blk4 (c : Dev nD) (t : Fin cfg0.N) : iblk m c 4 t = (V m c main_v8 : Vec Ideal S1x1024 .f32) := by
  funext y
  unfold iblk
  rw [View.read_apply]
  refine congrArg (V m c main_v8 : Vec Ideal S1x1024 .f32) (funext fun a => Fin.ext ?_)
  match a with
  | ⟨0, _⟩ => show 0 * 1 + 1 * (y 0).val = (y 0).val; omega
  | ⟨1, _⟩ => show 0 * 1024 + 1 * (y 1).val = (y 1).val; omega

theorem blk5 (c : Dev nD) (t : Fin cfg0.N) : iblk m c 5 t = (V m c main_v6 : Vec Ideal S1024x4096 .bf16) := by
  funext y
  unfold iblk
  rw [View.read_apply]
  refine congrArg (V m c main_v6 : Vec Ideal S1024x4096 .bf16) (funext fun a => Fin.ext ?_)
  match a with
  | ⟨0, _⟩ => show 0 * 1024 + 1 * (y 0).val = (y 0).val; omega
  | ⟨1, _⟩ => show 0 * 4096 + 1 * (y 1).val = (y 1).val; omega

theorem blk6 (c : Dev nD) (t : Fin cfg0.N) : iblk m c 6 t = (V m c main_v7 : Vec Ideal S4096x1024 .bf16) := by
  funext y
  unfold iblk
  rw [View.read_apply]
  refine congrArg (V m c main_v7 : Vec Ideal S4096x1024 .bf16) (funext fun a => Fin.ext ?_)
  match a with
  | ⟨0, _⟩ => show 0 * 4096 + 1 * (y 0).val = (y 0).val; omega
  | ⟨1, _⟩ => show 0 * 1024 + 1 * (y 1).val = (y 1).val; omega

/-- A block of the result array, at an index. -/
theorem oblk_at (X : Vec Ideal S65536x1024 .f32) (t : Fin cfg0.N) (r j : Fin 1024) :
    ((cfg0.win 8).blk t).view.read (Elt Ideal) X (ix2 r j) = X (ix2 (rowOf t r) j) := by
  rw [View.read_apply]
  refine congrArg X (funext fun a => Fin.ext ?_)
  match a with
  | ⟨0, _⟩ => show win0_8.index t 0 * 1024 + 1 * r.val = _; rw [(at8 t).1]; show _ = 1024 * t.val + r.val; omega
  | ⟨1, _⟩ => show win0_8.index t 1 * 1024 + 1 * j.val = _; rw [(at8 t).2]; show _ = j.val; omega

/-- Two blocks equal at every index are equal. -/
theorem block_ext (x y : Vec Ideal S1024x1024 .f32) (h : ∀ r j : Fin 1024, x (ix2 r j) = y (ix2 r j)) : x = y := by
  funext z
  obtain ⟨r, j, rfl⟩ : ∃ r j : Fin 1024, z = ix2 r j := ⟨z 0, z 1, by funext i; match i with | ⟨0, _⟩ => rfl | ⟨1, _⟩ => rfl⟩
  exact h r j

/-! ## The result array -/

/-- The result array, of the arrays as the region finds them. -/
def result (c : Dev nD) : Vec Ideal S65536x1024 .f32 :=
  whole (V m c main_v4) (V m c main_v1) (V m c main_v3) (V m c main_v5) (V m c main_v8) (V m c main_v6) (V m c main_v7)

theorem outBlock_eq (c : Dev nD) (t : Fin cfg0.N) :
    fed (mixed (iblk m c 0 t) (iblk m c 1 t) (iblk m c 2 t) (iblk m c 3 t)) (iblk m c 4 t) (iblk m c 5 t) (iblk m c 6 t)
      = ((cfg0.win 8).blk t).view.read (Elt Ideal) (result m c) := by
  refine block_ext _ _ fun r j => ?_
  refine Eq.trans ?_ (oblk_at (result m c) t r j).symm
  have hrow : (fun k => mixed (iblk m c 0 t) (iblk m c 1 t) (iblk m c 2 t) (iblk m c 3 t) (ix2 r k))
      = mixRow (V m c main_v4) (V m c main_v1) (V m c main_v3) (V m c main_v5) (rowOf t r) := by
    funext k
    rw [mixed_at, blk3]
    unfold mixRow
    simp only [blk0_at, blk1_at, blk2_at]
  rw [fed_at, hrow, blk4, blk5, blk6]
  rfl

theorem flushed_eq (c : Dev nD) (t : Fin cfg0.N) (hf : (cfg0.win 8).flush t = true) :
    (dats m 0 c).flushed 8 t = ((cfg0.win 8).blk t).view.read (Elt Ideal) (result m c) := by
  rw [Value.flushed8_A, out_eq, outBlock_eq]

theorem final_out (c : Dev nD) : (dats m 0 c).arrAt 8 cfg0.N = result m c :=
  (dats m 0 c).arrAt_eq_of_cover 8 (result m c) (flushed_eq m c) fun i => by
    have h0 : (i 0 : Nat) < 65536 := (i 0).isLt
    have h1 : (i 1 : Nat) < 1024 := (i 1).isLt
    have hN : cfg0.N = 64 := N_0
    let t : Fin cfg0.N := ⟨(i 0 : Nat) / 1024, by rw [hN]; omega⟩
    refine ⟨t, flush0_8 t, ?_⟩
    show i ∈ ((View.whole main_v10).slice (win0_8.rect t)).set
    rw [View.set_slice_whole, Rect.mem_set_unit]
    intro a
    match a with
    | ⟨0, _⟩ =>
      show win0_8.index t 0 * 1024 ≤ (i 0 : Nat) ∧ (i 0 : Nat) < win0_8.index t 0 * 1024 + 1024
      rw [(at8 t).1]
      show (i 0 : Nat) / 1024 * 1024 ≤ (i 0 : Nat) ∧ (i 0 : Nat) < (i 0 : Nat) / 1024 * 1024 + 1024
      omega
    | ⟨1, _⟩ =>
      show win0_8.index t 1 * 1024 ≤ (i 1 : Nat) ∧ (i 1 : Nat) < win0_8.index t 1 * 1024 + 1024
      rw [(at8 t).2]; omega

end Cert.Kernel2Ideal.Mlp
end
-- ==== Proof.Mlp2Ref.lean ====
/- The first layer's output projection and feed-forward part in the reference: its result as a term in layers, and its elements. -/
module

public import proofs.«01_k».proof.Proof.MlpMath
public import proofs.«01_k».proof.Proof.Gen.Reference2Ideal.Run

@[expose] public section

set_option maxRecDepth 16384

noncomputable section

namespace Cert.Reference2Ideal.Mlp

open Cert.Reference2Ideal Cert.Reference2Ideal.Gen Idealize.ShloMosaic Idealize.ShloMosaic.TcCoe Idealize.SL.Sem
open Cert.Mlp (rms relu2 ff mix)

section
variable (x : FVec Ideal S8x8192x1024 .f32) (a b : FVec Ideal S8x8192x512 .f32) (w : FVec Ideal S1024x1024 .f32) (g : FVec Ideal S1024 .f32)
  (w1 : FVec Ideal S1024x4096 .f32) (w2 : FVec Ideal S4096x1024 .f32)

/-- The mixers' outputs side by side. -/
def sides : FVec Ideal S8x8192x1024 .f32 := concatenate S8x8192x1024 2 [⟨S8x8192x512, a⟩, ⟨S8x8192x512, b⟩] concatenates_S8x8192x512_S8x8192x512_S8x8192x1024_d2

/-- After the output projection. -/
def mixTerm : FVec Ideal S8x8192x1024 .f32 := addf x (Host.dotGeneral dot_S8x8192x1024_S1024x1024_S8x8192x1024_2_0_01_1_n_n none (sides a b) w)

/-- The norm of `y`. -/
def normTerm (y : FVec Ideal S8x8192x1024 .f32) : FVec Ideal S8x8192x1024 .f32 :=
  mulf (mulf y (broadcastInDim S8x8192x1024 ![0, 1, 2] bcast_S8x8192x1_S8x8192x1024_0_1_2 (Host.rsqrt (addf (Host.divf
      (broadcastInDim S8x8192x1 ![0, 1] bcast_S8x8192_S8x8192x1_0_1 (Host.reduceAdd (mulf y y) (constant S_ .f32 0x00000000#32) reducesTo_S8x8192x1024_S8x8192_d2 h_S_))
      (broadcastInDim S8x8192x1 ![] bcast_S_S8x8192x1 (constant S_ .f32 0x44800000#32))) (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- The positive part of the first product. -/
def hidTerm (h : FVec Ideal S8x8192x1024 .f32) : FVec Ideal S8x8192x4096 .f32 :=
  maximumf (Host.dotGeneral dot_S8x8192x1024_S1024x4096_S8x8192x4096_2_0_01_1_n_n none h w1) (broadcastInDim S8x8192x4096 ![] bcast_S_S8x8192x4096 (constant S_ .f32 0x00000000#32))

/-- After the feed-forward part. -/
def ffTerm (y : FVec Ideal S8x8192x1024 .f32) : FVec Ideal S8x8192x1024 .f32 :=
  addf y (Host.dotGeneral dot_S8x8192x4096_S4096x1024_S8x8192x1024_2_0_01_1_n_n none (mulf (hidTerm w1 (normTerm g y)) (hidTerm w1 (normTerm g y))) w2)

theorem mixTerm_at (p : Fin 8) (s : Fin 8192) (j : Fin 1024) :
    mixTerm x a b w (ix3 p s j) = mix (fun k => x (ix3 p s k)) (fun k => a (ix3 p s k)) (fun k => b (ix3 p s k))
      (fun k j => w (ix2 ⟨k.val, by omega⟩ j)) (fun k j => w (ix2 ⟨512 + k.val, by omega⟩ j)) j := by
  unfold mixTerm sides mix
  pointwise
  exact (add_assoc _ _ _).symm

theorem normTerm_at (y : FVec Ideal S8x8192x1024 .f32) (p : Fin 8) (s : Fin 8192) (j : Fin 1024) :
    normTerm g y (ix3 p s j) = rms (Ideal.ofBits .f32 0x44800000#32) (Ideal.ofBits .f32 0x358637BD#32) (fun k => y (ix3 p s k)) (fun k => g (ix1 k)) j := by
  unfold normTerm rms
  pointwise

theorem hidTerm_at (h : FVec Ideal S8x8192x1024 .f32) (p : Fin 8) (s : Fin 8192) (u : Fin 4096) :
    hidTerm w1 h (ix3 p s u) = max (∑ k : Fin 1024, h (ix3 p s k) * w1 (ix2 k u)) 0 := by
  unfold hidTerm
  pointwise

theorem ffTerm_at (y : FVec Ideal S8x8192x1024 .f32) (p : Fin 8) (s : Fin 8192) (j : Fin 1024) :
    ffTerm g w1 w2 y (ix3 p s j) = ff 0 (fun k => y (ix3 p s k))
      (rms (Ideal.ofBits .f32 0x44800000#32) (Ideal.ofBits .f32 0x358637BD#32) (fun k => y (ix3 p s k)) (fun k => g (ix1 k)))
      (fun k u => w1 (ix2 k u)) (fun u j => w2 (ix2 u j)) j := by
  unfold ffTerm ff relu2
  pointwise [hidTerm_at, normTerm_at]

/-- The reference's result of its arguments. -/
def result : FVec Ideal S65536x1024 .f32 := shapeCast S65536x1024 (ffTerm g w1 w2 (mixTerm x a b w)) shapeCasts_S8x8192x1024_S65536x1024

/-- The result at an index: the row of a token through both parts. -/
theorem result_at (R : Fin 65536) (j : Fin 1024) :
    result x a b w g w1 w2 (ix2 R j) = ffTerm g w1 w2 (mixTerm x a b w) (ix3 ⟨R.val / 8192, by omega⟩ ⟨R.val % 8192, by omega⟩ j) := by
  unfold result
  pointwise
end

variable (m : (ℓ : Loc nD τ sig) → Buf (Elt Ideal) ℓ)

theorem res_eq (c : Dev nD) : Value.res_main_v21 (F := Ideal) m c
    = result (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Value.res_main_v21
  rfl

end Cert.Reference2Ideal.Mlp
end
-- ==== Proof.Mlp2Claim.lean ====
/- The value claim of the first layer's output projection and feed-forward part: the kernel's result array is the reference's. -/
module

public import proofs.«01_k».proof.Proof.Mlp2Run
public import proofs.«01_k».proof.Proof.Mlp2Ref
public import proofs.«01_k».proof.Defs

@[expose] public section

set_option maxRecDepth 16384

noncomputable section

namespace Cert.Kernel2Ideal.Mlp

open Cert.Kernel2Ideal Cert.Kernel2Ideal.Gen Idealize.ShloMosaic Idealize.ShloMosaic.TcCoe Idealize.SL.Sem
open Cert.Mlp (rms relu2 ff mix)

section
variable (m : (ℓ : Loc nD τ sig) → Buf (Elt Ideal) ℓ) (c : Dev nD)

/-! ## What the host leaves in the arrays that the region reads -/

set_option maxHeartbeats 8000000 in
/-- The arrays of the region: the arguments, reshaped or rounded. -/
theorem V_eq :
    V m c main_v4 = (shapeCast S65536x1024 (m ((c.tc : Thread nD τ).loc main_arg0)) shapeCasts_S8x8192x1024_S65536x1024 : FVec Ideal S65536x1024 .f32)
      ∧ V m c main_v1 = (truncf .bf16 (shapeCast S65536x512 (m ((c.tc : Thread nD τ).loc main_arg1) : FVec Ideal S8x8192x512 .f32) shapeCasts_S8x8192x512_S65536x512) bitsLt_bf16_f32 : FVec Ideal S65536x512 .bf16)
      ∧ V m c main_v3 = (truncf .bf16 (shapeCast S65536x512 (m ((c.tc : Thread nD τ).loc main_arg2) : FVec Ideal S8x8192x512 .f32) shapeCasts_S8x8192x512_S65536x512) bitsLt_bf16_f32 : FVec Ideal S65536x512 .bf16)
      ∧ V m c main_v5 = (truncf .bf16 (m ((c.tc : Thread nD τ).loc main_arg3) : FVec Ideal S1024x1024 .f32) bitsLt_bf16_f32 : FVec Ideal S1024x1024 .bf16)
      ∧ V m c main_v8 = (shapeCast S1x1024 (m ((c.tc : Thread nD τ).loc main_arg4) : FVec Ideal S1024 .f32) shapeCasts_S1024_S1x1024 : FVec Ideal S1x1024 .f32)
      ∧ V m c main_v6 = (truncf .bf16 (m ((c.tc : Thread nD τ).loc main_arg5) : FVec Ideal S1024x4096 .f32) bitsLt_bf16_f32 : FVec Ideal S1024x4096 .bf16)
      ∧ V m c main_v7 = (truncf .bf16 (m ((c.tc : Thread nD τ).loc main_arg6) : FVec Ideal S4096x1024 .f32) bitsLt_bf16_f32 : FVec Ideal S4096x1024 .bf16) := by
  refine ⟨?_, ?_, ?_, ?_, ?_, ?_, ?_⟩ <;> (unfold V; after_results_simp) <;> rfl
end

/-! ## The two results -/

section
variable (x : FVec Ideal S8x8192x1024 .f32) (a b : FVec Ideal S8x8192x512 .f32) (w : FVec Ideal S1024x1024 .f32) (g : FVec Ideal S1024 .f32)
  (w1 : FVec Ideal S1024x4096 .f32) (w2 : FVec Ideal S4096x1024 .f32)

/-- The rows after the mixers are the same in both. -/
theorem mixRow_eq (R : Fin 65536) :
    mixRow (shapeCast S65536x1024 x shapeCasts_S8x8192x1024_S65536x1024) (truncf .bf16 (shapeCast S65536x512 a shapeCasts_S8x8192x512_S65536x512) bitsLt_bf16_f32)
      (truncf .bf16 (shapeCast S65536x512 b shapeCasts_S8x8192x512_S65536x512) bitsLt_bf16_f32) (truncf .bf16 w bitsLt_bf16_f32) R
      = fun k => Cert.Reference2Ideal.Mlp.mixTerm x a b w (ix3 ⟨R.val / 8192, by omega⟩ ⟨R.val % 8192, by omega⟩ k) := by
  funext j
  rw [Cert.Reference2Ideal.Mlp.mixTerm_at]
  unfold mixRow mix
  pointwise

/-- The arrays are equal. -/
theorem arrays_eq :
    whole (shapeCast S65536x1024 x shapeCasts_S8x8192x1024_S65536x1024) (truncf .bf16 (shapeCast S65536x512 a shapeCasts_S8x8192x512_S65536x512) bitsLt_bf16_f32)
      (truncf .bf16 (shapeCast S65536x512 b shapeCasts_S8x8192x512_S65536x512) bitsLt_bf16_f32) (truncf .bf16 w bitsLt_bf16_f32) (shapeCast S1x1024 g shapeCasts_S1024_S1x1024)
      (truncf .bf16 w1 bitsLt_bf16_f32) (truncf .bf16 w2 bitsLt_bf16_f32)
      = Cert.Reference2Ideal.Mlp.result x a b w g w1 w2 := by
  funext y
  obtain ⟨R, j, rfl⟩ : ∃ (R : Fin 65536) (j : Fin 1024), y = ix2 R j := ⟨y 0, y 1, by funext i; match i with | ⟨0, _⟩ => rfl | ⟨1, _⟩ => rfl⟩
  rw [Cert.Reference2Ideal.Mlp.result_at, Cert.Reference2Ideal.Mlp.ffTerm_at]
  show ff 0 (mixRow _ _ _ _ R) (rms _ _ (mixRow _ _ _ _ R) _) _ _ j = _
  rw [mixRow_eq]
  have hg : (fun k : Fin 1024 => (shapeCast S1x1024 g shapeCasts_S1024_S1x1024 : FVec Ideal S1x1024 .f32) (ix2 0 k)) = fun k => g (ix1 k) := by
    funext k
    pointwise
  rw [hg]
  rfl
end

/-- The two programs end with equal results and unchanged arguments. -/
theorem algebraic : Cert.algebraic_Kernel2Ideal_Reference2Ideal (hKernel2Ideal := Cert.Kernel2Ideal.Gen.facts) (hReference2Ideal := Cert.Reference2Ideal.Gen.facts) := by
  intro m g m' g' hpre hargs
  refine ⟨result m, (θ_run defs _ _).mono (fun r h c => ⟨(h c).1.trans (final_out m c), (h c).2⟩) (Value.run_blocks m g), ?_⟩
  refine (θ_run Cert.Reference2Ideal.defs _ _).mono (fun r h c => ⟨(h c).1.trans ?_, (h c).2⟩) (Cert.Reference2Ideal.Value.run (F := Ideal) m' g')
  obtain ⟨a0, a1, a2, a3, a4, a5, a6, a7⟩ := hargs c
  rw [Cert.Reference2Ideal.Mlp.res_eq, a0, a1, a2, a3, a4, a5, a6]
  unfold result
  obtain ⟨vx, va, vb, vw, vg, vw1, vw2⟩ := V_eq m c
  rw [vx, va, vb, vw, vg, vw1, vw2]
  exact (arrays_eq _ _ _ _ _ _ _).symm

end Cert.Kernel2Ideal.Mlp
end
-- ==== Proof.Mlp3Body.lean ====
/- One grid point of the second layer's output projection and feed-forward part: what the body leaves in the result's block. -/
module

public import proofs.«01_k».proof.Proof.Gen.Kernel3Ideal.Value
public import proofs.«01_k».proof.Proof.MlpMath
public import Idealize.ShloMosaic.Lib.Pointwise

@[expose] public section

set_option maxRecDepth 16384

noncomputable section

namespace Cert.Kernel3Ideal.Mlp

open Cert.Kernel3Ideal Cert.Kernel3Ideal.Gen Idealize.ShloMosaic Idealize.ShloMosaic.TcCoe Idealize.SL.Sem
open Cert.Mlp (rms relu2 ff mix silu gated)

/-- The residual block plus the product of the first scan's gated heads with the upper half of the output weight. -/
def firstMixed (x0 : Vec Ideal S512x1024 .f32) (x1 x2 : Vec Ideal S512x512 .f32) (x5 : Vec Ideal S512x512 .bf16) (x7 : Vec Ideal S1x128 .f32) (x9 : Vec Ideal S1024x1024 .bf16) :
    Vec Ideal S512x1024 .f32 :=
  k0_pay11 (k0_pay2 x0) (k0_pay3 x1 x2)
    (k0_pay4 x1 x2 (View.ld x5 (Rect.unit ![0, 0] S512x128.size inb_S512x512_S512x128_0_0)) x7)
    (k0_pay7 (k0_pay5 (View.ld x5 (Rect.unit ![0, 128] S512x128.size inb_S512x512_S512x128_0_128))) (k0_pay6 x1 x2) x7)
    (k0_pay8 (View.ld x5 (Rect.unit ![0, 256] S512x128.size inb_S512x512_S512x128_0_256))) (k0_pay9 (k0_pay3 x1 x2) x7)
    (k0_pay10 (View.ld x5 (Rect.unit ![0, 256] S512x128.size inb_S512x512_S512x128_0_256))) (Scalar.ofBits .f32 0x3F800000#32)
    (View.ld x5 (Rect.unit ![0, 384] S512x128.size inb_S512x512_S512x128_0_384)) x7 (View.ld x9 (Rect.unit ![0, 0] S512x1024.size inb_S1024x1024_S512x1024_0_0))

/-- The block `y` plus the product of the second scan's gated heads with the lower half of the output weight. -/
def secondMixed (y : Vec Ideal S512x1024 .f32) (x3 x4 : Vec Ideal S512x512 .f32) (x6 : Vec Ideal S512x512 .bf16) (x8 : Vec Ideal S1x128 .f32) (x9 : Vec Ideal S1024x1024 .bf16) :
    Vec Ideal S512x1024 .f32 :=
  k0_pay22 y (k0_pay13 (k0_pay12 x3) x4)
    (k0_pay14 (k0_pay12 x3) x4 (View.ld x6 (Rect.unit ![0, 0] S512x128.size inb_S512x512_S512x128_0_0)) x8)
    (k0_pay20 (k0_pay15 (View.ld x6 (Rect.unit ![0, 128] S512x128.size inb_S512x512_S512x128_0_128))) (k0_pay16 (k0_pay12 x3) x4) (k0_pay17 x8)
      (k0_pay18 (k0_pay12 x3) x4) (k0_pay19 (F := Ideal)))
    (k0_pay21 (k0_pay13 (k0_pay12 x3) x4) (View.ld x6 (Rect.unit ![0, 256] S512x128.size inb_S512x512_S512x128_0_256)) x8)
    (View.ld x6 (Rect.unit ![0, 384] S512x128.size inb_S512x512_S512x128_0_384)) x8 (View.ld x9 (Rect.unit ![512, 0] S512x1024.size inb_S1024x1024_S512x1024_512_0))

/-- The norm of the block `y` that the feed-forward part works on. -/
def normed (y : Vec Ideal S512x1024 .f32) (x10 : Vec Ideal S1x1024 .f32) : Vec Ideal S512x1024 .bf16 :=
  k0_pay26 (k0_pay23 y) (k0_pay24 x10) (k0_pay25 y) (Scalar.ofBits .f32 0x44800000#32)

/-- The block after the feed-forward part and the last norm, of the block `y` after the mixers. -/
def fed (y : Vec Ideal S512x1024 .f32) (x10 : Vec Ideal S1x1024 .f32) (x11 : Vec Ideal S1024x4096 .bf16) (x12 : Vec Ideal S4096x1024 .bf16) (x13 : Vec Ideal S1x1024 .f32) :
    Vec Ideal S512x1024 .f32 :=
  k0_pay1 (normed y x10)
    (k0_pay27 (k0_pay23 y) (k0_pay24 x10) (k0_pay25 y) (Scalar.ofBits .f32 0x44800000#32)
      (View.ld x11 (Rect.unit ![0, 0] S1024x1024.size inb_S1024x4096_S1024x1024_0_0))
      (View.ld x12 (Rect.unit ![0, 0] S1024x1024.size inb_S4096x1024_S1024x1024_0_0))
      (View.ld x11 (Rect.unit ![0, 1024] S1024x1024.size inb_S1024x4096_S1024x1024_0_1024))
      (View.ld x12 (Rect.unit ![1024, 0] S1024x1024.size inb_S4096x1024_S1024x1024_1024_0)))
    (k0_pay28 (k0_pay23 y) (k0_pay24 x10) (k0_pay25 y) (Scalar.ofBits .f32 0x44800000#32)
      (View.ld x11 (Rect.unit ![0, 2048] S1024x1024.size inb_S1024x4096_S1024x1024_0_2048)))
    (View.ld x12 (Rect.unit ![2048, 0] S1024x1024.size inb_S4096x1024_S1024x1024_2048_0))
    (View.ld x11 (Rect.unit ![0, 3072] S1024x1024.size inb_S1024x4096_S1024x1024_0_3072))
    (View.ld x12 (Rect.unit ![3072, 0] S1024x1024.size inb_S4096x1024_S1024x1024_3072_0)) x13

set_option maxHeartbeats 4000000 in
/-- The body's last store covers the block and leaves the fed block; what it read back in between is the mixed block. -/
theorem out_eq (c : Dev nD) (i : grid0.Coords) (arg1 : Memref sig .tc .vmem S512x1024 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1024x1024 .bf16) (harg10 : arg10.IsWhole)
    (arg11 : Memref sig .tc .vmem S1x1024 .f32) (harg11 : arg11.IsWhole) (arg12 : Memref sig .tc .vmem S1024x4096 .bf16) (harg12 : arg12.IsWhole)
    (arg13 : Memref sig .tc .vmem S4096x1024 .bf16) (harg13 : arg13.IsWhole) (arg14 : Memref sig .tc .vmem S1x1024 .f32) (harg14 : arg14.IsWhole)
    (arg15 : Memref sig .tc .vmem S512x1024 .f32) (harg15 : arg15.IsWhole)
    (x0 : Vec Ideal S512x1024 .f32) (x1 x2 x3 x4 : Vec Ideal S512x512 .f32) (x5 x6 : Vec Ideal S512x512 .bf16) (x7 x8 : Vec Ideal S1x128 .f32)
    (x9 : Vec Ideal S1024x1024 .bf16) (x10 : Vec Ideal S1x1024 .f32) (x11 : Vec Ideal S1024x4096 .bf16) (x12 : Vec Ideal S4096x1024 .bf16) (x13 : Vec Ideal S1x1024 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13
      = fed (secondMixed (firstMixed x0 x1 x2 x5 x7 x9) x3 x4 x6 x8 x9) x10 x11 x12 x13 := by
  have hz : ∀ {n : ℕ}, n = 0 → (![n, 0] : Fin 2 → ℕ) = fun _ => 0 := fun h => funext fun a => by subst h; fin_cases a <;> rfl
  unfold out0_A_14
  rw [View.read_writes_junk_eq_canon]
  refine (View.canon_cons_unit_zero (hz rfl) _ _ _).trans ?_
  have hv : kernelRun0_A.sl.v247 c arg1 harg1 arg2 harg2 arg3 harg3 arg4 harg4 arg5 harg5 arg6 harg6 arg7 harg7 arg8 harg8 arg9 harg9 arg10 harg10 arg15 x0 x1 x2 x3 x4 x5 x6 x7 x8 x9
      = secondMixed (firstMixed x0 x1 x2 x5 x7 x9) x3 x4 x6 x8 x9 := by
    unfold kernelRun0_A.sl.v247 kernelRun0_A.sl.H14_1
    rw [View.readCov_unit_zero _ (hz rfl)]
    unfold kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.cst_30
    simp only [View.readAt_eq_ld, harg1.read_unread, harg2.read_unread, harg3.read_unread, harg4.read_unread, harg5.read_unread, harg6.read_unread, harg7.read_unread, harg8.read_unread, harg9.read_unread, harg10.read_unread]
    simp only [View.ld_unit_zero (S := S512x1024) (hz rfl), View.ld_unit_zero (S := S512x512) (hz rfl), View.ld_unit_zero (S := S1x128) (hz rfl)]
    rfl
  unfold kernelRun0_A.sl.r_25 kernelRun0_A.sl.r_24 kernelRun0_A.sl.r_23 kernelRun0_A.sl.r_22 kernelRun0_A.sl.r_21 kernelRun0_A.sl.r_20 kernelRun0_A.sl.cst_97
  rw [hv]
  simp only [View.readAt_eq_ld, harg11.read_unread, harg12.read_unread, harg13.read_unread, harg14.read_unread]
  simp only [View.ld_unit_zero (S := S1x1024) (hz rfl)]
  rfl

/-! ## The elements -/

/-- The first scan's part, at an index. -/
theorem firstMixed_at (x0 : Vec Ideal S512x1024 .f32) (x1 x2 : Vec Ideal S512x512 .f32) (x5 : Vec Ideal S512x512 .bf16) (x7 : Vec Ideal S1x128 .f32) (x9 : Vec Ideal S1024x1024 .bf16)
    (r : Fin 512) (j : Fin 1024) :
    firstMixed x0 x1 x2 x5 x7 x9 (ix2 r j)
      = x0 (ix2 r j) + ∑ k : Fin 512, gated (Ideal.ofBits .f32 0x3F800000#32) (Ideal.ofBits .f32 0x43000000#32) (Ideal.ofBits .f32 0x358637BD#32)
          (fun k => x1 (ix2 r k) + x2 (ix2 r k)) (fun k => x5 (ix2 r k)) (fun l => x7 (ix2 0 l)) k * x9 (ix2 ⟨k.val, by omega⟩ j) := by
  simp only [Cert.Mlp.gated_cases]
  unfold firstMixed rms silu
  simp only [View.ld_unit]
  pointwise [k0_pay11, k0_pay2, k0_pay3, k0_pay4, k0_pay7, k0_pay5, k0_pay6, k0_pay8, k0_pay9, k0_pay10, zero_sub]

/-- The second scan's part, at an index. -/
theorem secondMixed_at (y : Vec Ideal S512x1024 .f32) (x3 x4 : Vec Ideal S512x512 .f32) (x6 : Vec Ideal S512x512 .bf16) (x8 : Vec Ideal S1x128 .f32) (x9 : Vec Ideal S1024x1024 .bf16)
    (r : Fin 512) (j : Fin 1024) :
    secondMixed y x3 x4 x6 x8 x9 (ix2 r j)
      = y (ix2 r j) + ∑ k : Fin 512, gated (Ideal.ofBits .f32 0x3F800000#32) (Ideal.ofBits .f32 0x43000000#32) (Ideal.ofBits .f32 0x358637BD#32)
          (fun k => x3 (ix2 r k) + x4 (ix2 r k)) (fun k => x6 (ix2 r k)) (fun l => x8 (ix2 0 l)) k * x9 (ix2 ⟨512 + k.val, by omega⟩ j) := by
  simp only [Cert.Mlp.gated_cases]
  unfold secondMixed rms silu
  simp only [View.ld_unit]
  pointwise [k0_pay22, k0_pay12, k0_pay13, k0_pay14, k0_pay15, k0_pay16, k0_pay17, k0_pay18, k0_pay19, k0_pay20, k0_pay21, zero_sub]

/-- The block after the mixers, at an index. -/
theorem mixed_at (x0 : Vec Ideal S512x1024 .f32) (x1 x2 x3 x4 : Vec Ideal S512x512 .f32) (x5 x6 : Vec Ideal S512x512 .bf16) (x7 x8 : Vec Ideal S1x128 .f32)
    (x9 : Vec Ideal S1024x1024 .bf16) (r : Fin 512) (j : Fin 1024) :
    secondMixed (firstMixed x0 x1 x2 x5 x7 x9) x3 x4 x6 x8 x9 (ix2 r j)
      = mix (fun k => x0 (ix2 r k))
          (gated (Ideal.ofBits .f32 0x3F800000#32) (Ideal.ofBits .f32 0x43000000#32) (Ideal.ofBits .f32 0x358637BD#32)
            (fun k => x1 (ix2 r k) + x2 (ix2 r k)) (fun k => x5 (ix2 r k)) (fun l => x7 (ix2 0 l)))
          (gated (Ideal.ofBits .f32 0x3F800000#32) (Ideal.ofBits .f32 0x43000000#32) (Ideal.ofBits .f32 0x358637BD#32)
            (fun k => x3 (ix2 r k) + x4 (ix2 r k)) (fun k => x6 (ix2 r k)) (fun l => x8 (ix2 0 l)))
          (fun k j => x9 (ix2 ⟨k.val, by omega⟩ j)) (fun k j => x9 (ix2 ⟨512 + k.val, by omega⟩ j)) j := by
  rw [secondMixed_at, firstMixed_at]
  rfl

/-- The fed block, at an index: the row's last norm after the feed-forward part. -/
theorem fed_at (y : Vec Ideal S512x1024 .f32) (x10 : Vec Ideal S1x1024 .f32) (x11 : Vec Ideal S1024x4096 .bf16) (x12 : Vec Ideal S4096x1024 .bf16) (x13 : Vec Ideal S1x1024 .f32)
    (r : Fin 512) (j : Fin 1024) :
    fed y x10 x11 x12 x13 (ix2 r j)
      = rms (Ideal.ofBits .f32 0x44800000#32) (Ideal.ofBits .f32 0x358637BD#32)
          (ff 0 (fun k => y (ix2 r k)) (rms (Ideal.ofBits .f32 0x44800000#32) (Ideal.ofBits .f32 0x358637BD#32) (fun k => y (ix2 r k)) (fun k => x10 (ix2 0 k)))
            (fun k u => x11 (ix2 k u)) (fun u j => x12 (ix2 u j)))
          (fun k => x13 (ix2 0 k)) j := by
  unfold fed normed rms ff
  simp only [← Cert.Mlp.sum_four]
  simp only [View.ld_unit]
  unfold relu2
  pointwise [k0_pay1, k0_pay23, k0_pay24, k0_pay25, k0_pay26, k0_pay27, k0_pay28]

end Cert.Kernel3Ideal.Mlp
end
-- ==== Proof.Mlp3Run.lean ====
/- The second layer's output projection and feed-forward part: the result array after the run, as a function of the arrays that the
   region finds. -/
module

public import proofs.«01_k».proof.Proof.Mlp3Body

@[expose] public section

set_option maxRecDepth 16384

noncomputable section

namespace Cert.Kernel3Ideal.Mlp

open Cert.Kernel3Ideal Cert.Kernel3Ideal.Gen Idealize.ShloMosaic Idealize.ShloMosaic.TcCoe Idealize.SL.Sem
open Cert.Mlp (rms relu2 ff mix silu gated)

/-- A row after the mixers: `A` and `B` are the two directions of the first scan and `P` its gate, `D`, `E` and `Q` the second's. -/
def mixRow (X : Vec Ideal S65536x1024 .f32) (A B D E : Vec Ideal S65536x512 .f32) (P Q : Vec Ideal S65536x512 .bf16) (n1 n2 : Vec Ideal S1x128 .f32)
    (W : Vec Ideal S1024x1024 .bf16) (R : Fin 65536) : Fin 1024 → EReal :=
  mix (fun k => X (ix2 R k))
    (gated (Ideal.ofBits .f32 0x3F800000#32) (Ideal.ofBits .f32 0x43000000#32) (Ideal.ofBits .f32 0x358637BD#32)
      (fun k => A (ix2 R k) + B (ix2 R k)) (fun k => P (ix2 R k)) (fun l => n1 (ix2 0 l)))
    (gated (Ideal.ofBits .f32 0x3F800000#32) (Ideal.ofBits .f32 0x43000000#32) (Ideal.ofBits .f32 0x358637BD#32)
      (fun k => D (ix2 R k) + E (ix2 R k)) (fun k => Q (ix2 R k)) (fun l => n2 (ix2 0 l)))
    (fun k j => W (ix2 ⟨k.val, by omega⟩ j)) (fun k j => W (ix2 ⟨512 + k.val, by omega⟩ j))

/-- A row through the feed-forward part and the last norm. -/
def lastRow (y : Fin 1024 → EReal) (G : Vec Ideal S1x1024 .f32) (W1 : Vec Ideal S1024x4096 .bf16) (W2 : Vec Ideal S4096x1024 .bf16) (L : Vec Ideal S1x1024 .f32) : Fin 1024 → EReal :=
  rms (Ideal.ofBits .f32 0x44800000#32) (Ideal.ofBits .f32 0x358637BD#32)
    (ff 0 y (rms (Ideal.ofBits .f32 0x44800000#32) (Ideal.ofBits .f32 0x358637BD#32) y (fun k => G (ix2 0 k))) (fun k u => W1 (ix2 k u)) (fun u j => W2 (ix2 u j)))
    (fun k => L (ix2 0 k))

/-- The result array: each row through both parts. -/
def whole (X : Vec Ideal S65536x1024 .f32) (A B D E : Vec Ideal S65536x512 .f32) (P Q : Vec Ideal S65536x512 .bf16) (n1 n2 : Vec Ideal S1x128 .f32)
    (W : Vec Ideal S1024x1024 .bf16) (G : Vec Ideal S1x1024 .f32) (W1 : Vec Ideal S1024x4096 .bf16) (W2 : Vec Ideal S4096x1024 .bf16) (L : Vec Ideal S1x1024 .f32) :
    Vec Ideal S65536x1024 .f32 :=
  fun y => lastRow (mixRow X A B D E P Q n1 n2 W (y 0)) G W1 W2 L (y 1)

variable (m : (ℓ : Loc nD τ sig) → Buf (Elt Ideal) ℓ) (ρ : Dev nD → PrngReg)

/-! ## Where the blocks lie -/

/-- The block of grid point `t` is the `t`-th of the rows, and has all the columns. -/
theorem at0 (t : Fin cfg0.N) : win0_0.index t 0 = t.val ∧ win0_0.index t 1 = 0 :=
  (by decide +kernel : ∀ t : Fin grid0.N, win0_0.index t 0 = t.val ∧ win0_0.index t 1 = 0) t

theorem lt_128 (t : Fin cfg0.N) : t.val < 128 := lt_of_lt_of_eq t.isLt N_0

/-- The row of the arrays that row `r` of block `t` is. -/
abbrev rowOf (t : Fin cfg0.N) (r : Fin 512) : Fin 65536 := ⟨512 * t.val + r.val, by have := lt_128 t; omega⟩

theorem row_pos (t : Fin cfg0.N) (r : Fin 512) : win0_0.index t 0 * 512 + 1 * r.val = (rowOf t r).val := by
  rw [(at0 t).1]; show _ = 512 * t.val + r.val; omega

theorem col_pos (t : Fin cfg0.N) {n : ℕ} (k : Fin n) : win0_0.index t 1 * n + 1 * k.val = k.val := by
  rw [(at0 t).2]; omega

theorem all_pos {n : ℕ} (k : Fin n) : 0 * n + 1 * k.val = k.val := by omega

/-- An index is given by its two coordinates. -/
theorem idx_eq {a b : ℕ} (e : (⟨2, ![a, b]⟩ : Shape).Idx) (q : Fin a) (k : Fin b) (h0 : (e 0).val = q.val) (h1 : (e 1).val = k.val) : e = ix2 q k := by
  funext i
  match i with
  | ⟨0, _⟩ => exact Fin.ext h0
  | ⟨1, _⟩ => exact Fin.ext h1

/-- Two blocks equal at every index are equal. -/
theorem block_ext {α : Type} {a b : ℕ} (x y : (⟨2, ![a, b]⟩ : Shape).Idx → α) (h : ∀ (r : Fin a) (j : Fin b), x (ix2 r j) = y (ix2 r j)) : x = y := by
  funext z
  rw [idx_eq z (z 0) (z 1) rfl rfl]
  exact h _ _

theorem blk0_at (c : Dev nD) (t : Fin cfg0.N) (r : Fin 512) (k : Fin 1024) : iblk m c 0 t (ix2 r k) = (V m c main_v10 : Vec Ideal S65536x1024 .f32) (ix2 (rowOf t r) k) := by
  unfold iblk
  rw [View.read_apply]
  exact congrArg (V m c main_v10 : Vec Ideal S65536x1024 .f32) (idx_eq _ _ _ (row_pos t r) (col_pos t k))

theorem blk1_at (c : Dev nD) (t : Fin cfg0.N) (r k : Fin 512) : iblk m c 1 t (ix2 r k) = (V m c main_v0 : Vec Ideal S65536x512 .f32) (ix2 (rowOf t r) k) := by
  unfold iblk
  rw [View.read_apply]
  exact congrArg (V m c main_v0 : Vec Ideal S65536x512 .f32) (idx_eq _ _ _ (row_pos t r) (col_pos t k))

theorem blk2_at (c : Dev nD) (t : Fin cfg0.N) (r k : Fin 512) : iblk m c 2 t (ix2 r k) = (V m c main_v1 : Vec Ideal S65536x512 .f32) (ix2 (rowOf t r) k) := by
  unfold iblk
  rw [View.read_apply]
  exact congrArg (V m c main_v1 : Vec Ideal S65536x512 .f32) (idx_eq _ _ _ (row_pos t r) (col_pos t k))

theorem blk3_at (c : Dev nD) (t : Fin cfg0.N) (r k : Fin 512) : iblk m c 3 t (ix2 r k) = (V m c main_v2 : Vec Ideal S65536x512 .f32) (ix2 (rowOf t r) k) := by
  unfold iblk
  rw [View.read_apply]
  exact congrArg (V m c main_v2 : Vec Ideal S65536x512 .f32) (idx_eq _ _ _ (row_pos t r) (col_pos t k))

theorem blk4_at (c : Dev nD) (t : Fin cfg0.N) (r k : Fin 512) : iblk m c 4 t (ix2 r k) = (V m c main_v3 : Vec Ideal S65536x512 .f32) (ix2 (rowOf t r) k) := by
  unfold iblk
  rw [View.read_apply]
  exact congrArg (V m c main_v3 : Vec Ideal S65536x512 .f32) (idx_eq _ _ _ (row_pos t r) (col_pos t k))

theorem blk5_at (c : Dev nD) (t : Fin cfg0.N) (r k : Fin 512) : iblk m c 5 t (ix2 r k) = (V m c main_v5 : Vec Ideal S65536x512 .bf16) (ix2 (rowOf t r) k) := by
  unfold iblk
  rw [View.read_apply]
  exact congrArg (V m c main_v5 : Vec Ideal S65536x512 .bf16) (idx_eq _ _ _ (row_pos t r) (col_pos t k))

theorem blk6_at (c : Dev nD) (t : Fin cfg0.N) (r k : Fin 512) : iblk m c 6 t (ix2 r k) = (V m c main_v7 : Vec Ideal S65536x512 .bf16) (ix2 (rowOf t r) k) := by
  unfold iblk
  rw [View.read_apply]
  exact congrArg (V m c main_v7 : Vec Ideal S65536x512 .bf16) (idx_eq _ _ _ (row_pos t r) (col_pos t k))

/-! The weights and the gains are staged whole. -/

theorem blk7 (c : Dev nD) (t : Fin cfg0.N) : iblk m c 7 t = (V m c main_v8 : Vec Ideal S1x128 .f32) :=
  block_ext _ _ fun r k => by
    unfold iblk
    rw [View.read_apply]
    exact congrArg (V m c main_v8 : Vec Ideal S1x128 .f32) (idx_eq _ _ _ (all_pos r) (all_pos k))

theorem blk8 (c : Dev nD) (t : Fin cfg0.N) : iblk m c 8 t = (V m c main_v9 : Vec Ideal S1x128 .f32) :=
  block_ext _ _ fun r k => by
    unfold iblk
    rw [View.read_apply]
    exact congrArg (V m c main_v9 : Vec Ideal S1x128 .f32) (idx_eq _ _ _ (all_pos r) (all_pos k))

theorem blk9 (c : Dev nD) (t : Fin cfg0.N) : iblk m c 9 t = (V m c main_v11 : Vec Ideal S1024x1024 .bf16) :=
  block_ext _ _ fun r k => by
    unfold iblk
    rw [View.read_apply]
    exact congrArg (V m c main_v11 : Vec Ideal S1024x1024 .bf16) (idx_eq _ _ _ (all_pos r) (all_pos k))

theorem blk10 (c : Dev nD) (t : Fin cfg0.N) : iblk m c 10 t = (V m c main_v14 : Vec Ideal S1x1024 .f32) :=
  block_ext _ _ fun r k => by
    unfold iblk
    rw [View.read_apply]
    exact congrArg (V m c main_v14 : Vec Ideal S1x1024 .f32) (idx_eq _ _ _ (all_pos r) (all_pos k))

theorem blk11 (c : Dev nD) (t : Fin cfg0.N) : iblk m c 11 t = (V m c main_v12 : Vec Ideal S1024x4096 .bf16) :=
  block_ext _ _ fun r k => by
    unfold iblk
    rw [View.read_apply]
    exact congrArg (V m c main_v12 : Vec Ideal S1024x4096 .bf16) (idx_eq _ _ _ (all_pos r) (all_pos k))

theorem blk12 (c : Dev nD) (t : Fin cfg0.N) : iblk m c 12 t = (V m c main_v13 : Vec Ideal S4096x1024 .bf16) :=
  block_ext _ _ fun r k => by
    unfold iblk
    rw [View.read_apply]
    exact congrArg (V m c main_v13 : Vec Ideal S4096x1024 .bf16) (idx_eq _ _ _ (all_pos r) (all_pos k))

theorem blk13 (c : Dev nD) (t : Fin cfg0.N) : iblk m c 13 t = (V m c main_v15 : Vec Ideal S1x1024 .f32) :=
  block_ext _ _ fun r k => by
    unfold iblk
    rw [View.read_apply]
    exact congrArg (V m c main_v15 : Vec Ideal S1x1024 .f32) (idx_eq _ _ _ (all_pos r) (all_pos k))

/-- A block of the result array, at an index. -/
theorem oblk_at (X : Vec Ideal S65536x1024 .f32) (t : Fin cfg0.N) (r : Fin 512) (j : Fin 1024) :
    ((cfg0.win 14).blk t).view.read (Elt Ideal) X (ix2 r j) = X (ix2 (rowOf t r) j) := by
  rw [View.read_apply]
  exact congrArg X (idx_eq _ _ _ (row_pos t r) (col_pos t j))

/-! ## The result array -/

/-- The result array, of the arrays as the region finds them. -/
def result (c : Dev nD) : Vec Ideal S65536x1024 .f32 :=
  whole (V m c main_v10) (V m c main_v0) (V m c main_v1) (V m c main_v2) (V m c main_v3) (V m c main_v5) (V m c main_v7) (V m c main_v8) (V m c main_v9)
    (V m c main_v11) (V m c main_v14) (V m c main_v12) (V m c main_v13) (V m c main_v15)

theorem outBlock_eq (c : Dev nD) (t : Fin cfg0.N) :
    fed (secondMixed (firstMixed (iblk m c 0 t) (iblk m c 1 t) (iblk m c 2 t) (iblk m c 5 t) (iblk m c 7 t) (iblk m c 9 t)) (iblk m c 3 t) (iblk m c 4 t) (iblk m c 6 t)
        (iblk m c 8 t) (iblk m c 9 t)) (iblk m c 10 t) (iblk m c 11 t) (iblk m c 12 t) (iblk m c 13 t)
      = ((cfg0.win 14).blk t).view.read (Elt Ideal) (result m c) := by
  refine block_ext (a := 512) (b := 1024) _ _ fun r j => ?_
  refine Eq.trans ?_ (oblk_at (result m c) t r j).symm
  have hrow : (fun k => secondMixed (firstMixed (iblk m c 0 t) (iblk m c 1 t) (iblk m c 2 t) (iblk m c 5 t) (iblk m c 7 t) (iblk m c 9 t)) (iblk m c 3 t) (iblk m c 4 t)
        (iblk m c 6 t) (iblk m c 8 t) (iblk m c 9 t) (ix2 r k))
      = mixRow (V m c main_v10) (V m c main_v0) (V m c main_v1) (V m c main_v2) (V m c main_v3) (V m c main_v5) (V m c main_v7) (V m c main_v8) (V m c main_v9)
          (V m c main_v11) (rowOf t r) := by
    funext k
    rw [mixed_at, blk7, blk8, blk9]
    unfold mixRow
    simp only [blk0_at, blk1_at, blk2_at, blk3_at, blk4_at, blk5_at, blk6_at]
  rw [fed_at, hrow, blk10, blk11, blk12, blk13]
  rfl

theorem flushed_eq (c : Dev nD) (t : Fin cfg0.N) (hf : (cfg0.win 14).flush t = true) :
    (dats m 0 c).flushed 14 t = ((cfg0.win 14).blk t).view.read (Elt Ideal) (result m c) := by
  rw [Value.flushed14_A, out_eq, outBlock_eq]

/-- Every entry of the result array is in the block of its row, which is written out. -/
theorem final_out (c : Dev nD) : (dats m 0 c).arrAt 14 cfg0.N = result m c :=
  (dats m 0 c).arrAt_eq_of_cover 14 (result m c) (flushed_eq m c) fun i => by
    have h0 : (i 0 : Nat) < 65536 := (i 0).isLt
    have h1 : (i 1 : Nat) < 1024 := (i 1).isLt
    have hN : cfg0.N = 128 := N_0
    let t : Fin cfg0.N := ⟨(i 0 : Nat) / 512, by rw [hN]; omega⟩
    refine ⟨t, flush0_14 t, ?_⟩
    show i ∈ ((View.whole main_v16).slice (win0_14.rect t)).set
    rw [View.set_slice_whole, Rect.mem_set_unit]
    intro a
    match a with
    | ⟨0, _⟩ =>
      show win0_0.index t 0 * 512 ≤ (i 0 : Nat) ∧ (i 0 : Nat) < win0_0.index t 0 * 512 + 512
      rw [(at0 t).1]
      show (i 0 : Nat) / 512 * 512 ≤ (i 0 : Nat) ∧ (i 0 : Nat) < (i 0 : Nat) / 512 * 512 + 512
      omega
    | ⟨1, _⟩ =>
      show win0_0.index t 1 * 1024 ≤ (i 1 : Nat) ∧ (i 1 : Nat) < win0_0.index t 1 * 1024 + 1024
      rw [(at0 t).2]; omega

end Cert.Kernel3Ideal.Mlp
end
-- ==== Proof.Mlp3Claim.lean ====
/- The value claim of the second layer's output projection and feed-forward part: the kernel's result array is the reference's. -/
module

public import proofs.«01_k».proof.Proof.Mlp3Run
public import proofs.«01_k».proof.Proof.Mlp3RefRun
public import proofs.«01_k».proof.Defs

@[expose] public section

set_option maxRecDepth 16384

noncomputable section

namespace Cert.Kernel3Ideal.Mlp

open Cert.Kernel3Ideal Cert.Kernel3Ideal.Gen Idealize.ShloMosaic Idealize.ShloMosaic.TcCoe Idealize.SL.Sem
open Cert.Mlp (rms relu2 ff mix silu gated)

section
variable (m : (ℓ : Loc nD τ sig) → Buf (Elt Ideal) ℓ) (c : Dev nD)

/-! ## What the host leaves in the arrays that the region reads -/

set_option maxHeartbeats 8000000 in
/-- The arrays of the region: the arguments, reshaped or rounded. -/
theorem V_eq :
    V m c main_v10 = (shapeCast S65536x1024 (m ((c.tc : Thread nD τ).loc main_arg0) : FVec Ideal S8x8192x1024 .f32) shapeCasts_S8x8192x1024_S65536x1024 : FVec Ideal S65536x1024 .f32)
      ∧ V m c main_v0 = (shapeCast S65536x512 (m ((c.tc : Thread nD τ).loc main_arg1) : FVec Ideal S8x8192x4x128 .f32) shapeCasts_S8x8192x4x128_S65536x512 : FVec Ideal S65536x512 .f32)
      ∧ V m c main_v1 = (shapeCast S65536x512 (m ((c.tc : Thread nD τ).loc main_arg2) : FVec Ideal S8x8192x4x128 .f32) shapeCasts_S8x8192x4x128_S65536x512 : FVec Ideal S65536x512 .f32)
      ∧ V m c main_v2 = (shapeCast S65536x512 (m ((c.tc : Thread nD τ).loc main_arg3) : FVec Ideal S8x8192x4x128 .f32) shapeCasts_S8x8192x4x128_S65536x512 : FVec Ideal S65536x512 .f32)
      ∧ V m c main_v3 = (shapeCast S65536x512 (m ((c.tc : Thread nD τ).loc main_arg4) : FVec Ideal S8x8192x4x128 .f32) shapeCasts_S8x8192x4x128_S65536x512 : FVec Ideal S65536x512 .f32)
      ∧ V m c main_v5 = (truncf .bf16 (shapeCast S65536x512 (m ((c.tc : Thread nD τ).loc main_arg5) : FVec Ideal S8x8192x512 .f32) shapeCasts_S8x8192x512_S65536x512) bitsLt_bf16_f32 : FVec Ideal S65536x512 .bf16)
      ∧ V m c main_v7 = (truncf .bf16 (shapeCast S65536x512 (m ((c.tc : Thread nD τ).loc main_arg6) : FVec Ideal S8x8192x512 .f32) shapeCasts_S8x8192x512_S65536x512) bitsLt_bf16_f32 : FVec Ideal S65536x512 .bf16)
      ∧ V m c main_v8 = (shapeCast S1x128 (m ((c.tc : Thread nD τ).loc main_arg7) : FVec Ideal S128 .f32) shapeCasts_S128_S1x128 : FVec Ideal S1x128 .f32)
      ∧ V m c main_v9 = (shapeCast S1x128 (m ((c.tc : Thread nD τ).loc main_arg8) : FVec Ideal S128 .f32) shapeCasts_S128_S1x128 : FVec Ideal S1x128 .f32)
      ∧ V m c main_v11 = (truncf .bf16 (m ((c.tc : Thread nD τ).loc main_arg9) : FVec Ideal S1024x1024 .f32) bitsLt_bf16_f32 : FVec Ideal S1024x1024 .bf16)
      ∧ V m c main_v14 = (shapeCast S1x1024 (m ((c.tc : Thread nD τ).loc main_arg10) : FVec Ideal S1024 .f32) shapeCasts_S1024_S1x1024 : FVec Ideal S1x1024 .f32)
      ∧ V m c main_v12 = (truncf .bf16 (m ((c.tc : Thread nD τ).loc main_arg11) : FVec Ideal S1024x4096 .f32) bitsLt_bf16_f32 : FVec Ideal S1024x4096 .bf16)
      ∧ V m c main_v13 = (truncf .bf16 (m ((c.tc : Thread nD τ).loc main_arg12) : FVec Ideal S4096x1024 .f32) bitsLt_bf16_f32 : FVec Ideal S4096x1024 .bf16)
      ∧ V m c main_v15 = (shapeCast S1x1024 (m ((c.tc : Thread nD τ).loc main_arg13) : FVec Ideal S1024 .f32) shapeCasts_S1024_S1x1024 : FVec Ideal S1x1024 .f32) := by
  refine ⟨?_, ?_, ?_, ?_, ?_, ?_, ?_, ?_, ?_, ?_, ?_, ?_, ?_, ?_⟩ <;> (unfold V; after_results_simp) <;> rfl
end

/-! ## The two results -/

section
variable (x : FVec Ideal S8x8192x1024 .f32) (a b d e : FVec Ideal S8x8192x4x128 .f32) (p q : FVec Ideal S8x8192x512 .f32) (n1 n2 : FVec Ideal S128 .f32)
  (w : FVec Ideal S1024x1024 .f32) (g : FVec Ideal S1024 .f32) (w1 : FVec Ideal S1024x4096 .f32) (w2 : FVec Ideal S4096x1024 .f32) (l : FVec Ideal S1024 .f32)

/-- The sum of a scan's two directions, at entry `k` of row `R`. -/
theorem sum_at (R : Fin 65536) :
    (fun k : Fin 512 => (shapeCast S65536x512 a shapeCasts_S8x8192x4x128_S65536x512 : FVec Ideal S65536x512 .f32) (ix2 R k)
        + (shapeCast S65536x512 b shapeCasts_S8x8192x4x128_S65536x512 : FVec Ideal S65536x512 .f32) (ix2 R k))
      = fun k : Fin 512 => a (ix4 ⟨R.val / 8192, by omega⟩ ⟨R.val % 8192, by omega⟩ ⟨k.val / 128, by omega⟩ ⟨k.val % 128, by omega⟩)
        + b (ix4 ⟨R.val / 8192, by omega⟩ ⟨R.val % 8192, by omega⟩ ⟨k.val / 128, by omega⟩ ⟨k.val % 128, by omega⟩) := by
  funext k
  pointwise

/-- The gate's argument at entry `k` of row `R`. -/
theorem gate_at (R : Fin 65536) :
    (fun k : Fin 512 => (truncf .bf16 (shapeCast S65536x512 p shapeCasts_S8x8192x512_S65536x512) bitsLt_bf16_f32 : FVec Ideal S65536x512 .bf16) (ix2 R k))
      = fun k : Fin 512 => p (ix3 ⟨R.val / 8192, by omega⟩ ⟨R.val % 8192, by omega⟩ k) := by
  funext k
  pointwise

/-- The gain of a head's lanes. -/
theorem gain_at :
    (fun l : Fin 128 => (shapeCast S1x128 n1 shapeCasts_S128_S1x128 : FVec Ideal S1x128 .f32) (ix2 0 l)) = fun l : Fin 128 => n1 (ix1 l) := by
  funext l
  pointwise

/-- The residual row. -/
theorem stream_at (R : Fin 65536) :
    (fun k : Fin 1024 => (shapeCast S65536x1024 x shapeCasts_S8x8192x1024_S65536x1024 : FVec Ideal S65536x1024 .f32) (ix2 R k))
      = fun k : Fin 1024 => x (ix3 ⟨R.val / 8192, by omega⟩ ⟨R.val % 8192, by omega⟩ k) := by
  funext k
  pointwise

/-- The gain of a row. -/
theorem scale_at :
    (fun k : Fin 1024 => (shapeCast S1x1024 g shapeCasts_S1024_S1x1024 : FVec Ideal S1x1024 .f32) (ix2 0 k)) = fun k : Fin 1024 => g (ix1 k) := by
  funext k
  pointwise

/-- The rows after the mixers are the same in both. -/
theorem mixRow_eq (R : Fin 65536) :
    mixRow (shapeCast S65536x1024 x shapeCasts_S8x8192x1024_S65536x1024) (shapeCast S65536x512 a shapeCasts_S8x8192x4x128_S65536x512) (shapeCast S65536x512 b shapeCasts_S8x8192x4x128_S65536x512) (shapeCast S65536x512 d shapeCasts_S8x8192x4x128_S65536x512) (shapeCast S65536x512 e shapeCasts_S8x8192x4x128_S65536x512)
      (truncf .bf16 (shapeCast S65536x512 p shapeCasts_S8x8192x512_S65536x512) bitsLt_bf16_f32)
      (truncf .bf16 (shapeCast S65536x512 q shapeCasts_S8x8192x512_S65536x512) bitsLt_bf16_f32)
      (shapeCast S1x128 n1 shapeCasts_S128_S1x128)
      (shapeCast S1x128 n2 shapeCasts_S128_S1x128) (truncf .bf16 w bitsLt_bf16_f32) R
      = fun k => Cert.Reference3Ideal.Mlp.mixTerm x (Cert.Reference3Ideal.Mlp.gateTerm a b p n1) (Cert.Reference3Ideal.Mlp.gateTerm d e q n2) w
          (ix3 ⟨R.val / 8192, by omega⟩ ⟨R.val % 8192, by omega⟩ k) := by
  funext j
  rw [Cert.Reference3Ideal.Mlp.mixTerm_at]
  unfold mixRow
  rw [stream_at, sum_at, sum_at, gate_at, gate_at, gain_at, gain_at]
  simp only [Cert.Reference3Ideal.Mlp.gateTerm_at]
  rfl

/-- The arrays are equal. -/
theorem arrays_eq :
    whole (shapeCast S65536x1024 x shapeCasts_S8x8192x1024_S65536x1024) (shapeCast S65536x512 a shapeCasts_S8x8192x4x128_S65536x512) (shapeCast S65536x512 b shapeCasts_S8x8192x4x128_S65536x512) (shapeCast S65536x512 d shapeCasts_S8x8192x4x128_S65536x512) (shapeCast S65536x512 e shapeCasts_S8x8192x4x128_S65536x512)
      (truncf .bf16 (shapeCast S65536x512 p shapeCasts_S8x8192x512_S65536x512) bitsLt_bf16_f32)
      (truncf .bf16 (shapeCast S65536x512 q shapeCasts_S8x8192x512_S65536x512) bitsLt_bf16_f32)
      (shapeCast S1x128 n1 shapeCasts_S128_S1x128)
      (shapeCast S1x128 n2 shapeCasts_S128_S1x128) (truncf .bf16 w bitsLt_bf16_f32)
      (shapeCast S1x1024 g shapeCasts_S1024_S1x1024) (truncf .bf16 w1 bitsLt_bf16_f32) (truncf .bf16 w2 bitsLt_bf16_f32) (shapeCast S1x1024 l shapeCasts_S1024_S1x1024)
      = Cert.Reference3Ideal.Mlp.result x (Cert.Reference3Ideal.Mlp.gateTerm a b p n1) (Cert.Reference3Ideal.Mlp.gateTerm d e q n2) w g w1 w2 l := by
  funext y
  obtain ⟨R, j, rfl⟩ : ∃ (R : Fin 65536) (j : Fin 1024), y = ix2 R j := ⟨y 0, y 1, by funext i; match i with | ⟨0, _⟩ => rfl | ⟨1, _⟩ => rfl⟩
  rw [Cert.Reference3Ideal.Mlp.result_at, Cert.Reference3Ideal.Mlp.lastTerm_at]
  show lastRow (mixRow _ _ _ _ _ _ _ _ _ _ R) _ _ _ _ j = _
  rw [mixRow_eq]
  unfold lastRow
  rw [scale_at, scale_at]
  rfl
end

/-- The two programs end with equal results and unchanged arguments. -/
theorem algebraic : Cert.algebraic_Kernel3Ideal_Reference3Ideal (hKernel3Ideal := Cert.Kernel3Ideal.Gen.facts) (hReference3Ideal := Cert.Reference3Ideal.Gen.facts) := by
  intro m g m' g' hpre hargs
  refine ⟨result m, (θ_run defs _ _).mono (fun r h c => ⟨(h c).1.trans (final_out m c), (h c).2⟩) (Value.run_blocks m g), ?_⟩
  refine (θ_run Cert.Reference3Ideal.defs _ _).mono (fun r h c => ⟨(h c).1.trans ?_, (h c).2⟩) (Cert.Reference3Ideal.Mlp.run m' g')
  obtain ⟨a0, a1, a2, a3, a4, a5, a6, a7, a8, a9, a10, a11, a12, a13⟩ := hargs c
  rw [a0, a1, a2, a3, a4, a5, a6, a7, a8, a9, a10, a11, a12, a13]
  unfold result
  obtain ⟨vx, va, vb, vd, ve, vp, vq, vn1, vn2, vw, vg, vw1, vw2, vl⟩ := V_eq m c
  rw [vx, va, vb, vd, ve, vp, vq, vn1, vn2, vw, vg, vw1, vw2, vl]
  exact (arrays_eq _ _ _ _ _ _ _ _ _ _ _ _ _ _).symm

end Cert.Kernel3Ideal.Mlp
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Frames
public import proofs.«01_k».proof.Proof.FlashClaim
public import proofs.«01_k».proof.Proof.MlpFrames
public import proofs.«01_k».proof.Proof.Mlp2Claim
public import proofs.«01_k».proof.Proof.Mlp3Claim

@[expose] public section

theorem Cert.Proof.claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Mla.pre_facts, Cert.Flash.frame_kernel, Cert.Flash.frame_ideal,
    fun m g _ => Cert.Flash.frame_ideal m g trivial, Cert.Flash.frame_reference, fun m g _ => Cert.Flash.frame_reference m g trivial,
    Cert.Mlp.frame_kernel2, Cert.Mlp.frame_ideal2, Cert.Mlp.frame_reference2, Cert.Mlp.frame_kernel3, Cert.Mlp.frame_ideal3, Cert.Mlp.frame_reference3,
    Cert.Flash.preserves, Cert.Mla.algebraic, trivial, Cert.Kernel2Ideal.Mlp.algebraic, trivial, Cert.Kernel3Ideal.Mlp.algebraic⟩
